-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Experts [hPre_te_ok : Cert.Pre_te_ok.Facts] (m : (ℓ : Loc Cert.Experts.nD Cert.Experts.τ Cert.Experts.sig) → Buf (Elt Bits) ℓ) : Prop :=
  ∀ c : Dev Cert.Experts.nD,
    (Cert.Pre_te_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).1 = (fun _ => 1#1)
    ∧ (Cert.Pre_te_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2 = (fun _ => 1#1)

def Pre_ExpertsIdeal [hPre_te_ok : Cert.Pre_te_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_te_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_te_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2 = (fun _ => 1#1)

def Pre_ExpertsIdeal_tables_ok [hPre_tables_ok : Cert.Pre_tables_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_tables_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.1 = (fun _ => 1#1)
    ∧ (Cert.Pre_tables_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables_ok [hPre_tables_ok : Cert.Pre_tables_ok.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_ok.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))).1 = (fun _ => 1#1)
    ∧ (Cert.Pre_tables_ok.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))).2.1 = (fun _ => 1#1)
    ∧ (Cert.Pre_tables_ok.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))).2.2 = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_te_ok : Cert.Pre_te_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_te_ok : Cert.Pre_te_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsIdeal_pre_tables_ok [hExpertsIdeal : Cert.ExpertsIdeal.Facts] [hPre_tables_ok : Cert.Pre_tables_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_tables_ok m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_tables_ok [hExpertsRefIdeal : Cert.ExpertsRefIdeal.Facts] [hPre_tables_ok : Cert.Pre_tables_ok.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables_ok m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3DD53B95#32 (((Real.sqrt 192)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_ExpertsRefIdeal_pre_tables_ok [hExpertsIdeal : Cert.ExpertsIdeal.Facts] [hExpertsRefIdeal : Cert.ExpertsRefIdeal.Facts] [hPre_tables_ok : Cert.Pre_tables_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_tables_ok m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v38) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v4_0)) (v1 : (c : Dev Cert.MemoryIdeal.nD) → Buf (Elt Ideal) ((c.tc : Thread Cert.MemoryIdeal.nD Cert.MemoryIdeal.τ).loc Cert.MemoryIdeal.main_v4_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4_0) = v0 c
          ∧ r.2.mem ((c.tc : Thread Cert.MemoryIdeal.nD Cert.MemoryIdeal.τ).loc Cert.MemoryIdeal.main_v4_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v14) = v0 c
          ∧ r.2.mem ((c.tc : Thread Cert.MemoryRefIdeal.nD Cert.MemoryRefIdeal.τ).loc Cert.MemoryRefIdeal.main_v16) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v12_0)) (v1 : (c : Dev Cert.InProjIdeal.nD) → Buf (Elt Ideal) ((c.tc : Thread Cert.InProjIdeal.nD Cert.InProjIdeal.τ).loc Cert.InProjIdeal.main_v12_1)) (v2 : (c : Dev Cert.InProjIdeal.nD) → Buf (Elt Ideal) ((c.tc : Thread Cert.InProjIdeal.nD Cert.InProjIdeal.τ).loc Cert.InProjIdeal.main_v12_2)) (v3 : (c : Dev Cert.InProjIdeal.nD) → Buf (Elt Ideal) ((c.tc : Thread Cert.InProjIdeal.nD Cert.InProjIdeal.τ).loc Cert.InProjIdeal.main_v12_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v12_0) = v0 c
          ∧ r.2.mem ((c.tc : Thread Cert.InProjIdeal.nD Cert.InProjIdeal.τ).loc Cert.InProjIdeal.main_v12_1) = v1 c
          ∧ r.2.mem ((c.tc : Thread Cert.InProjIdeal.nD Cert.InProjIdeal.τ).loc Cert.InProjIdeal.main_v12_2) = v2 c
          ∧ r.2.mem ((c.tc : Thread Cert.InProjIdeal.nD Cert.InProjIdeal.τ).loc Cert.InProjIdeal.main_v12_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_v19) = v2 c
          ∧ r.2.mem ((c.tc : Thread Cert.InProjRefIdeal.nD Cert.InProjRefIdeal.τ).loc Cert.InProjRefIdeal.main_v20) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hMemory : Cert.Memory.Facts) (hMemoryIdeal : Cert.MemoryIdeal.Facts) (hMemoryRefIdeal : Cert.MemoryRefIdeal.Facts) (hInProj : Cert.InProj.Facts) (hInProjIdeal : Cert.InProjIdeal.Facts) (hInProjRefIdeal : Cert.InProjRefIdeal.Facts) (hPre_finite_qk : Cert.Pre_finite_qk.Facts) (hPre_te_ok : Cert.Pre_te_ok.Facts) (hPre_tables_ok : Cert.Pre_tables_ok.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Experts (hExperts := hExperts) (hPre_te_ok := hPre_te_ok)
    ∧ quiescent_ExpertsIdeal (hExpertsIdeal := hExpertsIdeal) (hPre_te_ok := hPre_te_ok)
    ∧ quiescent_ExpertsIdeal_pre_tables_ok (hExpertsIdeal := hExpertsIdeal) (hPre_tables_ok := hPre_tables_ok)
    ∧ quiescent_ExpertsRefIdeal (hExpertsRefIdeal := hExpertsRefIdeal)
    ∧ quiescent_ExpertsRefIdeal_pre_tables_ok (hExpertsRefIdeal := hExpertsRefIdeal) (hPre_tables_ok := hPre_tables_ok)
    ∧ quiescent_Memory (hMemory := hMemory)
    ∧ quiescent_MemoryIdeal (hMemoryIdeal := hMemoryIdeal)
    ∧ quiescent_MemoryRefIdeal (hMemoryRefIdeal := hMemoryRefIdeal)
    ∧ quiescent_InProj (hInProj := hInProj)
    ∧ quiescent_InProjIdeal (hInProjIdeal := hInProjIdeal)
    ∧ quiescent_InProjRefIdeal (hInProjRefIdeal := hInProjRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Experts_ExpertsIdeal
    ∧ algebraic_ExpertsIdeal_ExpertsRefIdeal_pre_tables_ok (hExpertsIdeal := hExpertsIdeal) (hExpertsRefIdeal := hExpertsRefIdeal) (hPre_tables_ok := hPre_tables_ok)
    ∧ preserves_Memory_MemoryIdeal
    ∧ algebraic_MemoryIdeal_MemoryRefIdeal (hMemoryIdeal := hMemoryIdeal) (hMemoryRefIdeal := hMemoryRefIdeal)
    ∧ preserves_InProj_InProjIdeal
    ∧ algebraic_InProjIdeal_InProjRefIdeal (hInProjIdeal := hInProjIdeal) (hInProjRefIdeal := hInProjRefIdeal)
-- ==== Pre_finite_qk.lean ====
abbrev S8x2048x1024 : Shape := ⟨3, ![8, 2048, 1024]⟩
abbrev S8x2048x512 : Shape := ⟨3, ![8, 2048, 512]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)

variable [Facts]

def fn {F : FTy → Type} [FloatOps F] (main_arg0 : FVec F S8x2048x1024 .bf16) (main_arg1 : FVec F S8x2048x1024 .bf16) (main_arg2 : FVec F S8x2048x512 .bf16) : IVec S8x2048x1024 1 × IVec S8x2048x1024 1 :=
  let main_v0 : FVec F S8x2048x1024 .f32 := (extf .f32 · bitsLt_bf16_f32) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_v4 : FVec F S8x2048x1024 .f32 := (extf .f32 · bitsLt_bf16_f32) main_arg1
  let main_v5 : FVec F S8x2048x1024 .f32 := Host.absf main_v4
  let main_cst_0 : FVec F S_ .f32 := constant S_ .f32 0x7F800000#32
  let main_v6 : FVec F S8x2048x1024 .f32 := broadcastInDim S8x2048x1024 ![] bcast_S_S8x2048x1024 main_cst_0
  let main_v7 : IVec S8x2048x1024 1 := cmpf .olt main_v5 main_v6
  (main_v3, main_v7)
-- ==== Pre_tables_ok.lean ====
abbrev S290 : Shape := ⟨1, ![290]⟩
abbrev S74240x8x128 : Shape := ⟨3, ![74240, 8, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S290 : S_.BroadcastsInDim S290 (![] : Fin 0 → Fin S290.rank)

variable [Facts]

def fn {F : FTy → Type} [FloatOps F] (main_arg0 : IVec S290 32) (main_arg1 : IVec S290 32) (main_arg2 : FVec F S74240x8x128 .f32) (main_arg3 : FVec F S32x1024x2048 .f32) (main_arg4 : FVec F S32x1x2048 .f32) (main_arg5 : FVec F S32x1024x1024 .f32) (main_arg6 : FVec F S32x1x1024 .f32) : IVec S290 1 × IVec S290 1 × IVec S290 1 :=
  let main_c : IVec S_ 32 := constantI S_ 32 0#32
  let main_v0 : IVec S290 32 := broadcastInDim S290 ![] bcast_S_S290 main_c
  let main_v1 : IVec S290 1 := cmpi .sge main_arg0 main_v0
  let main_c_0 : IVec S_ 32 := constantI S_ 32 32#32
  let main_v2 : IVec S290 32 := broadcastInDim S290 ![] bcast_S_S290 main_c_0
  let main_v3 : IVec S290 1 := cmpi .slt main_arg0 main_v2
  let main_c_1 : IVec S_ 32 := constantI S_ 32 0#32
  let main_v4 : IVec S290 32 := broadcastInDim S290 ![] bcast_S_S290 main_c_1
  let main_v5 : IVec S290 1 := cmpi .sge main_arg1 main_v4
  (main_v1, main_v3, main_v5)
-- ==== Pre_te_ok.lean ====
abbrev S290 : Shape := ⟨1, ![290]⟩
abbrev S74240x8x128 : Shape := ⟨3, ![74240, 8, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S290 : S_.BroadcastsInDim S290 (![] : Fin 0 → Fin S290.rank)

variable [Facts]

def fn {F : FTy → Type} [FloatOps F] (main_arg0 : IVec S290 32) (main_arg1 : IVec S290 32) (main_arg2 : FVec F S74240x8x128 .f32) (main_arg3 : FVec F S32x1024x2048 .f32) (main_arg4 : FVec F S32x1x2048 .f32) (main_arg5 : FVec F S32x1024x1024 .f32) (main_arg6 : FVec F S32x1x1024 .f32) : IVec S290 1 × IVec S290 1 :=
  let main_c : IVec S_ 32 := constantI S_ 32 0#32
  let main_v0 : IVec S290 32 := broadcastInDim S290 ![] bcast_S_S290 main_c
  let main_v1 : IVec S290 1 := cmpi .sge main_arg0 main_v0
  let main_c_0 : IVec S_ 32 := constantI S_ 32 32#32
  let main_v2 : IVec S290 32 := broadcastInDim S290 ![] bcast_S_S290 main_c_0
  let main_v3 : IVec S290 1 := cmpi .slt main_arg0 main_v2
  (main_v1, main_v3)
-- ==== Kernel.lean ====
abbrev S8x2048x1024 : Shape := ⟨3, ![8, 2048, 1024]⟩
abbrev S8x2048x512 : Shape := ⟨3, ![8, 2048, 512]⟩
abbrev S1x512x512 : Shape := ⟨3, ![1, 512, 512]⟩
abbrev S1x2048x512 : Shape := ⟨3, ![1, 2048, 512]⟩
abbrev S1x2048x256 : Shape := ⟨3, ![1, 2048, 256]⟩
abbrev S1x512x256 : Shape := ⟨3, ![1, 512, 256]⟩
abbrev S2x512x1 : Shape := ⟨3, ![2, 512, 1]⟩
abbrev S2x512x128 : Shape := ⟨3, ![2, 512, 128]⟩
abbrev S512x256 : Shape := ⟨2, ![512, 256]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S512x128 : Shape := ⟨2, ![512, 128]⟩

abbrev nBuf : Space → Nat
  | .hbm => 4
  | .vmem => 11
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S8x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x512x256, .bf16⟩
  | .local _ .vmem, ⟨7, _⟩ => ⟨S1x512x256, .bf16⟩
  | .local _ .vmem, ⟨8, _⟩ => ⟨S2x512x1, .f32⟩
  | .local _ .vmem, ⟨9, _⟩ => ⟨S2x512x1, .f32⟩
  | .local _ .vmem, ⟨10, _⟩ => ⟨S2x512x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

@[reducible] def k0_t1_loop (i : grid0.Coords) : Scf.Loop 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_11 : BitVec 32 := 1#32
  ⟨c0_i32, v16, c1_i32_11⟩
def k0_mult1 (i : grid0.Coords) (k0_t1 : Fin (k0_t1_loop i).trips) : BitVec 32 :=
  let c0_i32 : BitVec 32 := 0#32
  let c1_i32_11 : BitVec 32 := 1#32
  let arg10 : BitVec 32 := Scf.iv c0_i32 c1_i32_11 k0_t1
  let c512_i32_90 : BitVec 32 := 512#32
  let v137 : BitVec 32 := Scalar.muli arg10 c512_i32_90
  v137
def k0_off1 (i : grid0.Coords) (k0_t1 : Fin (k0_t1_loop i).trips) : Fin 3 → Nat :=
  let c0_94 : Index := 0#32
  let c0_i32 : BitVec 32 := 0#32
  let c1_i32_11 : BitVec 32 := 1#32
  let arg10 : BitVec 32 := Scf.iv c0_i32 c1_i32_11 k0_t1
  let c512_i32_90 : BitVec 32 := 512#32
  let v137 : BitVec 32 := Scalar.muli arg10 c512_i32_90
  let v138 : BitVec 32 := v137
  let v141 : Index := Scalar.indexCast v138
  let c0_95 : Index := 0#32
  ![0, v141.toNat, 0]
def k0_off2 (i : grid0.Coords) (k0_t1 : Fin (k0_t1_loop i).trips) : Fin 3 → Nat :=
  let c0_112 : Index := 0#32
  let c0_i32 : BitVec 32 := 0#32
  let c1_i32_11 : BitVec 32 := 1#32
  let arg10 : BitVec 32 := Scf.iv c0_i32 c1_i32_11 k0_t1
  let c512_i32_90 : BitVec 32 := 512#32
  let v137 : BitVec 32 := Scalar.muli arg10 c512_i32_90
  let v138 : BitVec 32 := v137
  let v171 : Index := Scalar.indexCast v138
  let c0_113 : Index := 0#32
  ![0, v171.toNat, 0]
def k0_off3 (i : grid0.Coords) (k0_t1 : Fin (k0_t1_loop i).trips) : Fin 3 → Nat :=
  let c0_124 : Index := 0#32
  let c0_i32 : BitVec 32 := 0#32
  let c1_i32_11 : BitVec 32 := 1#32
  let arg10 : BitVec 32 := Scf.iv c0_i32 c1_i32_11 k0_t1
  let c512_i32_90 : BitVec 32 := 512#32
  let v137 : BitVec 32 := Scalar.muli arg10 c512_i32_90
  let v138 : BitVec 32 := v137
  let v184 : Index := Scalar.indexCast v138
  let c256_125 : Index := 256#32
  ![0, v184.toNat, 256]
def k0_off4 (i : grid0.Coords) (k0_t1 : Fin (k0_t1_loop i).trips) : Fin 3 → Nat :=
  let c0_142 : Index := 0#32
  let c0_i32 : BitVec 32 := 0#32
  let c1_i32_11 : BitVec 32 := 1#32
  let arg10 : BitVec 32 := Scf.iv c0_i32 c1_i32_11 k0_t1
  let c512_i32_90 : BitVec 32 := 512#32
  let v137 : BitVec 32 := Scalar.muli arg10 c512_i32_90
  let v138 : BitVec 32 := v137
  let v214 : Index := Scalar.indexCast v138
  let c128_143 : Index := 128#32
  ![0, v214.toNat, 128]
@[reducible] def k0_t2_loop (i : grid0.Coords) : Scf.Loop 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let v13 : BitVec 32 := Scalar.addi c0_i32 v12
  let c1_i32_12 : BitVec 32 := 1#32
  ⟨v16, v13, c1_i32_12⟩
def k0_mult2 (i : grid0.Coords) (k0_t2 : Fin (k0_t2_loop i).trips) : BitVec 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg10 : BitVec 32 := Scf.iv v16 c1_i32_12 k0_t2
  let c512_i32_90 : BitVec 32 := 512#32
  let v137 : BitVec 32 := Scalar.muli arg10 c512_i32_90
  v137
def k0_off5 (i : grid0.Coords) (k0_t2 : Fin (k0_t2_loop i).trips) : Fin 3 → Nat :=
  let c0_94 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg10 : BitVec 32 := Scf.iv v16 c1_i32_12 k0_t2
  let c512_i32_90 : BitVec 32 := 512#32
  let v137 : BitVec 32 := Scalar.muli arg10 c512_i32_90
  let v138 : BitVec 32 := v137
  let v141 : Index := Scalar.indexCast v138
  let c0_95 : Index := 0#32
  ![0, v141.toNat, 0]
def k0_off6 (i : grid0.Coords) (k0_t2 : Fin (k0_t2_loop i).trips) : Fin 3 → Nat :=
  let c0_112 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg10 : BitVec 32 := Scf.iv v16 c1_i32_12 k0_t2
  let c512_i32_90 : BitVec 32 := 512#32
  let v137 : BitVec 32 := Scalar.muli arg10 c512_i32_90
  let v138 : BitVec 32 := v137
  let v171 : Index := Scalar.indexCast v138
  let c0_113 : Index := 0#32
  ![0, v171.toNat, 0]
def k0_off7 (i : grid0.Coords) (k0_t2 : Fin (k0_t2_loop i).trips) : Fin 3 → Nat :=
  let c0_124 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg10 : BitVec 32 := Scf.iv v16 c1_i32_12 k0_t2
  let c512_i32_90 : BitVec 32 := 512#32
  let v137 : BitVec 32 := Scalar.muli arg10 c512_i32_90
  let v138 : BitVec 32 := v137
  let v184 : Index := Scalar.indexCast v138
  let c256_125 : Index := 256#32
  ![0, v184.toNat, 256]
def k0_off8 (i : grid0.Coords) (k0_t2 : Fin (k0_t2_loop i).trips) : Fin 3 → Nat :=
  let c0_142 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg10 : BitVec 32 := Scf.iv v16 c1_i32_12 k0_t2
  let c512_i32_90 : BitVec 32 := 512#32
  let v137 : BitVec 32 := Scalar.muli arg10 c512_i32_90
  let v138 : BitVec 32 := v137
  let v214 : Index := Scalar.indexCast v138
  let c128_143 : Index := 128#32
  ![0, v214.toNat, 128]
def k0_mult3 (i : grid0.Coords) : BitVec 32 :=
  let arg2 : BitVec 32 := BitVec.ofNat 32 (i 2).val
  let c512_i32 : BitVec 32 := 512#32
  let v19 : BitVec 32 := Scalar.muli arg2 c512_i32
  v19
def k0_off9 (i : grid0.Coords) : Fin 3 → Nat :=
  let c0_16 : Index := 0#32
  let arg2 : BitVec 32 := BitVec.ofNat 32 (i 2).val
  let c512_i32 : BitVec 32 := 512#32
  let v19 : BitVec 32 := Scalar.muli arg2 c512_i32
  let v20 : BitVec 32 := v19
  let v23 : Index := Scalar.indexCast v20
  let c0_17 : Index := 0#32
  ![0, v23.toNat, 0]
def k0_off10 (i : grid0.Coords) : Fin 3 → Nat :=
  let c0_35 : Index := 0#32
  let arg2 : BitVec 32 := BitVec.ofNat 32 (i 2).val
  let c512_i32 : BitVec 32 := 512#32
  let v19 : BitVec 32 := Scalar.muli arg2 c512_i32
  let v20 : BitVec 32 := v19
  let v58 : Index := Scalar.indexCast v20
  let c0_36 : Index := 0#32
  ![0, v58.toNat, 0]
def k0_off11 (i : grid0.Coords) : Fin 3 → Nat :=
  let c0_46 : Index := 0#32
  let arg2 : BitVec 32 := BitVec.ofNat 32 (i 2).val
  let c512_i32 : BitVec 32 := 512#32
  let v19 : BitVec 32 := Scalar.muli arg2 c512_i32
  let v20 : BitVec 32 := v19
  let v71 : Index := Scalar.indexCast v20
  let c256_47 : Index := 256#32
  ![0, v71.toNat, 256]
def k0_off12 (i : grid0.Coords) : Fin 3 → Nat :=
  let c0_64 : Index := 0#32
  let arg2 : BitVec 32 := BitVec.ofNat 32 (i 2).val
  let c512_i32 : BitVec 32 := 512#32
  let v19 : BitVec 32 := Scalar.muli arg2 c512_i32
  let v20 : BitVec 32 := v19
  let v106 : Index := Scalar.indexCast v20
  let c128 : Index := 128#32
  ![0, v106.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "scale_log2e" => some (((Real.sqrt 192)⁻¹ * (Real.log 2)⁻¹ : ℝ) : EReal)
  | _ => none
-- ==== ReferenceIdeal.lean ====
abbrev S8x2048x1024 : Shape := ⟨3, ![8, 2048, 1024]⟩
abbrev S8x2048x512 : Shape := ⟨3, ![8, 2048, 512]⟩
abbrev S8x2048x4x256 : Shape := ⟨4, ![8, 2048, 4, 256]⟩
abbrev S8x2048x4x128 : Shape := ⟨4, ![8, 2048, 4, 128]⟩
abbrev S8x4x2048x2048 : Shape := ⟨4, ![8, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S8x2048x1024, .f32⟩
  | .hbm, ⟨4, _⟩ => ⟨S8x2048x4x256, .f32⟩
  | .hbm, ⟨5, _⟩ => ⟨S8x2048x1024, .f32⟩
  | .hbm, ⟨6, _⟩ => ⟨S8x2048x4x256, .f32⟩
  | .hbm, ⟨7, _⟩ => ⟨S8x2048x512, .f32⟩
  | .hbm, ⟨8, _⟩ => ⟨S8x2048x4x128, .f32⟩
  | .hbm, ⟨9, _⟩ => ⟨S8x4x2048x2048, .f32⟩
  | .hbm, ⟨10, _⟩ => ⟨S_, .f32⟩
  | .hbm, ⟨11, _⟩ => ⟨S_, .f32⟩
  | .hbm, ⟨12, _⟩ => ⟨S8x4x2048x2048, .f32⟩
  | .hbm, ⟨13, _⟩ => ⟨S8x4x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S8x4x2048x2048, .i1⟩
  | .hbm, ⟨23, _⟩ => ⟨S8x4x2048x2048, .f32⟩
  | .hbm, ⟨24, _⟩ => ⟨S8x4x2048x2048, .f32⟩
  | .hbm, ⟨25, _⟩ => ⟨S_, .f32⟩
  | .hbm, ⟨26, _⟩ => ⟨S8x4x2048, .f32⟩
  | .hbm, ⟨27, _⟩ => ⟨S_, .f32⟩
  | .hbm, ⟨28, _⟩ => ⟨S8x4x2048, .f32⟩
  | .hbm, ⟨29, _⟩ => ⟨S8x4x2048, .f32⟩
  | .hbm, ⟨30, _⟩ => ⟨S8x4x2048x1, .f32⟩
  | .hbm, ⟨31, _⟩ => ⟨S8x4x2048x2048, .f32⟩
  | .hbm, ⟨32, _⟩ => ⟨S8x4x2048x2048, .f32⟩
  | .hbm, ⟨33, _⟩ => ⟨S8x4x2048x2048, .f32⟩
  | .hbm, ⟨34, _⟩ => ⟨S_, .f32⟩
  | .hbm, ⟨35, _⟩ => ⟨S8x4x2048, .f32⟩
  | .hbm, ⟨36, _⟩ => ⟨S8x4x2048x1, .f32⟩
  | .hbm, ⟨37, _⟩ => ⟨S8x4x2048x2048, .f32⟩
  | .hbm, ⟨38, _⟩ => ⟨S8x4x2048x2048, .f32⟩
  | .hbm, ⟨39, _⟩ => ⟨S8x4x128x2048, .f32⟩
  | .hbm, ⟨40, _⟩ => ⟨S8x2048x4x128, .f32⟩
  | .hbm, ⟨41, _⟩ => ⟨S8x2048x512, .f32⟩
  | .hbm, ⟨42, _⟩ => ⟨S8x2048x512, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Experts.lean ====
abbrev S290 : Shape := ⟨1, ![290]⟩
abbrev S74240x8x128 : Shape := ⟨3, ![74240, 8, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x8x128 : Shape := ⟨3, ![256, 8, 128]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S8x1024x128 : Shape := ⟨3, ![8, 1024, 128]⟩
abbrev S1024x1024 : Shape := ⟨2, ![1024, 1024]⟩
abbrev S256x1024 : Shape := ⟨2, ![256, 1024]⟩
abbrev S1x64x128 : Shape := ⟨3, ![1, 64, 128]⟩
abbrev S64x128 : Shape := ⟨2, ![64, 128]⟩
abbrev S1x1024x128 : Shape := ⟨3, ![1, 1024, 128]⟩
abbrev S1024x128 : Shape := ⟨2, ![1024, 128]⟩
abbrev S256x128 : Shape := ⟨2, ![256, 128]⟩
abbrev S1024x512 : Shape := ⟨2, ![1024, 512]⟩
abbrev S256x512 : Shape := ⟨2, ![256, 512]⟩
abbrev S1x1x512 : Shape := ⟨3, ![1, 1, 512]⟩
abbrev S1x512 : Shape := ⟨2, ![1, 512]⟩
abbrev S256x256 : Shape := ⟨2, ![256, 256]⟩
abbrev S1x1024 : Shape := ⟨2, ![1, 1024]⟩

abbrev nBuf : Space → Nat
  | .hbm => 6
  | .vmem => 16
  | .smem => 2
  | _ => 0

abbrev bufTy : (tb : Table) → Fin (tcTables nBuf tb) → BufTy
  | .hbm, ⟨0, _⟩ => ⟨S74240x8x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S74240x8x128, .f32⟩
  | .local _ .vmem, ⟨0, _⟩ => ⟨S256x8x128, .f32⟩
  | .local _ .vmem, ⟨1, _⟩ => ⟨S256x8x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x8x128, .f32⟩
  | .local _ .vmem, ⟨11, _⟩ => ⟨S256x8x128, .f32⟩
  | .local _ .vmem, ⟨12, _⟩ => ⟨S1024x2048, .bf16⟩
  | .local _ .vmem, ⟨13, _⟩ => ⟨S8x1024x128, .f32⟩
  | .local _ .vmem, ⟨14, _⟩ => ⟨S1024x1024, .bf16⟩
  | .local _ .vmem, ⟨15, _⟩ => ⟨S256x1024, .bf16⟩
  | .local _ .smem, ⟨0, _⟩ => ⟨S290, .i32⟩
  | .local _ .smem, ⟨1, _⟩ => ⟨S290, .i32⟩
  | _, _ => ⟨S74240x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![290], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S290 : Shape := ⟨1, ![290]⟩
abbrev S74240x8x128 : Shape := ⟨3, ![74240, 8, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S74240x1024 : Shape := ⟨2, ![74240, 1024]⟩
abbrev S32x2048x74240 : Shape := ⟨3, ![32, 2048, 74240]⟩
abbrev S32x74240x2048 : Shape := ⟨3, ![32, 74240, 2048]⟩
abbrev S32x74240x1024 : Shape := ⟨3, ![32, 74240, 1024]⟩
abbrev S_ : Shape := ⟨0, ![]⟩
abbrev S32x290x256x1024 : Shape := ⟨4, ![32, 290, 256, 1024]⟩
abbrev S290x1 : Shape := ⟨2, ![290, 1]⟩
abbrev S1x32 : Shape := ⟨2, ![1, 32]⟩
abbrev S290x32 : Shape := ⟨2, ![290, 32]⟩
abbrev S32x290 : Shape := ⟨2, ![32, 290]⟩
abbrev S32x290x1x1 : Shape := ⟨4, ![32, 290, 1, 1]⟩
abbrev S290x256x1024 : Shape := ⟨3, ![290, 256, 1024]⟩

abbrev nBuf : Space → Nat
  | .hbm => 65
  | .vmem => 0
  | .smem => 0
  | _ => 0

abbrev bufTy : (tb : Table) → Fin (tcTables nBuf tb) → BufTy
  | .hbm, ⟨0, _⟩ => ⟨S290, .i32⟩
  | .hbm, ⟨1, _⟩ => ⟨S290, .i32⟩
  | .hbm, ⟨2, _⟩ => ⟨S74240x8x128, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S74240x1024, .f32⟩
  | .hbm, ⟨8, _⟩ => ⟨S32x2048x74240, .f32⟩
  | .hbm, ⟨9, _⟩ => ⟨S32x74240x2048, .f32⟩
  | .hbm, ⟨10, _⟩ => ⟨S32x74240x2048, .f32⟩
  | .hbm, ⟨11, _⟩ => ⟨S32x74240x2048, .f32⟩
  | .hbm, ⟨12, _⟩ => ⟨S32x74240x1024, .f32⟩
  | .hbm, ⟨13, _⟩ => ⟨S_, .f32⟩
  | .hbm, ⟨14, _⟩ => ⟨S32x74240x1024, .f32⟩
  | .hbm, ⟨15, _⟩ => ⟨S32x74240x1024, .f32⟩
  | .hbm, ⟨16, _⟩ => ⟨S32x74240x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x74240x1024, .f32⟩
  | .hbm, ⟨21, _⟩ => ⟨S32x74240x1024, .f32⟩
  | .hbm, ⟨22, _⟩ => ⟨S_, .f32⟩
  | .hbm, ⟨23, _⟩ => ⟨S32x74240x1024, .f32⟩
  | .hbm, ⟨24, _⟩ => ⟨S32x74240x1024, .f32⟩
  | .hbm, ⟨25, _⟩ => ⟨S_, .f32⟩
  | .hbm, ⟨26, _⟩ => ⟨S32x74240x1024, .f32⟩
  | .hbm, ⟨27, _⟩ => ⟨S32x74240x1024, .f32⟩
  | .hbm, ⟨28, _⟩ => ⟨S_, .f32⟩
  | .hbm, ⟨29, _⟩ => ⟨S32x74240x1024, .f32⟩
  | .hbm, ⟨30, _⟩ => ⟨S32x74240x1024, .f32⟩
  | .hbm, ⟨31, _⟩ => ⟨S32x74240x1024, .f32⟩
  | .hbm, ⟨32, _⟩ => ⟨S32x74240x1024, .f32⟩
  | .hbm, ⟨33, _⟩ => ⟨S_, .f32⟩
  | .hbm, ⟨34, _⟩ => ⟨S32x74240x1024, .f32⟩
  | .hbm, ⟨35, _⟩ => ⟨S32x74240x1024, .f32⟩
  | .hbm, ⟨36, _⟩ => ⟨S_, .f32⟩
  | .hbm, ⟨37, _⟩ => ⟨S32x74240x1024, .f32⟩
  | .hbm, ⟨38, _⟩ => ⟨S32x74240x1024, .f32⟩
  | .hbm, ⟨39, _⟩ => ⟨S32x74240x1024, .f32⟩
  | .hbm, ⟨40, _⟩ => ⟨S32x74240x1024, .f32⟩
  | .hbm, ⟨41, _⟩ => ⟨S32x74240x1024, .f32⟩
  | .hbm, ⟨42, _⟩ => ⟨S32x74240x1024, .f32⟩
  | .hbm, ⟨43, _⟩ => ⟨S32x74240x1024, .f32⟩
  | .hbm, ⟨44, _⟩ => ⟨S32x290x256x1024, .f32⟩
  | .hbm, ⟨45, _⟩ => ⟨S290x1, .i32⟩
  | .hbm, ⟨46, _⟩ => ⟨S1x32, .i32⟩
  | .hbm, ⟨47, _⟩ => ⟨S290x32, .i32⟩
  | .hbm, ⟨48, _⟩ => ⟨S290x32, .i32⟩
  | .hbm, ⟨49, _⟩ => ⟨S290x32, .i1⟩
  | .hbm, ⟨50, _⟩ => ⟨S290x32, .f32⟩
  | .hbm, ⟨51, _⟩ => ⟨S_, .i32⟩
  | .hbm, ⟨52, _⟩ => ⟨S290, .i32⟩
  | .hbm, ⟨53, _⟩ => ⟨S290, .i1⟩
  | .hbm, ⟨54, _⟩ => ⟨S290, .f32⟩
  | .hbm, ⟨55, _⟩ => ⟨S290x1, .f32⟩
  | .hbm, ⟨56, _⟩ => ⟨S290x32, .f32⟩
  | .hbm, ⟨57, _⟩ => ⟨S290x32, .f32⟩
  | .hbm, ⟨58, _⟩ => ⟨S32x290, .f32⟩
  | .hbm, ⟨59, _⟩ => ⟨S32x290x1x1, .f32⟩
  | .hbm, ⟨60, _⟩ => ⟨S32x290x256x1024, .f32⟩
  | .hbm, ⟨61, _⟩ => ⟨S32x290x256x1024, .f32⟩
  | .hbm, ⟨62, _⟩ => ⟨S_, .f32⟩
  | .hbm, ⟨63, _⟩ => ⟨S290x256x1024, .f32⟩
  | .hbm, ⟨64, _⟩ => ⟨S74240x8x128, .f32⟩
  | _, _ => ⟨S290, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v26 : Ref sig .tc := ⟨.hbm, 50, rfl⟩
abbrev main_c : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩

abbrev nD : Nat := 1
abbrev τ : Topo := Topo.v7x

variable {F : FTy → Type} [FloatOps F]
-- ==== Memory.lean ====
abbrev S8x256x1024 : Shape := ⟨3, ![8, 256, 1024]⟩
abbrev S1024 : Shape := ⟨1, ![1024]⟩
abbrev S1024x1024 : Shape := ⟨2, ![1024, 1024]⟩
abbrev S1024x2048 : Shape := ⟨2, ![1024, 2048]⟩
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x2048, .f32⟩
  | .hbm, ⟨5, _⟩ => ⟨S1024x2048, .bf16⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .bf16⟩
  | .hbm, ⟨11, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemoryRefIdeal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S2048x1024, .f32⟩
  | .hbm, ⟨22, _⟩ => ⟨S8x256x1024, .f32⟩
  | .hbm, ⟨23, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== InProj.lean ====
abbrev S8x2048x1024 : Shape := ⟨3, ![8, 2048, 1024]⟩
abbrev S1024 : Shape := ⟨1, ![1024]⟩
abbrev S1024x2760 : Shape := ⟨2, ![1024, 2760]⟩
abbrev S1024x1536 : Shape := ⟨2, ![1024, 1536]⟩
abbrev S1024x512 : Shape := ⟨2, ![1024, 512]⟩
abbrev S1024x4 : Shape := ⟨2, ![1024, 4]⟩
abbrev S1024x384 : Shape := ⟨2, ![1024, 384]⟩
abbrev S1024x256 : Shape := ⟨2, ![1024, 256]⟩
abbrev S1024x64 : Shape := ⟨2, ![1024, 64]⟩
abbrev S_ : Shape := ⟨0, ![]⟩
abbrev S1024x56 : Shape := ⟨2, ![1024, 56]⟩
abbrev S1024x2816 : Shape := ⟨2, ![1024, 2816]⟩
abbrev S16384x1024 : Shape := ⟨2, ![16384, 1024]⟩
abbrev S1x1024 : Shape := ⟨2, ![1, 1024]⟩
abbrev S16384x1536 : Shape := ⟨2, ![16384, 1536]⟩
abbrev S16384x512 : Shape := ⟨2, ![16384, 512]⟩
abbrev S16384x384 : Shape := ⟨2, ![16384, 384]⟩
abbrev S16384x256 : Shape := ⟨2, ![16384, 256]⟩
abbrev S16384x128 : Shape := ⟨2, ![16384, 128]⟩
abbrev S256x1024 : Shape := ⟨2, ![256, 1024]⟩
abbrev S256x1536 : Shape := ⟨2, ![256, 1536]⟩
abbrev S256x512 : Shape := ⟨2, ![256, 512]⟩
abbrev S256x384 : Shape := ⟨2, ![256, 384]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1024x128 : Shape := ⟨2, ![1024, 128]⟩

abbrev nBuf : Space → Nat
  | .hbm => 21
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2760, .f32⟩
  | .hbm, ⟨3, _⟩ => ⟨S1024x1536, .f32⟩
  | .hbm, ⟨4, _⟩ => ⟨S1024x512, .f32⟩
  | .hbm, ⟨5, _⟩ => ⟨S1024x4, .f32⟩
  | .hbm, ⟨6, _⟩ => ⟨S1024x4, .f32⟩
  | .hbm, ⟨7, _⟩ => ⟨S1024x384, .f32⟩
  | .hbm, ⟨8, _⟩ => ⟨S1024x256, .f32⟩
  | .hbm, ⟨9, _⟩ => ⟨S1024x64, .f32⟩
  | .hbm, ⟨10, _⟩ => ⟨S_, .f32⟩
  | .hbm, ⟨11, _⟩ => ⟨S1024x56, .f32⟩
  | .hbm, ⟨12, _⟩ => ⟨S1024x2816, .f32⟩
  | .hbm, ⟨13, _⟩ => ⟨S1024x2816, .bf16⟩
  | .hbm, ⟨14, _⟩ => ⟨S16384x1024, .f32⟩
  | .hbm, ⟨15, _⟩ => ⟨S1x1024, .f32⟩
  | .hbm, ⟨16, _⟩ => ⟨S16384x1536, .f32⟩
  | .hbm, ⟨17, _⟩ => ⟨S16384x512, .f32⟩
  | .hbm, ⟨18, _⟩ => ⟨S16384x384, .f32⟩
  | .hbm, ⟨19, _⟩ => ⟨S16384x256, .f32⟩
  | .hbm, ⟨20, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S1x1024, .f32⟩
  | .local _ .vmem, ⟨4, _⟩ => ⟨S256x1536, .f32⟩
  | .local _ .vmem, ⟨5, _⟩ => ⟨S256x1536, .f32⟩
  | .local _ .vmem, ⟨6, _⟩ => ⟨S256x512, .f32⟩
  | .local _ .vmem, ⟨7, _⟩ => ⟨S256x512, .f32⟩
  | .local _ .vmem, ⟨8, _⟩ => ⟨S256x384, .f32⟩
  | .local _ .vmem, ⟨9, _⟩ => ⟨S256x384, .f32⟩
  | .local _ .vmem, ⟨10, _⟩ => ⟨S256x256, .f32⟩
  | .local _ .vmem, ⟨11, _⟩ => ⟨S256x256, .f32⟩
  | .local _ .vmem, ⟨12, _⟩ => ⟨S256x128, .f32⟩
  | .local _ .vmem, ⟨13, _⟩ => ⟨S256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjRefIdeal.lean ====
abbrev S8x2048x1024 : Shape := ⟨3, ![8, 2048, 1024]⟩
abbrev S1024 : Shape := ⟨1, ![1024]⟩
abbrev S1024x2760 : Shape := ⟨2, ![1024, 2760]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2760 : Shape := ⟨3, ![8, 2048, 2760]⟩
abbrev S16384x2760 : Shape := ⟨2, ![16384, 2760]⟩
abbrev S16384x1536 : Shape := ⟨2, ![16384, 1536]⟩
abbrev S16384x512 : Shape := ⟨2, ![16384, 512]⟩
abbrev S16384x4 : Shape := ⟨2, ![16384, 4]⟩
abbrev S16384x384 : Shape := ⟨2, ![16384, 384]⟩
abbrev S16384x256 : Shape := ⟨2, ![16384, 256]⟩
abbrev S16384x64 : Shape := ⟨2, ![16384, 64]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2760, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2760, .f32⟩
  | .hbm, ⟨20, _⟩ => ⟨S16384x2760, .f32⟩
  | .hbm, ⟨21, _⟩ => ⟨S16384x1536, .f32⟩
  | .hbm, ⟨22, _⟩ => ⟨S16384x512, .f32⟩
  | .hbm, ⟨23, _⟩ => ⟨S16384x4, .f32⟩
  | .hbm, ⟨24, _⟩ => ⟨S16384x4, .f32⟩
  | .hbm, ⟨25, _⟩ => ⟨S16384x384, .f32⟩
  | .hbm, ⟨26, _⟩ => ⟨S16384x256, .f32⟩
  | .hbm, ⟨27, _⟩ => ⟨S16384x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.Flash.Online.lean ====
/- The online softmax over the extended reals: a row's running maximum, running sum and running weighted sum over a set
   of keys, and how they change when further keys are met. -/
module

public import Idealize.ShloMosaic.PureOps.Ideal

@[expose] public section

noncomputable section

namespace Cert.Flash

open Idealize.ShloMosaic

variable {ι : Type} [DecidableEq ι] (t v : ι → EReal) (J K : Finset ι)

/-- The greatest score of the keys `J` (`⊥` if there are none). -/
def top : EReal := J.sup t

/-- A key's weight beside the greatest score of `J`. -/
def wt (x m : EReal) : EReal := Ideal.exp2 (x - m)

/-- The sum of the weights of the keys `J`. -/
def tot : EReal := ∑ s ∈ J, wt (t s) (top t J)

/-- The weighted sum of the values of the keys `J`. -/
def acc : EReal := ∑ s ∈ J, wt (t s) (top t J) * v s

/-- Every score is finite or masked. -/
def Good : Prop := ∀ s, t s = ⊥ ∨ ∃ r : ℝ, t s = (r : EReal)

theorem Good.sup {t : ι → EReal} (h : Good t) (J : Finset ι) : top t J = ⊥ ∨ ∃ r : ℝ, top t J = (r : EReal) := by
  induction J using Finset.induction_on with
  | empty => exact .inl rfl
  | insert a J _ ih =>
    have e : top t (insert a J) = max (t a) (top t J) := Finset.sup_insert
    rcases max_choice (t a) (top t J) with hm | hm <;> rw [e, hm]
    · exact h a
    · exact ih

theorem exp2_bot : Ideal.exp2 ⊥ = 0 := rfl

theorem exp2_coe (r : ℝ) : Ideal.exp2 (r : EReal) = ((Real.rpow 2 r : ℝ) : EReal) := rfl

theorem wt_bot (m : EReal) : wt ⊥ m = 0 := by
  unfold wt; rw [EReal.bot_sub]; exact exp2_bot

theorem wt_coe (x m : ℝ) : wt (x : EReal) (m : EReal) = ((Real.rpow 2 (x - m) : ℝ) : EReal) := by
  unfold wt; rw [← EReal.coe_sub]; rfl

/-- A weight is a nonnegative real number. -/
theorem wt_real {x m : EReal} (hx : x = ⊥ ∨ ∃ r : ℝ, x = (r : EReal)) (hm : m = ⊥ ∨ ∃ r : ℝ, m = (r : EReal)) (hle : x ≤ m) :
    ∃ r : ℝ, 0 ≤ r ∧ wt x m = (r : EReal) := by
  rcases hx with rfl | ⟨x, rfl⟩
  · exact ⟨0, le_rfl, wt_bot m⟩
  · rcases hm with rfl | ⟨m, rfl⟩
    · exact absurd hle (by simp)
    · exact ⟨_, Real.rpow_nonneg (by norm_num) _, wt_coe x m⟩

/-- Rescaling: a weight beside an older maximum, times the older maximum's own weight beside the newer one. -/
theorem wt_mul {x m m' : EReal} (hx : x = ⊥ ∨ ∃ r : ℝ, x = (r : EReal)) (hm : m = ⊥ ∨ ∃ r : ℝ, m = (r : EReal))
    (hm' : m' = ⊥ ∨ ∃ r : ℝ, m' = (r : EReal)) (h1 : x ≤ m) (h2 : m ≤ m') : wt x m * wt m m' = wt x m' := by
  rcases hx with rfl | ⟨x, rfl⟩
  · rw [wt_bot, wt_bot, zero_mul]
  · rcases hm with rfl | ⟨m, rfl⟩
    · exact absurd h1 (by simp)
    · rcases hm' with rfl | ⟨m', rfl⟩
      · exact absurd h2 (by simp)
      · rw [wt_coe, wt_coe, wt_coe, ← EReal.coe_mul]
        congr 1
        show (2 : ℝ) ^ (x - m) * (2 : ℝ) ^ (m - m') = (2 : ℝ) ^ (x - m')
        rw [← Real.rpow_add (by norm_num)]; congr 1; ring

/-- A nonnegative real factor goes into a sum. -/
theorem sum_mul_real {κ : Type} (J : Finset κ) (f : κ → EReal) (c : ℝ) (hc : 0 ≤ c) :
    (∑ s ∈ J, f s) * (c : EReal) = ∑ s ∈ J, f s * (c : EReal) := by
  classical
  induction J using Finset.induction_on with
  | empty => simp
  | insert a J ha ih =>
    rw [Finset.sum_insert ha, Finset.sum_insert ha,
      EReal.right_distrib_of_nonneg_of_ne_top (by exact_mod_cast hc) (EReal.coe_ne_top _), ih]

variable {t J K}

theorem le_top {s : ι} (hs : s ∈ J) : t s ≤ top t J := Finset.le_sup (f := t) hs

theorem top_union : top t (J ∪ K) = max (top t J) (K.sup t) := Finset.sup_union

theorem top_le : top t J ≤ top t (J ∪ K) := by rw [top_union]; exact le_max_left _ _

/-- The running sum after the keys `K`, from the one before them. -/
theorem tot_union (h : Good t) (hd : Disjoint J K) :
    tot t (J ∪ K) = tot t J * wt (top t J) (top t (J ∪ K)) + ∑ s ∈ K, wt (t s) (top t (J ∪ K)) := by
  obtain ⟨c, hc, e⟩ := wt_real (h.sup J) (h.sup (J ∪ K)) top_le
  rw [tot, Finset.sum_union hd, tot, e, sum_mul_real _ _ _ hc, ← e]
  congr 1
  exact Finset.sum_congr rfl fun s hs => (wt_mul (h s) (h.sup _) (h.sup _) (le_top hs) top_le).symm

/-- The running weighted sum after the keys `K`, from the one before them. -/
theorem acc_union (h : Good t) (hd : Disjoint J K) :
    acc t v (J ∪ K) = acc t v J * wt (top t J) (top t (J ∪ K)) + ∑ s ∈ K, wt (t s) (top t (J ∪ K)) * v s := by
  obtain ⟨c, hc, e⟩ := wt_real (h.sup J) (h.sup (J ∪ K)) top_le
  rw [acc, Finset.sum_union hd, acc, e, sum_mul_real _ _ _ hc, ← e]
  congr 1
  refine Finset.sum_congr rfl fun s hs => ?_
  rw [← wt_mul (h s) (h.sup J) (h.sup (J ∪ K)) (le_top hs) top_le]
  exact mul_right_comm _ _ _

/-- Keys masked outside `J` change nothing. -/
theorem top_of_masked (hJK : J ⊆ K) (hm : ∀ s ∈ K, s ∉ J → t s = ⊥) : top t K = top t J := by
  apply le_antisymm
  · refine Finset.sup_le fun s hs => ?_
    by_cases h : s ∈ J
    · exact le_top h
    · rw [hm s hs h]; exact bot_le
  · exact Finset.sup_mono hJK

theorem tot_of_masked (hJK : J ⊆ K) (hm : ∀ s ∈ K, s ∉ J → t s = ⊥) : tot t K = tot t J := by
  rw [tot, top_of_masked hJK hm]
  exact (Finset.sum_subset hJK fun s hs h => by rw [hm s hs h, wt_bot]).symm

theorem acc_of_masked (hJK : J ⊆ K) (hm : ∀ s ∈ K, s ∉ J → t s = ⊥) : acc t v K = acc t v J := by
  rw [acc, top_of_masked hJK hm]
  exact (Finset.sum_subset hJK fun s hs h => by rw [hm s hs h, wt_bot, zero_mul]).symm

/-- The sum of the weights of a set with an unmasked key is a positive real number. -/
theorem tot_pos (h : Good t) {s : ι} (hs : s ∈ J) (hr : t s ≠ ⊥) : ∃ r : ℝ, 0 < r ∧ tot t J = (r : EReal) := by
  have hw : ∀ u ∈ J, ∃ r : ℝ, 0 ≤ r ∧ wt (t u) (top t J) = (r : EReal) := fun u hu => wt_real (h u) (h.sup J) (le_top hu)
  have hs1 : ∃ r : ℝ, 0 < r ∧ wt (t s) (top t J) = (r : EReal) := by
    rcases h s with hb | ⟨x, hx⟩
    · exact absurd hb hr
    · rcases h.sup J with hb | ⟨m, hm⟩
      · have := le_top (t := t) hs; rw [hb, hx] at this; exact absurd this (by simp)
      · exact ⟨(2 : ℝ) ^ (x - m), Real.rpow_pos_of_pos (by norm_num) _, by rw [hx, hm]; exact wt_coe x m⟩
  have hrest : ∀ L : Finset ι, L ⊆ J → ∃ r : ℝ, 0 ≤ r ∧ ∑ u ∈ L, wt (t u) (top t J) = (r : EReal) := by
    intro L
    induction L using Finset.induction_on with
    | empty => exact fun _ => ⟨0, le_rfl, by simp⟩
    | insert a L ha ih =>
      intro hL
      obtain ⟨r, hr0, er⟩ := ih fun x hx => hL (Finset.mem_insert_of_mem hx)
      obtain ⟨q, hq0, eq⟩ := hw a (hL (Finset.mem_insert_self a L))
      exact ⟨q + r, add_nonneg hq0 hr0, by rw [Finset.sum_insert ha, er, eq, EReal.coe_add]⟩
  obtain ⟨q, hq, eq⟩ := hs1
  obtain ⟨r, hr0, er⟩ := hrest (J.erase s) (Finset.erase_subset _ _)
  exact ⟨q + r, by linarith, by rw [tot, ← Finset.add_sum_erase J _ hs, eq, er, EReal.coe_add]⟩

/-- Dividing the weighted sum by the sum of the weights is weighting by the quotients. -/
theorem acc_div (h : Good t) {s : ι} (hs : s ∈ J) (hr : t s ≠ ⊥) :
    Ideal.div (acc t v J) (tot t J) = ∑ u ∈ J, Ideal.div (wt (t u) (top t J)) (tot t J) * v u := by
  obtain ⟨r, hr0, er⟩ := tot_pos h hs hr
  have h0 : ((r : ℝ) : EReal) ≠ 0 := by exact_mod_cast hr0.ne'
  have hd : ∀ x : EReal, Ideal.div x (tot t J) = x * ((r⁻¹ : ℝ) : EReal) := fun x => by
    rw [er, Ideal.div, if_neg h0, EReal.coe_inv]
  rw [hd, acc, sum_mul_real _ _ _ (inv_nonneg.2 hr0.le)]
  refine Finset.sum_congr rfl fun u _ => ?_
  rw [hd]; exact mul_right_comm _ _ _

end Cert.Flash

end
-- ==== Proof.Flash.Block.lean ====
/- What one key block does to a query block's running maximum, sum and weighted sum, element by element: the values the
   body stores, for any block of scores. -/
module

public import proofs.«01_k».proof.Proof.Gen.KernelIdeal.Skeleton
public import proofs.«01_k».proof.Proof.Flash.Online
public import Idealize.ShloMosaic.Lib.Pointwise
public import Idealize.ShloMosaic.Lib.WordCmp

@[expose] public section

set_option maxRecDepth 16384

noncomputable section

namespace Cert.KernelIdeal.Flash

open Cert.KernelIdeal Cert.KernelIdeal.Gen Cert.Flash Idealize.ShloMosaic Idealize.ShloMosaic.TcCoe Idealize.SL.Sem
open Idealize.ShloMosaic.Pointwise

variable (t : FVec Ideal S512x512 .f32) (m l : Vec Ideal S1x512x1 .f32) (a : Vec Ideal S1x512x128 .f32)
  (v : Vec Ideal S1x512x128 .bf16)

/-- The new running maximum, a row vector. -/
def newM : FVec Ideal S512x1 .f32 :=
  maximumf (shapeCast S512x1 m shapeCasts_S1x512x1_S512x1)
    (shapeCast S512x1 (multiReduction .maximumf [1] S512 t 0xFF800000#32 reduces_S512x512_S512 (.inl rfl) rfl)
      shapeCasts_S512_S512x1)

/-- The factor the older sums are rescaled by. -/
def fac : FVec Ideal S512x1 .f32 := exp2 (subf (shapeCast S512x1 m shapeCasts_S1x512x1_S512x1) (newM t m))

/-- The block's weights. -/
def prob : FVec Ideal S512x512 .f32 := exp2 (subf t (broadcastTo S512x512 (newM t m) broadcasts_S512x1_S512x512))

/-- The running maximum as stored. -/
def outM : FVec Ideal S1x512x1 .f32 := shapeCast S1x512x1 (newM t m) shapeCasts_S512x1_S1x512x1

/-- The running sum as stored. -/
def outL : FVec Ideal S1x512x1 .f32 :=
  shapeCast S1x512x1
    (addf (mulf (shapeCast S512x1 l shapeCasts_S1x512x1_S512x1) (fac t m))
      (shapeCast S512x1 (multiReduction .add [1] S512 (prob t m) 0x00000000#32 reduces_S512x512_S512 (.inl rfl) rfl)
        shapeCasts_S512_S512x1))
    shapeCasts_S512x1_S1x512x1

/-- The running weighted sum as stored. -/
def outA : FVec Ideal S1x512x128 .f32 :=
  shapeCast S1x512x128
    (addf (mulf (shapeCast S512x128 a shapeCasts_S1x512x128_S512x128) (broadcastTo S512x128 (fac t m) broadcasts_S512x1_S512x128))
      (matmul (φ₁ := .bf16) (φ₂ := .bf16) dot_S512x512_S512x128_S512x128_1_0_0_1_n_n none (truncf .bf16 (prob t m) bitsLt_bf16_f32)
        (shapeCast S512x128 v shapeCasts_S1x512x128_S512x128) (constant S512x128 .f32 0x00000000#32)))
    shapeCasts_S512x128_S1x512x128

/-- The result block: the weighted sum over the sum. -/
def outO : FVec Ideal S1x512x128 .bf16 :=
  shapeCast S1x512x128
    (truncf .bf16 (divf (shapeCast S512x128 a shapeCasts_S1x512x128_S512x128)
      (broadcastTo S512x128 (shapeCast S512x1 l shapeCasts_S1x512x1_S512x1) broadcasts_S512x1_S512x128)) bitsLt_bf16_f32)
    shapeCasts_S512x128_S1x512x128

theorem fold_max_eq_sup {n : ℕ} (f : Fin n → EReal) : (Finset.univ.fold max ⊥ f) = Finset.univ.sup f := rfl

theorem ofBits_neg_inf : (Ideal.ofBits .f32 0xFF800000#32 : EReal) = ⊥ := by
  simp [Ideal.ofBits, Ideal.ieee]

theorem newM_apply (r : Fin 512) :
    newM t m (ix2 r 0) = max (m (ix3 0 r 0)) (Finset.univ.sup fun s : Fin 512 => t (ix2 r s)) := by
  pointwise [newM]
  rw [ofBits_neg_inf, fold_max_eq_sup]

theorem fac_apply (r : Fin 512) : fac t m (ix2 r 0) = wt (m (ix3 0 r 0)) (newM t m (ix2 r 0)) := by
  pointwise [fac]
  rfl

theorem prob_apply (r s : Fin 512) : prob t m (ix2 r s) = wt (t (ix2 r s)) (newM t m (ix2 r 0)) := by
  pointwise [prob]
  rfl

theorem outM_apply (r : Fin 512) : outM t m (ix3 0 r 0) = newM t m (ix2 r 0) := by
  pointwise [outM]

theorem outL_apply (r : Fin 512) :
    outL t m l (ix3 0 r 0) = l (ix3 0 r 0) * wt (m (ix3 0 r 0)) (newM t m (ix2 r 0))
      + ∑ s : Fin 512, wt (t (ix2 r s)) (newM t m (ix2 r 0)) := by
  simp only [← fac_apply, ← prob_apply]
  pointwise [outL]

theorem outA_apply (r : Fin 512) (d : Fin 128) :
    outA t m a v (ix3 0 r d) = a (ix3 0 r d) * wt (m (ix3 0 r 0)) (newM t m (ix2 r 0))
      + ∑ s : Fin 512, wt (t (ix2 r s)) (newM t m (ix2 r 0)) * v (ix3 0 s d) := by
  simp only [← fac_apply, ← prob_apply]
  pointwise [outA]

theorem outO_apply (r : Fin 512) (d : Fin 128) :
    outO l a (ix3 0 r d) = Ideal.div (a (ix3 0 r d)) (l (ix3 0 r 0)) := by
  pointwise [outO]

/-- A block's scores: the scaled products of the query rows with the key rows. -/
def scores (q k : Vec Ideal S1x512x256 .bf16) : FVec Ideal S512x512 .f32 := k0_pay2 q k

/-- The diagonal block's scores: later keys masked. -/
def masked (q k : Vec Ideal S1x512x256 .bf16) : FVec Ideal S512x512 .f32 := k0_pay44 (k0_pay2 q k)

/-- The scale. -/
def cst : EReal := (((Real.sqrt 192)⁻¹ * (Real.log 2)⁻¹ : ℝ) : EReal)

theorem named_scale : (Named.named (F := Ideal) (φ := .f32) κ "scale_log2e" 0x3DD53B95#32 : EReal) = cst :=
  IdealRules.named_const.ideal_named_scalar _ _ _ _ rfl

theorem named_mask : (Named.named (F := Ideal) (φ := .f32) κ "mask" 0xF149F2CA#32 : EReal) = ⊥ :=
  IdealRules.named_const.ideal_named_scalar _ _ _ _ rfl

theorem scores_apply (q k : Vec Ideal S1x512x256 .bf16) (r s : Fin 512) :
    scores q k (ix2 r s) = (∑ d : Fin 256, q (ix3 0 r d) * k (ix3 0 s d)) * cst := by
  pointwise [scores, k0_pay2]
  rw [named_scale]

theorem masked_apply (q k : Vec Ideal S1x512x256 .bf16) (r s : Fin 512) :
    masked q k (ix2 r s) = if s ≤ r then scores q k (ix2 r s) else ⊥ := by
  unfold scores
  pointwise [masked, k0_pay44]
  rw [named_mask]
  unfold Scalar.select
  have e : (IntOp.cmpi CmpIPredicate.sle (BitVec.ofNat 32 ↑s) (BitVec.ofNat 32 ↑r) = 1) ↔ s ≤ r :=
    (WordCmp.cmpi_sle_ofNat_eq_one_iff (by have := s.isLt; omega) (by have := r.isLt; omega)).trans Iff.rfl
  simp only [e]

end Cert.KernelIdeal.Flash

end
-- ==== Proof.Flash.Rows.lean ====
/- One row of one head: its scores against the keys, the state the body keeps for it, and what one more key block does
   to that state. -/
module

public import proofs.«01_k».proof.Proof.Flash.Block

@[expose] public section

set_option maxRecDepth 16384

noncomputable section

namespace Cert.KernelIdeal.Flash

open Cert.KernelIdeal Cert.KernelIdeal.Gen Cert.Flash Idealize.ShloMosaic Idealize.ShloMosaic.TcCoe Idealize.SL.Sem
open Idealize.ShloMosaic.Pointwise

/-- The keys of the first `n` blocks. -/
def upto (n : ℕ) : Finset (Fin 2048) := Finset.univ.filter fun s => s.val < 512 * n

/-- Key `s` of block `n`. -/
def key (n : ℕ) (hn : n < 4) (s : Fin 512) : Fin 2048 := ⟨512 * n + s.val, by have := s.isLt; omega⟩

theorem key_injective (n : ℕ) (hn : n < 4) : Function.Injective (key n hn) := fun a b h =>
  Fin.ext (by have e : 512 * n + a.val = 512 * n + b.val := congrArg Fin.val h; omega)

/-- The keys of block `n`. -/
def blk (n : ℕ) (hn : n < 4) : Finset (Fin 2048) := Finset.univ.map ⟨key n hn, key_injective n hn⟩

theorem mem_upto {n : ℕ} {s : Fin 2048} : s ∈ upto n ↔ s.val < 512 * n := by simp [upto]

theorem mem_blk {n : ℕ} {hn : n < 4} {s : Fin 2048} : s ∈ blk n hn ↔ 512 * n ≤ s.val ∧ s.val < 512 * (n + 1) := by
  simp only [blk, Finset.mem_map, Finset.mem_univ, true_and, Function.Embedding.coeFn_mk]
  constructor
  · rintro ⟨a, rfl⟩
    have := a.isLt
    show 512 * n ≤ 512 * n + a.val ∧ 512 * n + a.val < 512 * (n + 1)
    omega
  · rintro ⟨h1, h2⟩
    exact ⟨⟨s.val - 512 * n, by omega⟩, Fin.ext (by show 512 * n + (s.val - 512 * n) = s.val; omega)⟩

theorem upto_zero : upto 0 = ∅ := by ext s; simp [mem_upto]

theorem upto_succ (n : ℕ) (hn : n < 4) : upto (n + 1) = upto n ∪ blk n hn := by
  ext s; rw [Finset.mem_union, mem_upto, mem_upto, mem_blk]; omega

theorem upto_disjoint (n : ℕ) (hn : n < 4) : Disjoint (upto n) (blk n hn) := by
  rw [Finset.disjoint_left]; intro s h1 h2; rw [mem_upto] at h1; rw [mem_blk] at h2; omega

theorem sup_blk (n : ℕ) (hn : n < 4) (f : Fin 2048 → EReal) :
    (blk n hn).sup f = Finset.univ.sup fun s => f (key n hn s) := by
  rw [blk, Finset.sup_map]; rfl

theorem sum_blk (n : ℕ) (hn : n < 4) (f : Fin 2048 → EReal) :
    ∑ s ∈ blk n hn, f s = ∑ s : Fin 512, f (key n hn s) := by
  rw [blk, Finset.sum_map]; rfl

/-- The state kept for row `r`: the greatest score, the sum and the weighted sums over the keys `J`. -/
structure RowAt (m l : Vec Ideal S1x512x1 .f32) (a : Vec Ideal S1x512x128 .f32) (T : Fin 2048 → EReal)
    (V : Fin 128 → Fin 2048 → EReal) (r : Fin 512) (J : Finset (Fin 2048)) : Prop where
  m : m (ix3 0 r 0) = top T J
  l : l (ix3 0 r 0) = tot T J
  a : ∀ d : Fin 128, a (ix3 0 r d) = acc T (V d) J

/-- One more block of keys. -/
theorem RowAt.step {m l : Vec Ideal S1x512x1 .f32} {a : Vec Ideal S1x512x128 .f32} {T : Fin 2048 → EReal}
    {V : Fin 128 → Fin 2048 → EReal} {r : Fin 512} {n : ℕ} (H : RowAt m l a T V r (upto n)) (hn : n < 4) (h : Good T)
    {t : FVec Ideal S512x512 .f32} {v : Vec Ideal S1x512x128 .bf16}
    (ht : ∀ s : Fin 512, t (ix2 r s) = T (key n hn s)) (hv : ∀ (d : Fin 128) (s : Fin 512), v (ix3 0 s d) = V d (key n hn s)) :
    RowAt (outM t m) (outL t m l) (outA t m a v) T V r (upto (n + 1)) := by
  have hm : newM t m (ix2 r 0) = top T (upto n ∪ blk n hn) := by
    rw [newM_apply, H.m, top_union, sup_blk]; simp only [ht]
  refine ⟨?_, ?_, fun d => ?_⟩
  · rw [outM_apply, hm, upto_succ n hn]
  · rw [outL_apply, hm, H.m, H.l, upto_succ n hn, tot_union h (upto_disjoint n hn), sum_blk]; simp only [ht]
  · rw [outA_apply, hm, H.m, H.a, upto_succ n hn, acc_union (V d) h (upto_disjoint n hn), sum_blk]; simp only [ht, hv]

end Cert.KernelIdeal.Flash

end
-- ==== Proof.Flash.Trips.lean ====
/- The body's sweep over the key blocks before the diagonal one: after `n` trips every row's state holds what the first
   `512 * n` keys give. -/
module

public import proofs.«01_k».proof.Proof.Gen.KernelIdeal.Loops
public import proofs.«01_k».proof.Proof.Flash.Rows
public import Idealize.ShloMosaic.Lib.WritesUnit
public import Idealize.ShloMosaic.Lib.WholeRead
public import Idealize.ShloMosaic.Lib.Pipeline.ValueKit.Tiles
public import Idealize.ShloMosaic.Lib.Pipeline.FrameBody

@[expose] public section

set_option maxRecDepth 16384

noncomputable section

namespace Cert.KernelIdeal.Flash

open Cert.KernelIdeal Cert.KernelIdeal.Gen Cert.Flash Idealize.ShloMosaic Idealize.ShloMosaic.TcCoe Idealize.SL.Sem
open Idealize.ShloMosaic.Pointwise

/-- Head `h`'s scores of row `r` of a query block standing at row `512 * qi`: the scaled products with the keys not after
    the row, `⊥` at the later ones. -/
def rowT (x0 : Vec Ideal S1x512x512 .bf16) (x1 : Vec Ideal S1x2048x512 .bf16) (qi : ℕ) (h : Fin 2) (r : Fin 512) :
    Fin 2048 → EReal := fun s =>
  if s.val ≤ 512 * qi + r.val then
    (∑ d : Fin 256, x0 (ix3 0 r ⟨256 * h.val + d.val, by have := h.isLt; have := d.isLt; omega⟩)
      * x1 (ix3 0 s ⟨256 * h.val + d.val, by have := h.isLt; have := d.isLt; omega⟩)) * cst
  else ⊥

/-- Head `h`'s values. -/
def rowV (x2 : Vec Ideal S1x2048x256 .bf16) (h : Fin 2) (d : Fin 128) : Fin 2048 → EReal := fun s =>
  x2 (ix3 0 s ⟨128 * h.val + d.val, by have := h.isLt; have := d.isLt; omega⟩)

section Slabs

variable {sig : RefSig} {κ : Kind} {sp : Space} {s : Shape} {e : EltTy} (v : View sig κ sp s e)
  (f : v.ty.Contents (Elt Ideal))

/-- The newest piece read back. -/
theorem readAt_newest (r : Rect s) (w : r.shape.Idx → Elt Ideal e) (L : List (View.Piece (Elt Ideal) s e)) :
    v.readAt (Elt Ideal) r.toLoadRect (v.writes (Elt Ideal) f (⟨r, w⟩ :: L)) = w := by
  funext x
  rw [View.readAt_apply]
  exact View.read_writes_cons_emb v f r w L x

/-- A piece of the other slab passed over. -/
theorem readAt_older {off size off' size' : Fin s.rank → ℕ} (inb : ∀ a, off a + size a ≤ s.size a)
    (inb' : ∀ a, off' a + size' a ≤ s.size a) (w : (Rect.unit off size inb).shape.Idx → Elt Ideal e)
    (L : List (View.Piece (Elt Ideal) s e)) (a : Fin s.rank) (ha : off' a + size' a ≤ off a ∨ off a + size a ≤ off' a) :
    v.readAt (Elt Ideal) (Rect.unit off' size' inb').toLoadRect (v.writes (Elt Ideal) f (⟨Rect.unit off size inb, w⟩ :: L))
      = v.readAt (Elt Ideal) (Rect.unit off' size' inb').toLoadRect (v.writes (Elt Ideal) f L) := by
  funext x
  rw [View.readAt_apply, View.readAt_apply]
  refine View.read_writes_cons_unit_of_not_mem v f inb w L _ rfl a ?_
  have h1 : (((Rect.unit off' size' inb').toLoadRect.idx x) a).val = off' a + 1 * (x a).val := rfl
  have h2 : (x a).val < size' a := (x a).isLt
  rw [h1]; omega

end Slabs

variable (c : Dev nD) (i : grid0.Coords)
  (arg3 : Memref sig .tc .vmem S1x512x512 .bf16) (harg3 : arg3.IsWhole)
  (arg4 : Memref sig .tc .vmem S1x2048x512 .bf16) (harg4 : arg4.IsWhole)
  (arg5 : Memref sig .tc .vmem S1x2048x256 .bf16) (harg5 : arg5.IsWhole)
  (arg6 : Memref sig .tc .vmem S1x512x256 .bf16) (harg6 : arg6.IsWhole)
  (arg7 : Memref sig .tc .vmem S2x512x1 .f32) (harg7 : arg7.IsWhole)
  (arg8 : Memref sig .tc .vmem S2x512x1 .f32) (harg8 : arg8.IsWhole)
  (arg9 : Memref sig .tc .vmem S2x512x128 .f32) (harg9 : arg9.IsWhole)
  (x0 : Vec Ideal S1x512x512 .bf16) (x1 : Vec Ideal S1x2048x512 .bf16) (x2 : Vec Ideal S1x2048x256 .bf16)

section Loads

/-- Head 0's and head 1's query rows. -/
abbrev q0 : Vec Ideal S1x512x256 .bf16 := View.readAt (Elt Ideal) arg3.view
  (Rect.unit (s := S1x512x512) ![0, 0, 0] S1x512x256.size Gen.inb_S1x512x512_S1x512x256_0_0_0).toLoadRect (harg3.unread x0)
abbrev q1 : Vec Ideal S1x512x256 .bf16 := View.readAt (Elt Ideal) arg3.view
  (Rect.unit (s := S1x512x512) ![0, 0, 256] S1x512x256.size Gen.inb_S1x512x512_S1x512x256_0_0_256).toLoadRect (harg3.unread x0)

/-- A block of key rows, and of value rows, at an offset. -/
abbrev kAt (off : Fin 3 → ℕ) (inb : ∀ a, off a + S1x512x256.size a ≤ S1x2048x512.size a) : Vec Ideal S1x512x256 .bf16 :=
  View.readAt (Elt Ideal) arg4.view (Rect.unit (s := S1x2048x512) off S1x512x256.size inb).toLoadRect (harg4.unread x1)
abbrev vAt (off : Fin 3 → ℕ) (inb : ∀ a, off a + S1x512x128.size a ≤ S1x2048x256.size a) : Vec Ideal S1x512x128 .bf16 :=
  View.readAt (Elt Ideal) arg5.view (Rect.unit (s := S1x2048x256) off S1x512x128.size inb).toLoadRect (harg5.unread x2)

theorem q0_apply (r : Fin 512) (d : Fin 256) :
    q0 arg3 harg3 x0 (ix3 0 r d) = x0 (ix3 0 r ⟨256 * (0 : Fin 2).val + d.val, by have := d.isLt; show 256 * 0 + d.val < 512; omega⟩) := by
  refine (harg3.readAt_unread x0 _ _).trans (View.ld_unit_apply_of x0 _ _ _ _ _ fun a => ?_)
  fin_cases a <;> simp [ix3]

theorem q1_apply (r : Fin 512) (d : Fin 256) :
    q1 arg3 harg3 x0 (ix3 0 r d) = x0 (ix3 0 r ⟨256 * (1 : Fin 2).val + d.val, by have := d.isLt; show 256 * 1 + d.val < 512; omega⟩) := by
  refine (harg3.readAt_unread x0 _ _).trans (View.ld_unit_apply_of x0 _ _ _ _ _ fun a => ?_)
  fin_cases a <;> simp [ix3]

theorem kAt_apply (off : Fin 3 → ℕ) (inb) (n : ℕ) (hn : n < 4) (h : Fin 2) (e : off = ![0, 512 * n, 256 * h.val]) (s : Fin 512)
    (d : Fin 256) :
    kAt arg4 harg4 x1 off inb (ix3 0 s d)
      = x1 (ix3 0 (key n hn s) ⟨256 * h.val + d.val, by have := h.isLt; have := d.isLt; omega⟩) := by
  subst e
  refine (harg4.readAt_unread x1 _ _).trans (View.ld_unit_apply_of x1 _ _ _ _ _ fun a => ?_)
  fin_cases a <;> simp [ix3, key]

theorem vAt_apply (off : Fin 3 → ℕ) (inb) (n : ℕ) (hn : n < 4) (h : Fin 2) (e : off = ![0, 512 * n, 128 * h.val]) (s : Fin 512)
    (d : Fin 128) :
    vAt arg5 harg5 x2 off inb (ix3 0 s d) = rowV x2 h d (key n hn s) := by
  subst e
  refine (harg5.readAt_unread x2 _ _).trans (View.ld_unit_apply_of x2 _ _ _ _ _ fun a => ?_)
  fin_cases a <;> simp [ix3, key]

end Loads

/-- Each head's slab of the three buffers. -/
abbrev m0 (f : arg7.view.ty.Contents (Elt Ideal)) : Vec Ideal S1x512x1 .f32 := View.readAt (Elt Ideal) arg7.view
  (Rect.unit (s := S2x512x1) ![0, 0, 0] S1x512x1.size Gen.inb_S2x512x1_S1x512x1_0_0_0).toLoadRect f
abbrev m1 (f : arg7.view.ty.Contents (Elt Ideal)) : Vec Ideal S1x512x1 .f32 := View.readAt (Elt Ideal) arg7.view
  (Rect.unit (s := S2x512x1) ![1, 0, 0] S1x512x1.size Gen.inb_S2x512x1_S1x512x1_1_0_0).toLoadRect f
abbrev a0 (f : arg9.view.ty.Contents (Elt Ideal)) : Vec Ideal S1x512x128 .f32 := View.readAt (Elt Ideal) arg9.view
  (Rect.unit (s := S2x512x128) ![0, 0, 0] S1x512x128.size Gen.inb_S2x512x128_S1x512x128_0_0_0).toLoadRect f
abbrev a1 (f : arg9.view.ty.Contents (Elt Ideal)) : Vec Ideal S1x512x128 .f32 := View.readAt (Elt Ideal) arg9.view
  (Rect.unit (s := S2x512x128) ![1, 0, 0] S1x512x128.size Gen.inb_S2x512x128_S1x512x128_1_0_0).toLoadRect f

section Reads

variable (A : Memref sig .tc .vmem S2x512x1 .f32) (B : Memref sig .tc .vmem S2x512x128 .f32)
  (fA : A.view.ty.Contents (Elt Ideal)) (fB : B.view.ty.Contents (Elt Ideal))
  (LA : List (View.Piece (Elt Ideal) S2x512x1 .f32)) (LB : List (View.Piece (Elt Ideal) S2x512x128 .f32))
  (w : Vec Ideal S1x512x1 .f32) (u : Vec Ideal S1x512x128 .f32)

/-- A slab just stored, and the other slab under it. -/
theorem m0_newest : m0 A (A.view.writes (Elt Ideal) fA (⟨Rect.unit ![0, 0, 0] S1x512x1.size Gen.inb_S2x512x1_S1x512x1_0_0_0, w⟩ :: LA)) = w :=
  readAt_newest A.view fA (Rect.unit (s := S2x512x1) ![0, 0, 0] S1x512x1.size Gen.inb_S2x512x1_S1x512x1_0_0_0) w LA
theorem m1_newest : m1 A (A.view.writes (Elt Ideal) fA (⟨Rect.unit ![1, 0, 0] S1x512x1.size Gen.inb_S2x512x1_S1x512x1_1_0_0, w⟩ :: LA)) = w :=
  readAt_newest A.view fA (Rect.unit (s := S2x512x1) ![1, 0, 0] S1x512x1.size Gen.inb_S2x512x1_S1x512x1_1_0_0) w LA
theorem m0_older : m0 A (A.view.writes (Elt Ideal) fA (⟨Rect.unit ![1, 0, 0] S1x512x1.size Gen.inb_S2x512x1_S1x512x1_1_0_0, w⟩ :: LA))
    = m0 A (A.view.writes (Elt Ideal) fA LA) :=
  readAt_older A.view fA _ _ w LA (0 : Fin 3) (.inl (by decide))
theorem m1_older : m1 A (A.view.writes (Elt Ideal) fA (⟨Rect.unit ![0, 0, 0] S1x512x1.size Gen.inb_S2x512x1_S1x512x1_0_0_0, w⟩ :: LA))
    = m1 A (A.view.writes (Elt Ideal) fA LA) :=
  readAt_older A.view fA _ _ w LA (0 : Fin 3) (.inr (by decide))
theorem a0_newest : a0 B (B.view.writes (Elt Ideal) fB (⟨Rect.unit ![0, 0, 0] S1x512x128.size Gen.inb_S2x512x128_S1x512x128_0_0_0, u⟩ :: LB)) = u :=
  readAt_newest B.view fB (Rect.unit (s := S2x512x128) ![0, 0, 0] S1x512x128.size Gen.inb_S2x512x128_S1x512x128_0_0_0) u LB
theorem a1_newest : a1 B (B.view.writes (Elt Ideal) fB (⟨Rect.unit ![1, 0, 0] S1x512x128.size Gen.inb_S2x512x128_S1x512x128_1_0_0, u⟩ :: LB)) = u :=
  readAt_newest B.view fB (Rect.unit (s := S2x512x128) ![1, 0, 0] S1x512x128.size Gen.inb_S2x512x128_S1x512x128_1_0_0) u LB
theorem a0_older : a0 B (B.view.writes (Elt Ideal) fB (⟨Rect.unit ![1, 0, 0] S1x512x128.size Gen.inb_S2x512x128_S1x512x128_1_0_0, u⟩ :: LB))
    = a0 B (B.view.writes (Elt Ideal) fB LB) :=
  readAt_older B.view fB _ _ u LB (0 : Fin 3) (.inl (by decide))
theorem a1_older : a1 B (B.view.writes (Elt Ideal) fB (⟨Rect.unit ![0, 0, 0] S1x512x128.size Gen.inb_S2x512x128_S1x512x128_0_0_0, u⟩ :: LB))
    = a1 B (B.view.writes (Elt Ideal) fB LB) :=
  readAt_older B.view fB _ _ u LB (0 : Fin 3) (.inr (by decide))

end Reads

theorem RowAt.congr {m l m' l' : Vec Ideal S1x512x1 .f32} {a a' : Vec Ideal S1x512x128 .f32} {T : Fin 2048 → EReal}
    {V : Fin 128 → Fin 2048 → EReal} {r : Fin 512} {J : Finset (Fin 2048)} (H : RowAt m l a T V r J) (em : m' = m)
    (el : l' = l) (ea : a' = a) : RowAt m' l' a' T V r J := by subst em el ea; exact H

/-- Every row of both heads holds what the first `n` blocks give. -/
structure StateAt (n : ℕ) (f7 : arg7.view.ty.Contents (Elt Ideal)) (f8 : arg8.view.ty.Contents (Elt Ideal))
    (f9 : arg9.view.ty.Contents (Elt Ideal)) : Prop where
  h0 : ∀ r, RowAt (m0 arg7 f7) (m0 arg8 f8) (a0 arg9 f9) (rowT x0 x1 (i 2).val 0 r) (rowV x2 0) r (upto n)
  h1 : ∀ r, RowAt (m1 arg7 f7) (m1 arg8 f8) (a1 arg9 f9) (rowT x0 x1 (i 2).val 1 r) (rowV x2 1) r (upto n)

/-- One trip's pieces: both heads' new slabs. -/
theorem tripL_eq (k : Fin (k0_t1_loop i).trips) (w : BitVec 32) (f7 : arg7.view.ty.Contents (Elt Ideal))
    (f8 : arg8.view.ty.Contents (Elt Ideal)) (f9 : arg9.view.ty.Contents (Elt Ideal)) :
    tripL_k0_t1 (F := Ideal) Variants.none c none i arg3 harg3 arg4 harg4 arg5 harg5 arg6 harg6 arg7 harg7 arg8 harg8 arg9 harg9
      (harg3.unread x0) (harg4.unread x1) (harg5.unread x2) k w f7 f8 f9
    = ([⟨Rect.unit ![1, 0, 0] S1x512x1.size Gen.inb_S2x512x1_S1x512x1_1_0_0,
          outM (scores (q1 arg3 harg3 x0) (kAt arg4 harg4 x1 (k0_off3 i k) (k0_off3_inb i k))) (m1 arg7 f7)⟩,
        ⟨Rect.unit ![0, 0, 0] S1x512x1.size Gen.inb_S2x512x1_S1x512x1_0_0_0,
          outM (scores (q0 arg3 harg3 x0) (kAt arg4 harg4 x1 (k0_off1 i k) (k0_off1_inb i k))) (m0 arg7 f7)⟩],
       [⟨Rect.unit ![1, 0, 0] S1x512x1.size Gen.inb_S2x512x1_S1x512x1_1_0_0,
          outL (scores (q1 arg3 harg3 x0) (kAt arg4 harg4 x1 (k0_off3 i k) (k0_off3_inb i k))) (m1 arg7 f7) (m1 arg8 f8)⟩,
        ⟨Rect.unit ![0, 0, 0] S1x512x1.size Gen.inb_S2x512x1_S1x512x1_0_0_0,
          outL (scores (q0 arg3 harg3 x0) (kAt arg4 harg4 x1 (k0_off1 i k) (k0_off1_inb i k))) (m0 arg7 f7) (m0 arg8 f8)⟩],
       [⟨Rect.unit ![1, 0, 0] S1x512x128.size Gen.inb_S2x512x128_S1x512x128_1_0_0,
          outA (scores (q1 arg3 harg3 x0) (kAt arg4 harg4 x1 (k0_off3 i k) (k0_off3_inb i k))) (m1 arg7 f7) (a1 arg9 f9)
            (vAt arg5 harg5 x2 (k0_off4 i k) (k0_off4_inb i k))⟩,
        ⟨Rect.unit ![0, 0, 0] S1x512x128.size Gen.inb_S2x512x128_S1x512x128_0_0_0,
          outA (scores (q0 arg3 harg3 x0) (kAt arg4 harg4 x1 (k0_off1 i k) (k0_off1_inb i k))) (m0 arg7 f7) (a0 arg9 f9)
            (vAt arg5 harg5 x2 (k0_off2 i k) (k0_off2_inb i k))⟩]) := by
  unfold tripL_k0_t1 trip_k0_t1
  dsimp only
  sl_unfold_run_names
  rfl

/-- A block wholly before the row scores unmasked. -/
theorem scores_row (q k : Vec Ideal S1x512x256 .bf16) (qi n : ℕ) (hn : n < 4) (hq : n < qi) (h : Fin 2) (r s : Fin 512)
    (eq : ∀ d : Fin 256, q (ix3 0 r d) = x0 (ix3 0 r ⟨256 * h.val + d.val, by have := h.isLt; have := d.isLt; omega⟩))
    (ek : ∀ d : Fin 256, k (ix3 0 s d)
      = x1 (ix3 0 (key n hn s) ⟨256 * h.val + d.val, by have := h.isLt; have := d.isLt; omega⟩)) :
    scores q k (ix2 r s) = rowT x0 x1 qi h r (key n hn s) := by
  have hc : (key n hn s).val ≤ 512 * qi + r.val := by
    show 512 * n + s.val ≤ 512 * qi + r.val
    have := s.isLt; omega
  rw [scores_apply, rowT, if_pos hc]
  simp only [eq, ek]

/-- The diagonal block, masked, scores as the row does. -/
theorem masked_row (q k : Vec Ideal S1x512x256 .bf16) (n : ℕ) (hn : n < 4) (h : Fin 2) (r s : Fin 512)
    (eq : ∀ d : Fin 256, q (ix3 0 r d) = x0 (ix3 0 r ⟨256 * h.val + d.val, by have := h.isLt; have := d.isLt; omega⟩))
    (ek : ∀ d : Fin 256, k (ix3 0 s d)
      = x1 (ix3 0 (key n hn s) ⟨256 * h.val + d.val, by have := h.isLt; have := d.isLt; omega⟩)) :
    masked q k (ix2 r s) = rowT x0 x1 n h r (key n hn s) := by
  have hc : ((key n hn s).val ≤ 512 * n + r.val) ↔ s ≤ r := by
    show 512 * n + s.val ≤ 512 * n + r.val ↔ s.val ≤ r.val
    omega
  rw [masked_apply, scores_apply, rowT]
  simp only [eq, ek, hc]

theorem trips_eq : ∀ i : grid0.Coords, (k0_t1_loop i).trips = (i 2).val := by decide +kernel

variable {arg7 arg8 arg9 i x0 x1 x2}

/-- One trip: one more block. -/
theorem StateAt.trip (hg : ∀ h r, Good (rowT x0 x1 (i 2).val h r)) (k : Fin (k0_t1_loop i).trips) (w : BitVec 32)
    {f7 : arg7.view.ty.Contents (Elt Ideal)} {f8 : arg8.view.ty.Contents (Elt Ideal)}
    {f9 : arg9.view.ty.Contents (Elt Ideal)} (H : StateAt i arg7 arg8 arg9 x0 x1 x2 k.val f7 f8 f9) :
    StateAt i arg7 arg8 arg9 x0 x1 x2 (k.val + 1)
      (arg7.view.writes (Elt Ideal) f7 (tripL_k0_t1 (F := Ideal) Variants.none c none i arg3 harg3 arg4 harg4 arg5 harg5 arg6 harg6 arg7 harg7 arg8 harg8 arg9 harg9
        (harg3.unread x0) (harg4.unread x1) (harg5.unread x2) k w f7 f8 f9).1)
      (arg8.view.writes (Elt Ideal) f8 (tripL_k0_t1 (F := Ideal) Variants.none c none i arg3 harg3 arg4 harg4 arg5 harg5 arg6 harg6 arg7 harg7 arg8 harg8 arg9 harg9
        (harg3.unread x0) (harg4.unread x1) (harg5.unread x2) k w f7 f8 f9).2.1)
      (arg9.view.writes (Elt Ideal) f9 (tripL_k0_t1 (F := Ideal) Variants.none c none i arg3 harg3 arg4 harg4 arg5 harg5 arg6 harg6 arg7 harg7 arg8 harg8 arg9 harg9
        (harg3.unread x0) (harg4.unread x1) (harg5.unread x2) k w f7 f8 f9).2.2) := by
  have hk : k.val < (i 2).val := lt_of_lt_of_eq k.isLt (trips_eq i)
  have hi : (i 2).val < 4 := (i 2).isLt
  have hn : k.val < 4 := hk.trans hi
  rw [tripL_eq]
  dsimp only
  constructor
  · intro r
    exact ((H.h0 r).step hn (hg 0 r)
      (fun s => scores_row _ _ _ _ _ _ hn hk 0 r s (q0_apply arg3 harg3 x0 r)
        (kAt_apply arg4 harg4 x1 _ _ _ hn 0 (k0_off1_eq i k) s))
      (fun d s => vAt_apply arg5 harg5 x2 _ _ _ hn 0 (k0_off2_eq i k) s d)).congr ((m0_older ..).trans (m0_newest ..)) ((m0_older ..).trans (m0_newest ..)) ((a0_older ..).trans (a0_newest ..))
  · intro r
    exact ((H.h1 r).step hn (hg 1 r)
      (fun s => scores_row _ _ _ _ _ _ hn hk 1 r s (q1_apply arg3 harg3 x0 r)
        (kAt_apply arg4 harg4 x1 _ _ _ hn 1 (k0_off3_eq i k) s))
      (fun d s => vAt_apply arg5 harg5 x2 _ _ _ hn 1 (k0_off4_eq i k) s d)).congr (m1_newest ..) (m1_newest ..) (a1_newest ..)

/-- The sweep. -/
theorem StateAt.sweep (hg : ∀ h r, Good (rowT x0 x1 (i 2).val h r)) (w : BitVec 32)
    {g7 : arg7.view.ty.Contents (Elt Ideal)} {g8 : arg8.view.ty.Contents (Elt Ideal)}
    {g9 : arg9.view.ty.Contents (Elt Ideal)} (H : StateAt i arg7 arg8 arg9 x0 x1 x2 0 g7 g8 g9) :
    ∀ n, n ≤ (k0_t1_loop i).trips → StateAt i arg7 arg8 arg9 x0 x1 x2 n
      (arg7.view.writes (Elt Ideal) g7 (st_k0_t1 (F := Ideal) Variants.none c none i arg3 harg3 arg4 harg4 arg5 harg5 arg6 harg6 arg7 harg7 arg8 harg8 arg9 harg9
        (harg3.unread x0) (harg4.unread x1) (harg5.unread x2) g7 g8 g9 w n).2.1)
      (arg8.view.writes (Elt Ideal) g8 (st_k0_t1 (F := Ideal) Variants.none c none i arg3 harg3 arg4 harg4 arg5 harg5 arg6 harg6 arg7 harg7 arg8 harg8 arg9 harg9
        (harg3.unread x0) (harg4.unread x1) (harg5.unread x2) g7 g8 g9 w n).2.2.1)
      (arg9.view.writes (Elt Ideal) g9 (st_k0_t1 (F := Ideal) Variants.none c none i arg3 harg3 arg4 harg4 arg5 harg5 arg6 harg6 arg7 harg7 arg8 harg8 arg9 harg9
        (harg3.unread x0) (harg4.unread x1) (harg5.unread x2) g7 g8 g9 w n).2.2.2) := by
  intro n
  induction n with
  | zero => intro _; exact H
  | succ n ih =>
    intro hn
    have h := (ih (Nat.le_of_succ_le hn)).trip c arg3 harg3 arg4 harg4 arg5 harg5 arg6 harg6 harg7 harg8 harg9 hg ⟨n, hn⟩
      (st_k0_t1 (F := Ideal) Variants.none c none i arg3 harg3 arg4 harg4 arg5 harg5 arg6 harg6 arg7 harg7 arg8 harg8 arg9 harg9
        (harg3.unread x0) (harg4.unread x1) (harg5.unread x2) g7 g8 g9 w n).1
    rw [st_k0_t1_succ (k := ⟨n, hn⟩)]
    dsimp only at h ⊢
    rw [View.writes_append, View.writes_append, View.writes_append]
    exact h

end Cert.KernelIdeal.Flash

end
-- ==== Proof.Flash.Body.lean ====
/- A query block's result: after the sweep and the masked diagonal block, each row's weighted sum over its sum. -/
module

public import proofs.«01_k».proof.Proof.Gen.KernelIdeal.Frame
public import proofs.«01_k».proof.Proof.Flash.Trips

@[expose] public section

set_option maxRecDepth 16384

noncomputable section

namespace Cert.KernelIdeal.Flash

open Cert.KernelIdeal Cert.KernelIdeal.Gen Cert.Flash Idealize.ShloMosaic Idealize.ShloMosaic.TcCoe Idealize.SL.Sem
open Idealize.ShloMosaic.Pointwise

variable (c : Dev nD) (i : grid0.Coords)
  (arg3 : Memref sig .tc .vmem S1x512x512 .bf16) (harg3 : arg3.IsWhole)
  (arg4 : Memref sig .tc .vmem S1x2048x512 .bf16) (harg4 : arg4.IsWhole)
  (arg5 : Memref sig .tc .vmem S1x2048x256 .bf16) (harg5 : arg5.IsWhole)
  (arg6 : Memref sig .tc .vmem S1x512x256 .bf16) (harg6 : arg6.IsWhole)
  (arg7 : Memref sig .tc .vmem S2x512x1 .f32) (harg7 : arg7.IsWhole)
  (arg8 : Memref sig .tc .vmem S2x512x1 .f32) (harg8 : arg8.IsWhole)
  (arg9 : Memref sig .tc .vmem S2x512x128 .f32) (harg9 : arg9.IsWhole)
  (x0 : Vec Ideal S1x512x512 .bf16) (x1 : Vec Ideal S1x2048x512 .bf16) (x2 : Vec Ideal S1x2048x256 .bf16)

section Payloads

variable (q k : Vec Ideal S1x512x256 .bf16) (m l : Vec Ideal S1x512x1 .f32) (a : Vec Ideal S1x512x128 .f32)
  (v : Vec Ideal S1x512x128 .bf16)

/-! The stored payloads are the steps of Block.lean. -/

theorem pay51_eq : k0_pay51 (k0_pay46 (k0_pay43 q k) m) = outM (masked q k) m := rfl
theorem pay49_eq : k0_pay49 (k0_pay43 q k) m l = outL (masked q k) m l := rfl
theorem pay50_eq : k0_pay50 (k0_pay43 q k) m a v = outA (masked q k) m a v := rfl
theorem pay57_eq : k0_pay57 q k m l = outL (masked q k) m l := rfl
theorem pay58_eq : k0_pay58 (k0_pay55 q k m) (k0_pay56 q k m) a v = outA (masked q k) m a v := rfl
theorem pay60_eq : k0_pay60 a l = outO l a := rfl
theorem pay1_eq : k0_pay1 (k0_pay61 a) (k0_pay62 l) = outO l a := rfl

end Payloads

/-- The first stores: no key seen yet. -/
def I7 : List (View.Piece (Elt Ideal) S2x512x1 .f32) :=
  [⟨Rect.unit ![0, 0, 0] S2x512x1.size Gen.inb_S2x512x1_S2x512x1_0_0_0, k0_pay34 (F := Ideal)⟩]
def I8 : List (View.Piece (Elt Ideal) S2x512x1 .f32) :=
  [⟨Rect.unit ![0, 0, 0] S2x512x1.size Gen.inb_S2x512x1_S2x512x1_0_0_0, k0_pay35 (F := Ideal)⟩]
def I9 : List (View.Piece (Elt Ideal) S2x512x128 .f32) :=
  [⟨Rect.unit ![0, 0, 0] S2x512x128.size Gen.inb_S2x512x128_S2x512x128_0_0_0, k0_pay36 (F := Ideal)⟩]

/-- What the sweep has stored. -/
def swept := st_k0_t1 (F := Ideal) Variants.none c none i arg3 harg3 arg4 harg4 arg5 harg5 arg6 harg6 arg7 harg7 arg8 harg8 arg9 harg9
  (harg3.unread x0) (harg4.unread x1) (harg5.unread x2) (arg7.view.writes (Elt Ideal) arg7.view.junk I7)
  (arg8.view.writes (Elt Ideal) arg8.view.junk I8) (arg9.view.writes (Elt Ideal) arg9.view.junk I9) 0#32
  (Scf.trips 0#32 (Scalar.addi 0#32 (Scalar.muli (Scalar.divsi (Scalar.subi (BitVec.ofNat 32 (i 2).val) 0#32) 1#32) 1#32)) 1#32)

section Last

variable (P7 P8 : List (View.Piece (Elt Ideal) S2x512x1 .f32)) (P9 : List (View.Piece (Elt Ideal) S2x512x128 .f32))

/-- The diagonal block's scores, per head. -/
abbrev d0 : FVec Ideal S512x512 .f32 := masked (q0 arg3 harg3 x0) (kAt arg4 harg4 x1 (k0_off9 i) (k0_off9_inb i))
abbrev d1 : FVec Ideal S512x512 .f32 := masked (q1 arg3 harg3 x0) (kAt arg4 harg4 x1 (k0_off11 i) (k0_off11_inb i))

/-- What the buffers hold after head 0's diagonal block. -/
def H7 : List (View.Piece (Elt Ideal) S2x512x1 .f32) :=
  ⟨Rect.unit ![0, 0, 0] S1x512x1.size Gen.inb_S2x512x1_S1x512x1_0_0_0, outM (d0 i arg3 harg3 arg4 harg4 x0 x1)
    (m0 arg7 (arg7.view.writes (Elt Ideal) arg7.view.junk P7))⟩ :: P7
def H8 : List (View.Piece (Elt Ideal) S2x512x1 .f32) :=
  ⟨Rect.unit ![0, 0, 0] S1x512x1.size Gen.inb_S2x512x1_S1x512x1_0_0_0, outL (d0 i arg3 harg3 arg4 harg4 x0 x1)
    (m0 arg7 (arg7.view.writes (Elt Ideal) arg7.view.junk P7)) (m0 arg8 (arg8.view.writes (Elt Ideal) arg8.view.junk P8))⟩ :: P8
def H9 : List (View.Piece (Elt Ideal) S2x512x128 .f32) :=
  ⟨Rect.unit ![0, 0, 0] S1x512x128.size Gen.inb_S2x512x128_S1x512x128_0_0_0, outA (d0 i arg3 harg3 arg4 harg4 x0 x1)
    (m0 arg7 (arg7.view.writes (Elt Ideal) arg7.view.junk P7)) (a0 arg9 (arg9.view.writes (Elt Ideal) arg9.view.junk P9))
    (vAt arg5 harg5 x2 (k0_off10 i) (k0_off10_inb i))⟩ :: P9

/-- And after head 1's. -/
def G8 : List (View.Piece (Elt Ideal) S2x512x1 .f32) :=
  ⟨Rect.unit ![1, 0, 0] S1x512x1.size Gen.inb_S2x512x1_S1x512x1_1_0_0, outL (d1 i arg3 harg3 arg4 harg4 x0 x1)
    (m1 arg7 (arg7.view.writes (Elt Ideal) arg7.view.junk (H7 i arg3 harg3 arg4 harg4 arg7 x0 x1 P7)))
    (m1 arg8 (arg8.view.writes (Elt Ideal) arg8.view.junk (H8 i arg3 harg3 arg4 harg4 arg7 arg8 x0 x1 P7 P8)))⟩
  :: H8 i arg3 harg3 arg4 harg4 arg7 arg8 x0 x1 P7 P8
def G9 : List (View.Piece (Elt Ideal) S2x512x128 .f32) :=
  ⟨Rect.unit ![1, 0, 0] S1x512x128.size Gen.inb_S2x512x128_S1x512x128_1_0_0, outA (d1 i arg3 harg3 arg4 harg4 x0 x1)
    (m1 arg7 (arg7.view.writes (Elt Ideal) arg7.view.junk (H7 i arg3 harg3 arg4 harg4 arg7 x0 x1 P7)))
    (a1 arg9 (arg9.view.writes (Elt Ideal) arg9.view.junk (H9 i arg3 harg3 arg4 harg4 arg5 harg5 arg7 arg9 x0 x1 x2 P7 P9)))
    (vAt arg5 harg5 x2 (k0_off12 i) (k0_off12_inb i))⟩
  :: H9 i arg3 harg3 arg4 harg4 arg5 harg5 arg7 arg9 x0 x1 x2 P7 P9

/-- The result block's two stores. -/
def outP : List (View.Piece (Elt Ideal) S1x512x256 .bf16) :=
  [⟨Rect.unit ![0, 0, 128] S1x512x128.size Gen.inb_S1x512x256_S1x512x128_0_0_128,
      outO (m1 arg8 (arg8.view.writes (Elt Ideal) arg8.view.junk (G8 i arg3 harg3 arg4 harg4 arg7 arg8 x0 x1 P7 P8)))
        (a1 arg9 (arg9.view.writes (Elt Ideal) arg9.view.junk (G9 i arg3 harg3 arg4 harg4 arg5 harg5 arg7 arg9 x0 x1 x2 P7 P9)))⟩,
   ⟨Rect.unit ![0, 0, 0] S1x512x128.size Gen.inb_S1x512x256_S1x512x128_0_0_0,
      outO (m0 arg8 (arg8.view.writes (Elt Ideal) arg8.view.junk (G8 i arg3 harg3 arg4 harg4 arg7 arg8 x0 x1 P7 P8)))
        (a0 arg9 (arg9.view.writes (Elt Ideal) arg9.view.junk (G9 i arg3 harg3 arg4 harg4 arg5 harg5 arg7 arg9 x0 x1 x2 P7 P9)))⟩]

end Last

/-- The second loop runs no trip. -/
theorem t2_lists (w : BitVec 32) (g7 : arg7.view.ty.Contents (Elt Ideal)) (g8 : arg8.view.ty.Contents (Elt Ideal))
    (g9 : arg9.view.ty.Contents (Elt Ideal)) (w' : BitVec 32) (n : ℕ) :
    st_k0_t2 (F := Ideal) Variants.none c none i arg3 harg3 arg4 harg4 arg5 harg5 arg6 harg6 arg7 harg7 arg8 harg8 arg9 harg9 w'
      (harg3.unread x0) (harg4.unread x1) (harg5.unread x2) g7 g8 g9 w n = (w, [], [], []) := by
  induction n with
  | zero => rfl
  | succ n ih =>
    rw [st_k0_t2.eq_2, ih]
    unfold st_k0_t2Step
    exact dif_neg fun h => absurd h (Nat.not_lt.2 (Nat.le_trans (k0_t2_abs i).2.1 (Nat.zero_le _)))

/-- The result block as stored. -/
theorem out_eq :
    out0_A_3 (F := Ideal) c i arg3 harg3 arg4 harg4 arg5 harg5 arg6 harg6 arg7 harg7 arg8 harg8 arg9 harg9 x0 x1 x2
    = VO0_3.read (Elt Ideal) (VO0_3.writes (Elt Ideal) VO0_3.junk
        (outP i arg3 harg3 arg4 harg4 arg5 harg5 arg7 arg8 arg9 x0 x1 x2
          ((swept c i arg3 harg3 arg4 harg4 arg5 harg5 arg6 harg6 arg7 harg7 arg8 harg8 arg9 harg9 x0 x1 x2).2.1 ++ I7) ((swept c i arg3 harg3 arg4 harg4 arg5 harg5 arg6 harg6 arg7 harg7 arg8 harg8 arg9 harg9 x0 x1 x2).2.2.1 ++ I8) ((swept c i arg3 harg3 arg4 harg4 arg5 harg5 arg6 harg6 arg7 harg7 arg8 harg8 arg9 harg9 x0 x1 x2).2.2.2 ++ I9))) := by
  have hS : swept c i arg3 harg3 arg4 harg4 arg5 harg5 arg6 harg6 arg7 harg7 arg8 harg8 arg9 harg9 x0 x1 x2 = swept c i arg3 harg3 arg4 harg4 arg5 harg5 arg6 harg6 arg7 harg7 arg8 harg8 arg9 harg9 x0 x1 x2 := rfl
  conv at hS => lhs; unfold swept I7 I8 I9
  dsimp only at hS
  unfold out0_A_3 kernelRun0_A outP G8 G9 H7 H8 H9
  dsimp only
  sl_unfold_run_names
  simp only [View.readCov, pay51_eq, pay49_eq, pay50_eq, pay57_eq, pay58_eq, pay60_eq, pay1_eq]
  rw [hS]
  generalize swept c i arg3 harg3 arg4 harg4 arg5 harg5 arg6 harg6 arg7 harg7 arg8 harg8 arg9 harg9 x0 x1 x2 = S
  rw [t2_lists]
  simp only [List.nil_append]
  rfl

theorem pay34_apply (j) : k0_pay34 (F := Ideal) j = (⊥ : EReal) := named_mask
theorem pay35_apply (j) : k0_pay35 (F := Ideal) j = (0 : EReal) := by simp [k0_pay35]; rfl
theorem pay36_apply (j) : k0_pay36 (F := Ideal) j = (0 : EReal) := by simp [k0_pay36]; rfl

/-- Before any key the greatest score is `⊥` and the sums are zero. -/
theorem state_zero : StateAt i arg7 arg8 arg9 x0 x1 x2 0 (arg7.view.writes (Elt Ideal) arg7.view.junk I7)
    (arg8.view.writes (Elt Ideal) arg8.view.junk I8) (arg9.view.writes (Elt Ideal) arg9.view.junk I9) := by
  constructor
  · intro r
    refine ⟨?_, ?_, fun d => ?_⟩
    · refine (View.read_writes_cons_unit_of_mem arg7.view _ _ _ [] _ (ix3 (0 : Fin 2) r (0 : Fin 1)) rfl fun a => ?_).trans ?_
      · fin_cases a <;> simp [ix3]
      · rw [pay34_apply, upto_zero]; rfl
    · refine (View.read_writes_cons_unit_of_mem arg8.view _ _ _ [] _ (ix3 (0 : Fin 2) r (0 : Fin 1)) rfl fun a => ?_).trans ?_
      · fin_cases a <;> simp [ix3]
      · rw [pay35_apply, upto_zero]; rfl
    · refine (View.read_writes_cons_unit_of_mem arg9.view _ _ _ [] _ (ix3 (0 : Fin 2) r d) rfl fun a => ?_).trans ?_
      · fin_cases a <;> simp [ix3]
      · rw [pay36_apply, upto_zero]; rfl
  · intro r
    refine ⟨?_, ?_, fun d => ?_⟩
    · refine (View.read_writes_cons_unit_of_mem arg7.view _ _ _ [] _ (ix3 (1 : Fin 2) r (0 : Fin 1)) rfl fun a => ?_).trans ?_
      · fin_cases a <;> simp [ix3]
      · rw [pay34_apply, upto_zero]; rfl
    · refine (View.read_writes_cons_unit_of_mem arg8.view _ _ _ [] _ (ix3 (1 : Fin 2) r (0 : Fin 1)) rfl fun a => ?_).trans ?_
      · fin_cases a <;> simp [ix3]
      · rw [pay35_apply, upto_zero]; rfl
    · refine (View.read_writes_cons_unit_of_mem arg9.view _ _ _ [] _ (ix3 (1 : Fin 2) r d) rfl fun a => ?_).trans ?_
      · fin_cases a <;> simp [ix3]
      · rw [pay36_apply, upto_zero]; rfl

/-- What the buffers hold when the sweep is over. -/
theorem state_swept (hg : ∀ h r, Good (rowT x0 x1 (i 2).val h r)) :
    StateAt i arg7 arg8 arg9 x0 x1 x2 (i 2).val
      (arg7.view.writes (Elt Ideal) arg7.view.junk ((swept c i arg3 harg3 arg4 harg4 arg5 harg5 arg6 harg6 arg7 harg7 arg8 harg8 arg9 harg9 x0 x1 x2).2.1 ++ I7))
      (arg8.view.writes (Elt Ideal) arg8.view.junk ((swept c i arg3 harg3 arg4 harg4 arg5 harg5 arg6 harg6 arg7 harg7 arg8 harg8 arg9 harg9 x0 x1 x2).2.2.1 ++ I8))
      (arg9.view.writes (Elt Ideal) arg9.view.junk ((swept c i arg3 harg3 arg4 harg4 arg5 harg5 arg6 harg6 arg7 harg7 arg8 harg8 arg9 harg9 x0 x1 x2).2.2.2 ++ I9)) := by
  rw [View.writes_append, View.writes_append, View.writes_append]
  have h := (state_zero i arg7 arg8 arg9 x0 x1 x2).sweep c arg3 harg3 arg4 harg4 arg5 harg5 arg6 harg6 harg7 harg8 harg9 hg 0#32 (k0_t1_loop i).trips le_rfl
  rw [trips_eq i] at h
  have e : swept c i arg3 harg3 arg4 harg4 arg5 harg5 arg6 harg6 arg7 harg7 arg8 harg8 arg9 harg9 x0 x1 x2 = st_k0_t1 (F := Ideal) Variants.none c none i arg3 harg3 arg4 harg4 arg5 harg5 arg6 harg6 arg7 harg7 arg8 harg8 arg9 harg9
    (harg3.unread x0) (harg4.unread x1) (harg5.unread x2) (arg7.view.writes (Elt Ideal) arg7.view.junk I7)
    (arg8.view.writes (Elt Ideal) arg8.view.junk I8) (arg9.view.writes (Elt Ideal) arg9.view.junk I9) 0#32 (i 2).val := by
    rw [← trips_eq i]; rfl
  rw [e]; exact h

/-- The result block: each row's weighted sum over its sum, over the keys up to the diagonal block's last. -/
theorem out_apply (hg : ∀ h r, Good (rowT x0 x1 (i 2).val h r)) (h : Fin 2) (r : Fin 512) (d : Fin 128) :
    out0_A_3 (F := Ideal) c i arg3 harg3 arg4 harg4 arg5 harg5 arg6 harg6 arg7 harg7 arg8 harg8 arg9 harg9 x0 x1 x2
      (ix3 0 r ⟨128 * h.val + d.val, by have := h.isLt; have := d.isLt; omega⟩)
    = Ideal.div (acc (rowT x0 x1 (i 2).val h r) (rowV x2 h d) (upto ((i 2).val + 1)))
        (tot (rowT x0 x1 (i 2).val h r) (upto ((i 2).val + 1))) := by
  have hi : (i 2).val < 4 := (i 2).isLt
  have H := state_swept c i arg3 harg3 arg4 harg4 arg5 harg5 arg6 harg6 arg7 harg7 arg8 harg8 arg9 harg9 x0 x1 x2 hg
  rw [out_eq]
  generalize (swept c i arg3 harg3 arg4 harg4 arg5 harg5 arg6 harg6 arg7 harg7 arg8 harg8 arg9 harg9 x0 x1 x2).2.1 ++ I7 = P7 at H ⊢
  generalize (swept c i arg3 harg3 arg4 harg4 arg5 harg5 arg6 harg6 arg7 harg7 arg8 harg8 arg9 harg9 x0 x1 x2).2.2.1 ++ I8 = P8 at H ⊢
  generalize (swept c i arg3 harg3 arg4 harg4 arg5 harg5 arg6 harg6 arg7 harg7 arg8 harg8 arg9 harg9 x0 x1 x2).2.2.2 ++ I9 = P9 at H ⊢
  have R0 : RowAt (outM (d0 i arg3 harg3 arg4 harg4 x0 x1) (m0 arg7 (arg7.view.writes (Elt Ideal) arg7.view.junk P7)))
      (m0 arg8 (arg8.view.writes (Elt Ideal) arg8.view.junk (G8 i arg3 harg3 arg4 harg4 arg7 arg8 x0 x1 P7 P8)))
      (a0 arg9 (arg9.view.writes (Elt Ideal) arg9.view.junk (G9 i arg3 harg3 arg4 harg4 arg5 harg5 arg7 arg9 x0 x1 x2 P7 P9)))
      (rowT x0 x1 (i 2).val 0 r) (rowV x2 0) r (upto ((i 2).val + 1)) :=
    ((H.h0 r).step hi (hg 0 r)
      (fun s => masked_row _ _ _ _ _ hi 0 r s (q0_apply arg3 harg3 x0 r)
        (kAt_apply arg4 harg4 x1 _ _ _ hi 0 (k0_off9_eq i) s))
      (fun d s => vAt_apply arg5 harg5 x2 _ _ _ hi 0 (k0_off10_eq i) s d)).congr rfl
      ((m0_older ..).trans (m0_newest ..)) ((a0_older ..).trans (a0_newest ..))
  have R1 : RowAt (outM (d1 i arg3 harg3 arg4 harg4 x0 x1) (m1 arg7 (arg7.view.writes (Elt Ideal) arg7.view.junk P7)))
      (m1 arg8 (arg8.view.writes (Elt Ideal) arg8.view.junk (G8 i arg3 harg3 arg4 harg4 arg7 arg8 x0 x1 P7 P8)))
      (a1 arg9 (arg9.view.writes (Elt Ideal) arg9.view.junk (G9 i arg3 harg3 arg4 harg4 arg5 harg5 arg7 arg9 x0 x1 x2 P7 P9)))
      (rowT x0 x1 (i 2).val 1 r) (rowV x2 1) r (upto ((i 2).val + 1)) := by
    refine ((H.h1 r).step hi (hg 1 r)
      (fun s => masked_row _ _ _ _ _ hi 1 r s (q1_apply arg3 harg3 x0 r)
        (kAt_apply arg4 harg4 x1 _ _ _ hi 1 (k0_off11_eq i) s))
      (fun d s => vAt_apply arg5 harg5 x2 (k0_off12 i) (k0_off12_inb i) _ hi 1 (k0_off12_eq i) s d)).congr (a := outA (d1 i arg3 harg3 arg4 harg4 x0 x1) (m1 arg7 (arg7.view.writes (Elt Ideal) arg7.view.junk P7)) (a1 arg9 (arg9.view.writes (Elt Ideal) arg9.view.junk P9)) (vAt arg5 harg5 x2 (k0_off12 i) (k0_off12_inb i))) rfl ?_ ?_
    · refine (m1_newest ..).trans ?_
      rw [H7, H8, m1_older, m1_older]
    · refine (a1_newest ..).trans ?_
      rw [H7, H9, m1_older, a1_older]
  unfold outP
  fin_cases h
  · refine (View.read_writes_cons_unit_of_not_mem VO0_3 _ _ _ _ _ rfl (2 : Fin 3) (.inl ?_)).trans
      ((View.read_writes_cons_unit_of_mem VO0_3 _ _ _ _ _ (ix3 (0 : Fin 1) r d) rfl fun a => ?_).trans ?_)
    · show 128 * 0 + d.val < 128
      have := d.isLt; omega
    · fin_cases a <;> simp [ix3]
    · rw [outO_apply, R0.l, R0.a]; rfl
  · refine (View.read_writes_cons_unit_of_mem VO0_3 _ _ _ _ _ (ix3 (0 : Fin 1) r d) rfl fun a => ?_).trans ?_
    · fin_cases a <;> simp [ix3]
    · rw [outO_apply, R1.l, R1.a]; rfl

end Cert.KernelIdeal.Flash

end
-- ==== Proof.Flash.Reference.lean ====
/- What the reference computes at an index: the causal softmax of the scaled scores, applied to the values. -/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Flash

open Cert.ReferenceIdeal Cert.ReferenceIdeal.Gen Cert.ReferenceIdeal.Read Idealize.ShloMosaic Idealize.ShloMosaic.TcCoe
  Idealize.SL.Sem
open Idealize.ShloMosaic.Pointwise

variable (x0 x1 : (⟨S8x2048x1024, .bf16⟩ : BufTy).Contents (Elt Ideal)) (x2 : (⟨S8x2048x512, .bf16⟩ : BufTy).Contents (Elt Ideal))

/-- The product of query row `r` and key row `s` of head `h`. -/
def dotQK (b : Fin 8) (h : Fin 4) (r s : Fin 2048) : EReal :=
  ∑ d : Fin 256, (x0 (ix3 b r ⟨256 * h.val + d.val, by have := h.isLt; have := d.isLt; omega⟩) : EReal)
    * x1 (ix3 b s ⟨256 * h.val + d.val, by have := h.isLt; have := d.isLt; omega⟩)

/-- The masked scores. -/
def refS (b : Fin 8) (h : Fin 4) (r s : Fin 2048) : EReal :=
  if s ≤ r then Ideal.div (dotQK x0 x1 b h r s) (Ideal.sqrt (Ideal.ofBits .f32 0x43400000#32)) else ⊥

/-- Merging the heads' columns: column `256 * h + d` is head `h`'s `d`. -/
theorem idx1_eq (b : Fin 8) (r : Fin 2048) (h : Fin 4) (d : Fin 256) :
    idx_main_v1 (ix4 b r h d) = ix3 b r ⟨256 * h.val + d.val, by have := h.isLt; have := d.isLt; omega⟩ := by
  funext a
  have hb := b.isLt; have hr := r.isLt; have hh := h.isLt; have hd := d.isLt
  fin_cases a <;> refine Fin.ext ?_
  · show (((b.val * 2048 + r.val) * 4 + h.val) * 256 + d.val) / 2097152 = b.val
    omega
  · show (((b.val * 2048 + r.val) * 4 + h.val) * 256 + d.val) / 1024 % 2048 = r.val
    omega
  · show (((b.val * 2048 + r.val) * 4 + h.val) * 256 + d.val) % 1024 = 256 * h.val + d.val
    omega

theorem idx5_eq (b : Fin 8) (r : Fin 2048) (h : Fin 4) (d : Fin 128) :
    idx_main_v5 (ix4 b r h d) = ix3 b r ⟨128 * h.val + d.val, by have := h.isLt; have := d.isLt; omega⟩ := by
  funext a
  have hb := b.isLt; have hr := r.isLt; have hh := h.isLt; have hd := d.isLt
  fin_cases a <;> refine Fin.ext ?_
  · show (((b.val * 2048 + r.val) * 4 + h.val) * 128 + d.val) / 1048576 = b.val
    omega
  · show (((b.val * 2048 + r.val) * 4 + h.val) * 128 + d.val) / 512 % 2048 = r.val
    omega
  · show (((b.val * 2048 + r.val) * 4 + h.val) * 128 + d.val) % 512 = 128 * h.val + d.val
    omega

theorem idx30_eq (b : Fin 8) (r : Fin 2048) (h : Fin 4) (d : Fin 128) :
    idx_main_v30 (ix3 b r ⟨128 * h.val + d.val, by have := h.isLt; have := d.isLt; omega⟩) = ix4 b r h d := by
  funext a
  have hb := b.isLt; have hr := r.isLt; have hh := h.isLt; have hd := d.isLt
  fin_cases a <;> refine Fin.ext ?_
  · show ((b.val * 2048 + r.val) * 512 + (128 * h.val + d.val)) / 1048576 = b.val
    omega
  · show ((b.val * 2048 + r.val) * 512 + (128 * h.val + d.val)) / 512 % 2048 = r.val
    omega
  · show ((b.val * 2048 + r.val) * 512 + (128 * h.val + d.val)) / 128 % 4 = h.val
    omega
  · show ((b.val * 2048 + r.val) * 512 + (128 * h.val + d.val)) % 128 = d.val
    omega

theorem v6_apply (b : Fin 8) (h : Fin 4) (r s : Fin 2048) :
    val_main_v6 (F := Ideal) x0 x1 (ix4 b h r s) = dotQK x0 x1 b h r s := by
  rw [val_main_v6_apply, dotQK]
  refine Finset.sum_congr rfl fun d _ => ?_
  have el : lidx_main_v6 (ix4 b h r s) d = ix4 b r h d := by funext a; fin_cases a <;> rfl
  have er : ridx_main_v6 (ix4 b h r s) d = ix4 b s h d := by funext a; fin_cases a <;> rfl
  rw [el, er, val_main_v1_apply, val_main_v3_apply, val_main_v0_apply, val_main_v2_apply]
  rw [idx1_eq, show idx_main_v3 (ix4 b s h d) = _ from idx1_eq b s h d]
  rfl

theorem v16_apply (b : Fin 8) (h : Fin 4) (r s : Fin 2048) :
    val_main_v16 (F := Ideal) x0 x1 (ix4 b h r s) = refS x0 x1 b h r s := by
  rw [val_main_v16_apply, val_main_v9_apply, v6_apply]
  pointwise [val_main_call0_v1, val_main_call0_v2, val_main_v8, val_main_v15, val_main_call0_v0, val_main_v7, val_main_cst,
    val_main_v13, val_main_v14, val_main_v12, val_main_v11, val_main_v10, val_main_cst_0]
  have e : (IntOp.cmpi CmpIPredicate.sle (BitVec.ofNat 32 ↑s) (BitVec.ofNat 32 ↑r) = 1) ↔ s ≤ r :=
    (WordCmp.cmpi_sle_ofNat_eq_one_iff (by have := s.isLt; omega) (by have := r.isLt; omega)).trans Iff.rfl
  have eb : (id (constant (F := Ideal) S_ FTy.f32 0xFF800000#32) ix0 : EReal) = ⊥ := by
    show Ideal.ofBits .f32 0xFF800000#32 = ⊥
    simp [Ideal.ofBits, Ideal.ieee]
  unfold Scalar.select refS
  simp only [e, eb]

theorem fold_max_sup {n : ℕ} (f : Fin n → EReal) : (Finset.univ.fold max ⊥ f) = Finset.univ.sup f := rfl

theorem v17_apply (b : Fin 8) (h : Fin 4) (r : Fin 2048) :
    val_main_v17 (F := Ideal) x0 x1 (ix3 b h r) = Finset.univ.sup fun s => refS x0 x1 b h r s := by
  simp only [← v16_apply]
  pointwise [val_main_v17]
  have eb : (val_main_cst_1 (F := Ideal) (Shape.Idx.first h_S_) : EReal) = ⊥ := by
    show Ideal.ofBits .f32 0xFF800000#32 = ⊥
    simp [Ideal.ofBits, Ideal.ieee]
  rw [eb]
  exact fold_max_sup _

/-- The row's largest score. -/
theorem v21_apply (b : Fin 8) (h : Fin 4) (r s : Fin 2048) :
    val_main_v21 (F := Ideal) x0 x1 (ix4 b h r s) = Finset.univ.sup fun s => refS x0 x1 b h r s := by
  have e1 : idx_main_v20 (idx_main_v21 (ix4 b h r s)) = ix3 b h r := by funext a; fin_cases a <;> rfl
  have eb : (FloatOps.ofBits (F := Ideal) .f32 0xFF800000#32 : EReal) = ⊥ := by
    show Ideal.ofBits .f32 0xFF800000#32 = ⊥
    simp [Ideal.ofBits, Ideal.ieee]
  rw [val_main_v21_apply, val_main_v20_apply, e1, val_main_v19_apply, v17_apply, val_main_v18_apply,
    val_main_cst_2_apply, eb]
  exact max_eq_right (bot_le (α := EReal))

/-- A row's weights before they are divided by their sum. -/
theorem v23_apply (b : Fin 8) (h : Fin 4) (r s : Fin 2048) :
    val_main_v23 (F := Ideal) x0 x1 (ix4 b h r s)
      = Ideal.exp (refS x0 x1 b h r s - Finset.univ.sup fun s => refS x0 x1 b h r s) := by
  rw [val_main_v23_apply, val_main_v22_apply, v16_apply, v21_apply]
  generalize refS x0 x1 b h r s = x
  generalize (Finset.univ.sup fun s => refS x0 x1 b h r s) = y
  rfl

/-- The row's sum of weights. -/
theorem v26_apply (b : Fin 8) (h : Fin 4) (r s : Fin 2048) :
    val_main_v26 (F := Ideal) x0 x1 (ix4 b h r s)
      = ∑ s, Ideal.exp (refS x0 x1 b h r s - Finset.univ.sup fun s => refS x0 x1 b h r s) := by
  have e1 : idx_main_v25 (idx_main_v26 (ix4 b h r s)) = ix3 b h r := by funext a; fin_cases a <;> rfl
  have ei : ∀ k, idx_main_v24 (ix3 b h r) k = ix4 b h r k := fun k => by funext a; fin_cases a <;> rfl
  have e0 : (FloatOps.ofBits (F := Ideal) .f32 0x00000000#32 : EReal) = 0 := by
    show Ideal.ofBits .f32 0x00000000#32 = 0
    simp [Ideal.ofBits, Ideal.ieee]
  rw [val_main_v26_apply, val_main_v25_apply, e1, val_main_v24_apply, val_main_cst_3_apply, e0]
  refine (zero_add (M := EReal) _).trans (Finset.sum_congr rfl fun k _ => ?_)
  rw [ei, v23_apply]

/-- The result at row `r`, head `h`, column `d`. -/
theorem v31_apply (b : Fin 8) (h : Fin 4) (r : Fin 2048) (d : Fin 128) :
    val_main_v31 (F := Ideal) x0 x1 x2 (ix3 b r ⟨128 * h.val + d.val, by have := h.isLt; have := d.isLt; omega⟩)
      = ∑ s : Fin 2048, (x2 (ix3 b s ⟨128 * h.val + d.val, by have := h.isLt; have := d.isLt; omega⟩) : EReal)
        * Ideal.div (Ideal.exp (refS x0 x1 b h r s - Finset.univ.sup fun s => refS x0 x1 b h r s))
          (∑ s, Ideal.exp (refS x0 x1 b h r s - Finset.univ.sup fun s => refS x0 x1 b h r s)) := by
  have e29 : idx_main_v29 (ix4 b r h d) = ix4 b h d r := by funext a; fin_cases a <;> rfl
  have el : ∀ s, lidx_main_v28 (ix4 b h d r) s = ix4 b s h d := fun s => by funext a; fin_cases a <;> rfl
  have er : ∀ s, ridx_main_v28 (ix4 b h d r) s = ix4 b h r s := fun s => by funext a; fin_cases a <;> rfl
  rw [val_main_v31_apply, val_main_v30_apply, idx30_eq, val_main_v29_apply, e29, val_main_v28_apply]
  refine Finset.sum_congr (M := EReal) rfl fun s _ => ?_
  rw [el, er, val_main_v5_apply, idx5_eq, val_main_v4_apply, val_main_v27_apply, v23_apply, v26_apply]
  generalize Ideal.exp _ = x
  generalize (∑ s, Ideal.exp (refS x0 x1 b h r s - Finset.univ.sup fun s => refS x0 x1 b h r s)) = y
  rfl

end Cert.ReferenceIdeal.Flash

end
-- ==== Proof.Flash.Equation.lean ====
/- The kernel's base-2 weights beside the softmax's base-e ones: with the scores divided by `log 2` they are the same
   numbers, so the swept sums divided are the softmax applied to the values. -/
module

public import proofs.«01_k».proof.Proof.Flash.Online

@[expose] public section

noncomputable section

namespace Cert.Flash

open Idealize.ShloMosaic

variable {ι : Type} [Fintype ι] [DecidableEq ι] (p : ι → Prop) [DecidablePred p] (y : ι → ℝ) (v : ι → EReal)

/-- Masked scores, as the softmax takes them. -/
def natS : ι → EReal := fun s => if p s then (y s : EReal) else ⊥

/-- The same scores, as the base-2 sweep takes them. -/
def twoS : ι → EReal := fun s => if p s then ((y s * (Real.log 2)⁻¹ : ℝ) : EReal) else ⊥

theorem twoS_good : Good (twoS p y) := fun s => by
  unfold twoS
  split
  · exact .inr ⟨_, rfl⟩
  · exact .inl rfl

variable {p} in
/-- The greatest score is a real number, and the two greatest ones correspond. -/
theorem tops {s0 : ι} (h0 : p s0) :
    ∃ M : ℝ, Finset.univ.sup (natS p y) = (M : EReal)
      ∧ top (twoS p y) Finset.univ = ((M * (Real.log 2)⁻¹ : ℝ) : EReal) := by
  have hc : 0 < (Real.log 2)⁻¹ := inv_pos.mpr (Real.log_pos (by norm_num))
  have hn0 : natS p y s0 = (y s0 : EReal) := if_pos h0
  obtain ⟨k, _, hk⟩ := Finset.exists_mem_eq_sup Finset.univ ⟨s0, Finset.mem_univ s0⟩ (natS p y)
  have hle : ∀ s, natS p y s ≤ natS p y k := fun s => hk ▸ Finset.le_sup (Finset.mem_univ s)
  have hpk : p k := by
    by_contra hnk
    have := hle s0
    rw [hn0, show natS p y k = ⊥ from if_neg hnk, le_bot_iff] at this
    exact EReal.coe_ne_bot _ this
  have hkv : natS p y k = (y k : EReal) := if_pos hpk
  refine ⟨y k, hk.trans hkv, le_antisymm (Finset.sup_le fun s _ => ?_) ?_⟩
  · unfold twoS
    split
    · rename_i hs
      have := hle s
      rw [hkv, show natS p y s = (y s : EReal) from if_pos hs, EReal.coe_le_coe_iff] at this
      exact EReal.coe_le_coe_iff.mpr (mul_le_mul_of_nonneg_right this hc.le)
    · exact bot_le
  · refine le_trans (le_of_eq ?_) (Finset.le_sup (f := twoS p y) (Finset.mem_univ k))
    exact (if_pos hpk).symm

/-- The two weights. -/
theorem weights (M : ℝ) (s : ι) :
    wt (twoS p y s) ((M * (Real.log 2)⁻¹ : ℝ) : EReal) = Ideal.exp (natS p y s - (M : EReal)) := by
  have hl : Real.log 2 ≠ 0 := (Real.log_pos (by norm_num)).ne'
  unfold twoS natS
  split
  · rw [wt_coe, ← EReal.coe_sub]
    show _ = ((Real.exp (y s - M) : ℝ) : EReal)
    congr 1
    show (2 : ℝ) ^ (y s * (Real.log 2)⁻¹ - M * (Real.log 2)⁻¹) = _
    rw [Real.rpow_def_of_pos (by norm_num)]
    congr 1
    field_simp
  · rw [wt_bot, EReal.bot_sub]
    rfl

/-- The sweep's result over a set that holds every unmasked key is the softmax applied to the values. -/
theorem sweep_eq_softmax {s0 : ι} (h0 : p s0) (J : Finset ι) (hJ : ∀ s, s ∉ J → ¬ p s) :
    Ideal.div (acc (twoS p y) v J) (tot (twoS p y) J)
      = ∑ s, v s * Ideal.div (Ideal.exp (natS p y s - Finset.univ.sup (natS p y)))
          (∑ s, Ideal.exp (natS p y s - Finset.univ.sup (natS p y))) := by
  have hm : ∀ s ∈ (Finset.univ : Finset ι), s ∉ J → twoS p y s = ⊥ := fun s _ hs => if_neg (hJ s hs)
  obtain ⟨M, hM, hT⟩ := tops y h0
  have hne : twoS p y s0 ≠ ⊥ := by rw [show twoS p y s0 = _ from if_pos h0]; exact EReal.coe_ne_bot _
  have ea : acc (twoS p y) v Finset.univ = acc (twoS p y) v J := acc_of_masked v (Finset.subset_univ J) hm
  have et : tot (twoS p y) Finset.univ = tot (twoS p y) J := tot_of_masked (Finset.subset_univ J) hm
  rw [← ea, ← et, acc_div v (twoS_good p y) (Finset.mem_univ s0) hne]
  have ht : tot (twoS p y) Finset.univ = ∑ s, Ideal.exp (natS p y s - (M : EReal)) := by
    rw [tot, hT]
    exact Finset.sum_congr rfl fun s _ => weights p y M s
  rw [ht, hT, hM]
  exact Finset.sum_congr rfl fun s _ => by rw [weights, mul_comm]

end Cert.Flash

end
-- ==== Proof.Flash.Scores.lean ====
/- Finite queries and keys give real scores: the reference's masked scores and the sweep's base-2 ones, both from one real
   number per key. -/
module

public import proofs.«01_k».proof.Proof.Flash.Body
public import proofs.«01_k».proof.Proof.Flash.Reference
public import proofs.«01_k».proof.Proof.Flash.Equation

@[expose] public section

set_option maxRecDepth 16384

noncomputable section

namespace Cert.Flash

open Idealize.ShloMosaic Idealize.ShloMosaic.TcCoe Idealize.SL.Sem
open Idealize.ShloMosaic.Pointwise

theorem coe_sum {ι : Type} (J : Finset ι) (f : ι → ℝ) : ((∑ s ∈ J, f s : ℝ) : EReal) = ∑ s ∈ J, (f s : EReal) := by
  classical
  induction J using Finset.induction_on with
  | empty => simp
  | insert a J h ih => rw [Finset.sum_insert h, Finset.sum_insert h, EReal.coe_add, ih]

/-- A sum of products of real numbers. -/
theorem sum_real {n : ℕ} (f g : Fin n → EReal) (hf : ∀ d, ∃ r : ℝ, f d = (r : EReal)) (hg : ∀ d, ∃ r : ℝ, g d = (r : EReal)) :
    ∃ r : ℝ, ∑ d, f d * g d = (r : EReal) := by
  choose a ha using hf
  choose b hb using hg
  refine ⟨∑ d, a d * b d, ?_⟩
  rw [coe_sum]
  exact Finset.sum_congr rfl fun d _ => by rw [ha, hb, EReal.coe_mul]

theorem bits_192 : (Ideal.ofBits .f32 0x43400000#32 : EReal) = ((192 : ℝ) : EReal) := by
  simp [Ideal.ofBits, Ideal.ieee, -EReal.coe_mul]; norm_num

/-- The reference's division. -/
theorem div_sqrt (z : ℝ) : Ideal.div (z : EReal) (Ideal.sqrt (Ideal.ofBits .f32 0x43400000#32))
    = ((z * (Real.sqrt 192)⁻¹ : ℝ) : EReal) := by
  have h0 : Real.sqrt 192 ≠ 0 := (Real.sqrt_pos.mpr (by norm_num)).ne'
  have hs : Ideal.sqrt ((192 : ℝ) : EReal) = ((Real.sqrt 192 : ℝ) : EReal) := by
    rw [Ideal.sqrt_coe]
    exact if_neg (by norm_num)
  rw [bits_192, hs, Ideal.div_coe h0, one_div, EReal.coe_mul]

/-- The kernel's scaling. -/
theorem mul_cst (z : ℝ) : (z : EReal) * Cert.KernelIdeal.Flash.cst = ((z * (Real.sqrt 192)⁻¹ * (Real.log 2)⁻¹ : ℝ) : EReal) := by
  unfold Cert.KernelIdeal.Flash.cst
  rw [← EReal.coe_mul, mul_assoc]

/-- The products of one query row with every key row are real numbers. -/
theorem dots_real (q k : (⟨Cert.ReferenceIdeal.S8x2048x1024, .bf16⟩ : BufTy).Contents (Elt Ideal))
    (hq : ∀ i, ∃ r : ℝ, (q i : EReal) = (r : EReal)) (hk : ∀ i, ∃ r : ℝ, (k i : EReal) = (r : EReal))
    (b : Fin 8) (h : Fin 4) (r : Fin 2048) :
    ∃ z : Fin 2048 → ℝ, ∀ s, Cert.ReferenceIdeal.Flash.dotQK q k b h r s = (z s : EReal) := by
  choose z hz using fun s => sum_real (fun d : Fin 256 => q (ix3 b r ⟨256 * h.val + d.val, by have := h.isLt; have := d.isLt; omega⟩))
    (fun d : Fin 256 => k (ix3 b s ⟨256 * h.val + d.val, by have := h.isLt; have := d.isLt; omega⟩))
    (fun d => hq _) (fun d => hk _)
  exact ⟨z, fun s => hz s⟩

theorem refS_eq (q k : (⟨Cert.ReferenceIdeal.S8x2048x1024, .bf16⟩ : BufTy).Contents (Elt Ideal))
    (b : Fin 8) (h : Fin 4) (r : Fin 2048) (z : Fin 2048 → ℝ)
    (hz : ∀ s, Cert.ReferenceIdeal.Flash.dotQK q k b h r s = (z s : EReal)) :
    (fun s => Cert.ReferenceIdeal.Flash.refS q k b h r s) = natS (fun s => s ≤ r) fun s => z s * (Real.sqrt 192)⁻¹ := by
  funext s
  unfold Cert.ReferenceIdeal.Flash.refS natS
  rw [hz, div_sqrt]

end Cert.Flash

end
-- ==== Proof.Flash.Array.lean ====
/- The kernel's result array beside the reference's: block by block, each entry of a block is the swept sums divided, the
   softmax applied to the values. -/
module

public import proofs.«01_k».proof.Proof.Gen.KernelIdeal.Value
public import proofs.«01_k».proof.Proof.Flash.Scores

@[expose] public section

set_option maxRecDepth 16384

noncomputable section

namespace Cert.KernelIdeal.Flash

open Cert.KernelIdeal Cert.KernelIdeal.Gen Cert.KernelIdeal.Value Cert.Flash Idealize.ShloMosaic Idealize.ShloMosaic.TcCoe
  Idealize.SL.Sem
open Idealize.ShloMosaic.Pointwise

/-- Where the grid point's blocks stand: batch `t / 8`, head pair `t / 4 % 2`, query block `t % 4`. -/
theorem where_coord : ∀ t : Fin cfg0.N, (grid0.coords t 2).val = t.val % 4 := (by decide +kernel : ∀ t : Fin grid0.N, _)

theorem where_q : ∀ t : Fin cfg0.N, win0_0.index t (0 : Fin 3) = t.val / 8 ∧ win0_0.index t (1 : Fin 3) = t.val % 4
    ∧ win0_0.index t (2 : Fin 3) = t.val / 4 % 2 := (by decide +kernel : ∀ t : Fin grid0.N, _)

theorem where_k : ∀ t : Fin cfg0.N, win0_1.index t (0 : Fin 3) = t.val / 8 ∧ win0_1.index t (1 : Fin 3) = 0
    ∧ win0_1.index t (2 : Fin 3) = t.val / 4 % 2 := (by decide +kernel : ∀ t : Fin grid0.N, _)

theorem where_v : ∀ t : Fin cfg0.N, win0_2.index t (0 : Fin 3) = t.val / 8 ∧ win0_2.index t (1 : Fin 3) = 0
    ∧ win0_2.index t (2 : Fin 3) = t.val / 4 % 2 := (by decide +kernel : ∀ t : Fin grid0.N, _)

theorem where_o : ∀ t : Fin cfg0.N, win0_3.index t (0 : Fin 3) = t.val / 8 ∧ win0_3.index t (1 : Fin 3) = t.val % 4
    ∧ win0_3.index t (2 : Fin 3) = t.val / 4 % 2 := (by decide +kernel : ∀ t : Fin grid0.N, _)

theorem n_points (t : Fin cfg0.N) : t.val < 64 := t.isLt

/-- The batch, the head and the row of the array that a point's local head and row are. -/
def batch (t : Fin cfg0.N) : Fin 8 := ⟨t.val / 8, by have := n_points t; omega⟩
def head (t : Fin cfg0.N) (h : Fin 2) : Fin 4 := ⟨2 * (t.val / 4 % 2) + h.val, by have := h.isLt; omega⟩
def row (t : Fin cfg0.N) (r : Fin 512) : Fin 2048 := ⟨512 * (t.val % 4) + r.val, by have := r.isLt; omega⟩

variable (m : (ℓ : Loc nD τ sig) → Buf (Elt Ideal) ℓ) (c : Dev nD)

/-- The argument arrays. -/
abbrev argQ : S8x2048x1024.Idx → EReal := m ((c : Thread nD τ).loc main_arg0)
abbrev argK : S8x2048x1024.Idx → EReal := m ((c : Thread nD τ).loc main_arg1)
abbrev argV : S8x2048x512.Idx → EReal := m ((c : Thread nD τ).loc main_arg2)

/-- The point's blocks of queries and keys. -/
def blkQ (t : Fin cfg0.N) : S1x512x512.Idx → EReal := iblk m c 0 t
def blkK (t : Fin cfg0.N) : S1x2048x512.Idx → EReal := iblk m c 1 t

theorem iblkQ_apply (t : Fin cfg0.N) (r : Fin 512) (h : Fin 2) (d : Fin 256) :
    blkQ m c t (ix3 0 r ⟨256 * h.val + d.val, by have := h.isLt; have := d.isLt; omega⟩)
      = argQ m c (ix3 (batch t) (row t r) ⟨256 * (head t h).val + d.val, by have := (head t h).isLt; have := d.isLt; omega⟩) := by
  show (V m c main_arg0 : S8x2048x1024.Idx → EReal) (((cfg0.win 0).blk t).view.emb _) = _
  rw [V_main_arg0]
  refine congrArg (argQ m c) ?_
  obtain ⟨e0, e1, e2⟩ := where_q t
  funext a; apply Fin.ext
  match a with
  | ⟨0, _⟩ => show win0_0.index t (0 : Fin 3) * 1 + 1 * 0 = t.val / 8; omega
  | ⟨1, _⟩ => show win0_0.index t (1 : Fin 3) * 512 + 1 * r.val = 512 * (t.val % 4) + r.val; omega
  | ⟨2, _⟩ =>
    show win0_0.index t (2 : Fin 3) * 512 + 1 * (256 * h.val + d.val) = 256 * (2 * (t.val / 4 % 2) + h.val) + d.val
    omega

theorem iblkK_apply (t : Fin cfg0.N) (s : Fin 2048) (h : Fin 2) (d : Fin 256) :
    blkK m c t (ix3 0 s ⟨256 * h.val + d.val, by have := h.isLt; have := d.isLt; omega⟩)
      = argK m c (ix3 (batch t) s ⟨256 * (head t h).val + d.val, by have := (head t h).isLt; have := d.isLt; omega⟩) := by
  show (V m c main_arg1 : S8x2048x1024.Idx → EReal) (((cfg0.win 1).blk t).view.emb _) = _
  rw [V_main_arg1]
  refine congrArg (argK m c) ?_
  obtain ⟨e0, e1, e2⟩ := where_k t
  funext a; apply Fin.ext
  match a with
  | ⟨0, _⟩ => show win0_1.index t (0 : Fin 3) * 1 + 1 * 0 = t.val / 8; omega
  | ⟨1, _⟩ => show win0_1.index t (1 : Fin 3) * 2048 + 1 * s.val = s.val; omega
  | ⟨2, _⟩ =>
    show win0_1.index t (2 : Fin 3) * 512 + 1 * (256 * h.val + d.val) = 256 * (2 * (t.val / 4 % 2) + h.val) + d.val
    omega

theorem iblkV_apply (t : Fin cfg0.N) (s : Fin 2048) (h : Fin 2) (d : Fin 128) :
    (iblk m c 2 t : S1x2048x256.Idx → EReal) (ix3 0 s ⟨128 * h.val + d.val, by have := h.isLt; have := d.isLt; omega⟩)
      = argV m c (ix3 (batch t) s ⟨128 * (head t h).val + d.val, by have := (head t h).isLt; have := d.isLt; omega⟩) := by
  show (V m c main_arg2 : S8x2048x512.Idx → EReal) (((cfg0.win 2).blk t).view.emb _) = _
  rw [V_main_arg2]
  refine congrArg (argV m c) ?_
  obtain ⟨e0, e1, e2⟩ := where_v t
  funext a; apply Fin.ext
  match a with
  | ⟨0, _⟩ => show win0_2.index t (0 : Fin 3) * 1 + 1 * 0 = t.val / 8; omega
  | ⟨1, _⟩ => show win0_2.index t (1 : Fin 3) * 2048 + 1 * s.val = s.val; omega
  | ⟨2, _⟩ =>
    show win0_2.index t (2 : Fin 3) * 256 + 1 * (128 * h.val + d.val) = 128 * (2 * (t.val / 4 % 2) + h.val) + d.val
    omega

theorem embO (t : Fin cfg0.N) (r : Fin 512) (h : Fin 2) (d : Fin 128) :
    ((cfg0.win 3).blk t).view.emb
        (ix3 0 r ⟨128 * h.val + d.val, by have := h.isLt; have := d.isLt; omega⟩ : S1x512x256.Idx)
      = (ix3 (batch t) (row t r) ⟨128 * (head t h).val + d.val, by have := (head t h).isLt; have := d.isLt; omega⟩ :
          S8x2048x512.Idx) := by
  obtain ⟨e0, e1, e2⟩ := where_o t
  funext a; apply Fin.ext
  match a with
  | ⟨0, _⟩ => show win0_3.index t (0 : Fin 3) * 1 + 1 * 0 = t.val / 8; omega
  | ⟨1, _⟩ => show win0_3.index t (1 : Fin 3) * 512 + 1 * r.val = 512 * (t.val % 4) + r.val; omega
  | ⟨2, _⟩ =>
    show win0_3.index t (2 : Fin 3) * 256 + 1 * (128 * h.val + d.val) = 128 * (2 * (t.val / 4 % 2) + h.val) + d.val
    omega

/-- A point's base-2 scores are those of its row of the arrays. -/
theorem rowT_eq (t : Fin cfg0.N) (h : Fin 2) (r : Fin 512) (z : Fin 2048 → ℝ)
    (hz : ∀ s, Cert.ReferenceIdeal.Flash.dotQK (argQ m c) (argK m c) (batch t) (head t h) (row t r) s = (z s : EReal)) :
    rowT (iblk m c 0 t) (iblk m c 1 t) (grid0.coords t 2).val h r
      = twoS (fun s => s ≤ row t r) fun s => z s * (Real.sqrt 192)⁻¹ := by
  funext s
  have e : (∑ d : Fin 256, blkQ m c t (ix3 0 r ⟨256 * h.val + d.val, by have := h.isLt; have := d.isLt; omega⟩)
      * blkK m c t (ix3 0 s ⟨256 * h.val + d.val, by have := h.isLt; have := d.isLt; omega⟩))
      = (z s : EReal) := by
    rw [← hz s]
    exact Finset.sum_congr rfl fun d _ => by rw [iblkQ_apply, iblkK_apply]
  have hp : (s.val ≤ 512 * (grid0.coords t 2).val + r.val) ↔ s ≤ row t r := by rw [where_coord]; rfl
  unfold rowT twoS
  simp only [hp]
  refine if_congr Iff.rfl ?_ rfl
  exact (congrArg (· * cst) e).trans (mul_cst _)

/-- Every index of a block, by its row, head and column. -/
theorem split_o (j : S1x512x256.Idx) : ∃ (r : Fin 512) (h : Fin 2) (d : Fin 128),
    j = ix3 0 r ⟨128 * h.val + d.val, by have := h.isLt; have := d.isLt; omega⟩ := by
  have h0 : (j 0).val < 1 := (j 0).isLt
  have h1 : (j 1).val < 512 := (j 1).isLt
  have h2 : (j 2).val < 256 := (j 2).isLt
  refine ⟨⟨(j 1).val, h1⟩, ⟨(j 2).val / 128, by omega⟩, ⟨(j 2).val % 128, by omega⟩, ?_⟩
  funext a; apply Fin.ext
  match a with
  | ⟨0, _⟩ => show (j 0).val = 0; omega
  | ⟨1, _⟩ => rfl
  | ⟨2, _⟩ => show (j 2).val = 128 * ((j 2).val / 128) + (j 2).val % 128; omega

/-- The reference's result of the argument arrays. -/
abbrev want : S8x2048x512.Idx → EReal :=
  Cert.ReferenceIdeal.Read.val_main_v31 (F := Ideal) (argQ m c) (argK m c) (argV m c)

variable (hq : ∀ i, ∃ r : ℝ, argQ m c i = (r : EReal)) (hk : ∀ i, ∃ r : ℝ, argK m c i = (r : EReal))
include hq hk

/-- What a point writes back is its block of the reference's result. -/
theorem flushed_eq (t : Fin cfg0.N) :
    (dats m 0 c).flushed 3 t = ((cfg0.win 3).blk t).view.read (Elt Ideal) (want m c) := by
  rw [flushed3_A]
  refine funext fun (j : S1x512x256.Idx) => ?_
  obtain ⟨r, h, d, rfl⟩ := split_o j
  show out0_A_3 (F := Ideal) c _ _ _ _ _ _ _ _ _ _ _ _ _ _ _ _ _ _ _ = want m c (((cfg0.win 3).blk t).view.emb _)
  rw [embO]
  have hgood : ∀ h r, Good (rowT (iblk m c 0 t) (iblk m c 1 t) (grid0.coords t 2).val h r) := fun h r => by
    obtain ⟨z, hz⟩ := dots_real (argQ m c) (argK m c) hq hk (batch t) (head t h) (row t r)
    rw [rowT_eq m c t h r z hz]
    exact twoS_good _ _
  refine (out_apply c _ _ _ _ _ _ _ _ _ _ _ _ _ _ _ _ _ _ hgood h r d).trans ?_
  obtain ⟨z, hz⟩ := dots_real (argQ m c) (argK m c) hq hk (batch t) (head t h) (row t r)
  rw [rowT_eq m c t h r z hz]
  rw [show want m c _ = _ from Cert.ReferenceIdeal.Flash.v31_apply (argQ m c) (argK m c) (argV m c) (batch t) (head t h) (row t r) d]
  have eS : ∀ s, Cert.ReferenceIdeal.Flash.refS (argQ m c) (argK m c) (batch t) (head t h) (row t r) s
      = natS (fun s => s ≤ row t r) (fun s => z s * (Real.sqrt 192)⁻¹) s :=
    fun s => congrFun (refS_eq (argQ m c) (argK m c) (batch t) (head t h) (row t r) z hz) s
  simp only [eS]
  have hV : rowV (iblk m c 2 t) h d
      = fun s => argV m c (ix3 (batch t) s ⟨128 * (head t h).val + d.val, by have := (head t h).isLt; have := d.isLt; omega⟩) :=
    funext fun s => iblkV_apply m c t s h d
  rw [hV]
  refine sweep_eq_softmax (fun s => s ≤ row t r) _ _ (s0 := row t r) le_rfl _ fun s hs hle => hs ?_
  rw [mem_upto, where_coord]
  have h1 : s.val ≤ 512 * (t.val % 4) + r.val := hle
  have := r.isLt
  omega

/-- Every index of the result is in some point's block. -/
theorem covered (i : S8x2048x512.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 512 := (i 2).isLt
  have ht : (i 0).val * 8 + (i 2).val / 256 * 4 + (i 1).val / 512 < 64 := by omega
  refine ⟨(⟨_, ht⟩ : Fin cfg0.N), flush0_3 _, ?_⟩
  have hm := ((cfg0.win 3).blk (⟨_, ht⟩ : Fin cfg0.N)).view.emb_mem_set
    (ix3 0 ⟨(i 1).val % 512, by omega⟩ ⟨128 * (⟨(i 2).val / 128 % 2, by omega⟩ : Fin 2).val
      + (⟨(i 2).val % 128, by omega⟩ : Fin 128).val, by show 128 * ((i 2).val / 128 % 2) + (i 2).val % 128 < 256; omega⟩ : S1x512x256.Idx)
  rw [embO] at hm
  refine (congrArg (· ∈ _) ?_ : _ = _).mp hm
  funext a; apply Fin.ext
  match a with
  | ⟨0, _⟩ => show ((i 0).val * 8 + (i 2).val / 256 * 4 + (i 1).val / 512) / 8 = (i 0).val; omega
  | ⟨1, _⟩ =>
    show 512 * (((i 0).val * 8 + (i 2).val / 256 * 4 + (i 1).val / 512) % 4) + (i 1).val % 512 = (i 1).val
    omega
  | ⟨2, _⟩ =>
    show 128 * (2 * (((i 0).val * 8 + (i 2).val / 256 * 4 + (i 1).val / 512) / 4 % 2) + (i 2).val / 128 % 2) + (i 2).val % 128
      = (i 2).val
    omega

/-- The kernel's result array after the run is the reference's. -/
theorem final_eq : (dats m 0 c).arrAt 3 cfg0.N = want m c :=
  (dats m 0 c).arrAt_eq_of_cover 3 (want m c) (fun t _ => flushed_eq m c hq hk t) (covered m c hq hk)

end Cert.KernelIdeal.Flash

end
-- ==== Proof.Flash.Finite.lean ====
/- The precondition read back: queries and keys of finite magnitude are real numbers. -/
module

public import proofs.«01_k».proof.Proof.Gen.Pre_finite_qk
public import Idealize.ShloMosaic.Lib.Pointwise

@[expose] public section

noncomputable section

namespace Cert.Flash

open Idealize.ShloMosaic Idealize.ShloMosaic.TcCoe Cert.Pre_finite_qk Cert.Pre_finite_qk.Gen
open Idealize.ShloMosaic.Pointwise

theorem real_of_abs_lt_top (x : EReal) (h : Ideal.cmp .olt (max x (-x)) (Ideal.ofBits .f32 0x7F800000#32) = 1#1) :
    ∃ r : ℝ, x = (r : EReal) := by
  have e : (Ideal.ofBits .f32 0x7F800000#32 : EReal) = ⊤ := by simp [Ideal.ofBits, Ideal.ieee]
  rw [e] at h
  have hlt : max x (-x) < ⊤ := by
    by_contra hn
    rw [show Ideal.cmp .olt (max x (-x)) ⊤ = 0#1 from congrArg BitVec.ofBool (decide_eq_false hn)] at h
    exact absurd h (by decide)
  induction x using EReal.rec with
  | bot => simp at hlt
  | top => simp at hlt
  | coe r => exact ⟨r, rfl⟩

variable (q k : FVec Ideal S8x2048x1024 .bf16) (v : FVec Ideal S8x2048x512 .bf16)

theorem finite_q (h : (Cert.Pre_finite_qk.fn (F := Ideal) q k v).1 = fun _ => 1#1) (i : S8x2048x1024.Idx) :
    ∃ r : ℝ, (q i : EReal) = (r : EReal) := by
  have hi := congrFun h i
  unfold Cert.Pre_finite_qk.fn at hi
  have := real_of_abs_lt_top (q i) hi
  exact this

theorem finite_k (h : (Cert.Pre_finite_qk.fn (F := Ideal) q k v).2 = fun _ => 1#1) (i : S8x2048x1024.Idx) :
    ∃ r : ℝ, (k i : EReal) = (r : EReal) :=
  real_of_abs_lt_top (k i) (congrFun h i)

end Cert.Flash

end
-- ==== Proof.Linear.Norm.lean ====
/- A row of 1024 numbers divided by its root mean square, times a gain, and its dot product with a column. -/
module

public import Idealize.ShloMosaic.Lib.Pointwise

@[expose] public section

noncomputable section

namespace Cert.Linear

open Idealize.ShloMosaic

/-- Entry `k` of the row `x` over its root mean square (with the small constant under the root), times the gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- The dot product of the normalized row with the column `w`. -/
def normDot (x g w : Fin 1024 → EReal) : EReal := ∑ k, normed x g k * w k

/-- The same rows, gains and columns give the same dot product. -/
theorem normDot_congr {x x' g g' w w' : Fin 1024 → EReal} (hx : ∀ k, x k = x' k) (hg : ∀ k, g k = g' k)
    (hw : ∀ k, w k = w' k) : normDot x g w = normDot x' g' w' := by
  rw [funext hx, funext hg, funext hw]

end Cert.Linear

end
-- ==== Proof.Memory.Block.lean ====
/- What the memory projection's kernel computes of a block, entry by entry, and the arrays its blocks are read from. -/
module

public import proofs.«01_k».proof.Proof.Gen.MemoryIdeal.Value
public import proofs.«01_k».proof.Proof.Linear.Norm
public import Idealize.ShloMosaic.Lib.StableHlo.ReadAt
public import Idealize.ShloMosaic.Lib.Pipeline.ValueKit.Tiles

@[expose] public section

set_option maxRecDepth 16384
set_option Elab.async false

noncomputable section

namespace Cert.MemoryIdeal.Linear

open Cert.MemoryIdeal Cert.MemoryIdeal.Gen Cert.MemoryIdeal.Value Cert.Linear Idealize.ShloMosaic Idealize.ShloMosaic.TcCoe
  Idealize.SL.Sem
open Idealize.ShloMosaic.Pointwise

/-- The keys' product of a block: each row normalized, times the weights' column. -/
theorem pay2_apply (x : Vec Ideal S256x1024 .f32) (g : Vec Ideal S1x1024 .f32) (w : Vec Ideal S1024x1024 .bf16)
    (r : Fin 256) (j : Fin 1024) :
    k0_pay2 x g w (ix2 r j)
      = normDot (fun k => x (ix2 r k)) (fun k => g (ix2 0 k)) (fun k => w (ix2 k j)) := by
  unfold normDot normed
  pointwise [k0_pay2, k0_pay1]

/-- The values' product of a block, in the same way. -/
theorem pay4_apply (x : Vec Ideal S256x1024 .f32) (g : Vec Ideal S1x1024 .f32) (w : Vec Ideal S1024x1024 .bf16)
    (r : Fin 256) (j : Fin 1024) :
    k0_pay4 x g w (ix2 r j)
      = normDot (fun k => x (ix2 r k)) (fun k => g (ix2 0 k)) (fun k => w (ix2 k j)) := by
  unfold normDot normed
  pointwise [k0_pay4, k0_pay1]

/-- What the body leaves in the keys' block. -/
theorem out3_apply (x : Vec Ideal S256x1024 .f32) (w : Vec Ideal S1024x2048 .bf16) (g : Vec Ideal S1x1024 .f32)
    (r : Fin 256) (j : Fin 1024) :
    out0_3 x w g (ix2 r j)
      = normDot (fun k => x (ix2 r k)) (fun k => g (ix2 0 k))
          (fun k => w (ix2 k ⟨j.val, by have := j.isLt; omega⟩)) := by
  unfold out0_3
  rw [View.canon_unit_zero (by decide), pay2_apply]
  refine normDot_congr (fun k => ?_) (fun k => ?_) fun k => ?_
  · exact View.ld_unit_apply_of x _ _ _ _ _ fun a => match a with | ⟨0, _⟩ => (Nat.zero_add _).symm | ⟨1, _⟩ => (Nat.zero_add _).symm
  · exact View.ld_unit_apply_of g _ _ _ _ _ fun a => match a with | ⟨0, _⟩ => (Nat.zero_add _).symm | ⟨1, _⟩ => (Nat.zero_add _).symm
  · exact View.ld_unit_apply_of w _ _ _ _ _ fun a => match a with | ⟨0, _⟩ => (Nat.zero_add _).symm | ⟨1, _⟩ => (Nat.zero_add _).symm

/-- What the body leaves in the values' block. -/
theorem out4_apply (x : Vec Ideal S256x1024 .f32) (w : Vec Ideal S1024x2048 .bf16) (g : Vec Ideal S1x1024 .f32)
    (r : Fin 256) (j : Fin 1024) :
    out0_4 x w g (ix2 r j)
      = normDot (fun k => x (ix2 r k)) (fun k => g (ix2 0 k))
          (fun k => w (ix2 k ⟨1024 + j.val, by have := j.isLt; omega⟩)) := by
  unfold out0_4
  rw [View.canon_unit_zero (by decide), pay4_apply]
  refine normDot_congr (fun k => ?_) (fun k => ?_) fun k => ?_
  · exact View.ld_unit_apply_of x _ _ _ _ _ fun a => match a with | ⟨0, _⟩ => (Nat.zero_add _).symm | ⟨1, _⟩ => (Nat.zero_add _).symm
  · exact View.ld_unit_apply_of g _ _ _ _ _ fun a => match a with | ⟨0, _⟩ => (Nat.zero_add _).symm | ⟨1, _⟩ => (Nat.zero_add _).symm
  · exact View.ld_unit_apply_of w _ _ _ _ _ fun a => match a with | ⟨0, _⟩ => (Nat.zero_add _).symm | ⟨1, _⟩ => rfl

variable (m : (ℓ : Loc nD τ sig) → Buf (Elt Ideal) ℓ) (c : Dev nD)

/-- The argument arrays. -/
abbrev argX : S8x256x1024.Idx → EReal := m ((c : Thread nD τ).loc main_arg0)
abbrev argG : S1024.Idx → EReal := m ((c : Thread nD τ).loc main_arg1)
abbrev argK : S1024x1024.Idx → EReal := m ((c : Thread nD τ).loc main_arg2)
abbrev argV : S1024x1024.Idx → EReal := m ((c : Thread nD τ).loc main_arg3)

/-- The weights the kernel is given: the two matrices side by side. -/
theorem V_w : (V m c main_v1 : S1024x2048.Idx → EReal)
    = concatenate S1024x2048 1 [⟨S1024x1024, argK m c⟩, ⟨S1024x1024, argV m c⟩] concatenates_S1024x1024_S1024x1024_S1024x2048_d1 := by
  unfold V
  after_results
  rfl

/-- The left half of the weights is the keys' matrix. -/
theorem V_wk (k j : Fin 1024) :
    (V m c main_v1 : S1024x2048.Idx → EReal) (ix2 k ⟨j.val, by have := j.isLt; omega⟩) = argK m c (ix2 k j) := by
  rw [V_w]
  exact concatenate_pair_apply_left (t := S1024x2048) (s₁ := S1024x1024) (s₂ := S1024x1024) 1 (argK m c) (argV m c) _ _ rfl
    (ix2 k j) fun b => match b with | ⟨0, _⟩ => rfl | ⟨1, _⟩ => rfl

/-- The right half of the weights is the values' matrix. -/
theorem V_wv (k j : Fin 1024) :
    (V m c main_v1 : S1024x2048.Idx → EReal) (ix2 k ⟨1024 + j.val, by have := j.isLt; omega⟩) = argV m c (ix2 k j) := by
  rw [V_w]
  exact concatenate_pair_apply_right (t := S1024x2048) (s₁ := S1024x1024) (s₂ := S1024x1024) 1 (argK m c) (argV m c) _ _ rfl
    rfl (ix2 k j) (fun b hb => match b, hb with | ⟨0, _⟩, _ => rfl | ⟨1, _⟩, hb => absurd rfl hb)
    (by show j.val + 1024 = 1024 + j.val; omega)

/-- The rows the kernel is given: the memories one after the other. -/
theorem V_x (t : Fin 8) (r : Fin 256) (k : Fin 1024) :
    (V m c main_v2 : S2048x1024.Idx → EReal) (ix2 ⟨256 * t.val + r.val, by have := t.isLt; have := r.isLt; omega⟩ k)
      = argX m c (ix3 t r k) := by
  unfold V
  after_reads_at

/-- The gain the kernel is given. -/
theorem V_g (k : Fin 1024) : (V m c main_v3 : S1x1024.Idx → EReal) (ix2 0 k) = argG m c (ix1 k) := by
  unfold V
  after_reads_at

end Cert.MemoryIdeal.Linear
end
-- ==== Proof.Memory.Reference.lean ====
/- The memory projection's reference, entry by entry. -/
module

public import proofs.«01_k».proof.Proof.Gen.MemoryRefIdeal.Read
public import proofs.«01_k».proof.Proof.Linear.Norm
public import Idealize.ShloMosaic.Lib.KernelVsHost

@[expose] public section

set_option maxRecDepth 16384
set_option Elab.async false

noncomputable section

namespace Cert.MemoryRefIdeal.Linear

open Cert.MemoryRefIdeal Cert.MemoryRefIdeal.Read Cert.Linear Idealize.ShloMosaic Idealize.ShloMosaic.TcCoe
open Idealize.ShloMosaic.Pointwise

/-- The normalized memories. -/
theorem v12_apply (x : S8x256x1024.Idx → EReal) (g : S1024.Idx → EReal) (t : Fin 8) (r : Fin 256) (k : Fin 1024) :
    val_main_v12 (F := Ideal) x g (ix3 t r k) = normed (fun k => x (ix3 t r k)) (fun k => g (ix1 k)) k := by
  unfold normed
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]

/-- The keys: the row over which the reference's index lies, times the column. -/
theorem v14_apply (x : S8x256x1024.Idx → EReal) (g : S1024.Idx → EReal) (w : S1024x1024.Idx → EReal)
    (t : Fin 8) (r : Fin 256) (j : Fin 1024) :
    val_main_v14 (F := Ideal) x g w (ix2 ⟨256 * t.val + r.val, by have := t.isLt; have := r.isLt; omega⟩ j)
      = normDot (fun k => x (ix3 t r k)) (fun k => g (ix1 k)) (fun k => w (ix2 k j)) := by
  have e : idx_main_v14 (ix2 ⟨256 * t.val + r.val, by have := t.isLt; have := r.isLt; omega⟩ j) = ix3 t r j := by
    have ht := t.isLt; have hr := r.isLt; have hj := j.isLt
    funext a; apply Fin.ext
    match a with
    | ⟨0, _⟩ => show ((256 * t.val + r.val) * 1024 + j.val) / 262144 = t.val; omega
    | ⟨1, _⟩ => show ((256 * t.val + r.val) * 1024 + j.val) / 1024 % 256 = r.val; omega
    | ⟨2, _⟩ => show ((256 * t.val + r.val) * 1024 + j.val) % 1024 = j.val; omega
  rw [val_main_v14_apply, e, val_main_v13_apply]
  refine Finset.sum_congr rfl fun k _ => ?_
  have el : lidx_main_v13 (ix3 t r j) k = ix3 t r k := by
    funext a; match a with | ⟨0, _⟩ => rfl | ⟨1, _⟩ => rfl | ⟨2, _⟩ => rfl
  have er : ridx_main_v13 (ix3 t r j) k = ix2 k j := by funext a; match a with | ⟨0, _⟩ => rfl | ⟨1, _⟩ => rfl
  rw [el, er, v12_apply]

/-- The values, in the same way. -/
theorem v16_apply (x : S8x256x1024.Idx → EReal) (g : S1024.Idx → EReal) (w : S1024x1024.Idx → EReal)
    (t : Fin 8) (r : Fin 256) (j : Fin 1024) :
    val_main_v16 (F := Ideal) x g w (ix2 ⟨256 * t.val + r.val, by have := t.isLt; have := r.isLt; omega⟩ j)
      = normDot (fun k => x (ix3 t r k)) (fun k => g (ix1 k)) (fun k => w (ix2 k j)) :=
  v14_apply x g w t r j

end Cert.MemoryRefIdeal.Linear

end
-- ==== Proof.Memory.Array.lean ====
/- The memory projection's result arrays beside the reference's, block by block. -/
module

public import proofs.«01_k».proof.Proof.Memory.Block
public import proofs.«01_k».proof.Proof.Memory.Reference
public import proofs.«01_k».proof.Proof.Gen.MemoryRefIdeal.Run
public import proofs.«01_k».proof.Defs

@[expose] public section

set_option maxRecDepth 16384
set_option Elab.async false

noncomputable section

namespace Cert.MemoryIdeal.Linear

open Cert.MemoryIdeal Cert.MemoryIdeal.Gen Cert.MemoryIdeal.Value Cert.Linear Idealize.ShloMosaic Idealize.ShloMosaic.TcCoe
  Idealize.SL.Sem
open Idealize.ShloMosaic.Pointwise

/-- Where the blocks of the point `t` stand: the rows' and the results' at block row `t`, the weights and the gain whole. -/
theorem where_x : ∀ t : Fin cfg0.N, win0_0.index t (0 : Fin 2) = t.val ∧ win0_0.index t (1 : Fin 2) = 0 :=
  (by decide +kernel : ∀ t : Fin grid0.N, _)
theorem where_w : ∀ t : Fin cfg0.N, win0_1.index t (0 : Fin 2) = 0 ∧ win0_1.index t (1 : Fin 2) = 0 :=
  (by decide +kernel : ∀ t : Fin grid0.N, _)
theorem where_g : ∀ t : Fin cfg0.N, win0_2.index t (0 : Fin 2) = 0 ∧ win0_2.index t (1 : Fin 2) = 0 :=
  (by decide +kernel : ∀ t : Fin grid0.N, _)
theorem where_k : ∀ t : Fin cfg0.N, win0_3.index t (0 : Fin 2) = t.val ∧ win0_3.index t (1 : Fin 2) = 0 :=
  (by decide +kernel : ∀ t : Fin grid0.N, _)
theorem where_v : ∀ t : Fin cfg0.N, win0_4.index t (0 : Fin 2) = t.val ∧ win0_4.index t (1 : Fin 2) = 0 :=
  (by decide +kernel : ∀ t : Fin grid0.N, _)

/-- The memory a point works on. -/
def batch (t : Fin cfg0.N) : Fin 8 := ⟨t.val, t.isLt⟩

/-- The row of the arrays that a point's local row is. -/
def row (t : Fin cfg0.N) (r : Fin 256) : Fin 2048 :=
  ⟨256 * (batch t).val + r.val, by have := (batch t).isLt; have := r.isLt; omega⟩

variable (m : (ℓ : Loc nD τ sig) → Buf (Elt Ideal) ℓ) (c : Dev nD)

theorem iblkX_apply (t : Fin cfg0.N) (r : Fin 256) (k : Fin 1024) :
    (iblk m c 0 t : S256x1024.Idx → EReal) (ix2 r k) = argX m c (ix3 (batch t) r k) := by
  refine Eq.trans ?_ (V_x m c (batch t) r k)
  show (V m c main_v2 : S2048x1024.Idx → EReal) (((cfg0.win 0).blk t).view.emb _) = _
  refine congrArg (V m c main_v2 : S2048x1024.Idx → EReal) ?_
  obtain ⟨e0, e1⟩ := where_x t
  funext a; apply Fin.ext
  match a with
  | ⟨0, _⟩ => show win0_0.index t (0 : Fin 2) * 256 + 1 * r.val = 256 * t.val + r.val; omega
  | ⟨1, _⟩ => show win0_0.index t (1 : Fin 2) * 1024 + 1 * k.val = k.val; omega

theorem iblkW_apply (t : Fin cfg0.N) (k : Fin 1024) (j : Fin 2048) :
    (iblk m c 1 t : S1024x2048.Idx → EReal) (ix2 k j) = (V m c main_v1 : S1024x2048.Idx → EReal) (ix2 k j) := by
  show (V m c main_v1 : S1024x2048.Idx → EReal) (((cfg0.win 1).blk t).view.emb _) = _
  refine congrArg (V m c main_v1 : S1024x2048.Idx → EReal) ?_
  obtain ⟨e0, e1⟩ := where_w t
  funext a; apply Fin.ext
  match a with
  | ⟨0, _⟩ => show win0_1.index t (0 : Fin 2) * 1024 + 1 * k.val = k.val; omega
  | ⟨1, _⟩ => show win0_1.index t (1 : Fin 2) * 2048 + 1 * j.val = j.val; omega

theorem iblkG_apply (t : Fin cfg0.N) (k : Fin 1024) :
    (iblk m c 2 t : S1x1024.Idx → EReal) (ix2 0 k) = argG m c (ix1 k) := by
  refine Eq.trans ?_ (V_g m c k)
  show (V m c main_v3 : S1x1024.Idx → EReal) (((cfg0.win 2).blk t).view.emb _) = _
  refine congrArg (V m c main_v3 : S1x1024.Idx → EReal) ?_
  obtain ⟨e0, e1⟩ := where_g t
  funext a; apply Fin.ext
  match a with
  | ⟨0, _⟩ => show win0_2.index t (0 : Fin 2) * 1 + 1 * 0 = 0; omega
  | ⟨1, _⟩ => show win0_2.index t (1 : Fin 2) * 1024 + 1 * k.val = k.val; omega

theorem embK (t : Fin cfg0.N) (r : Fin 256) (j : Fin 1024) :
    ((cfg0.win 3).blk t).view.emb (ix2 r j : S256x1024.Idx) = (ix2 (row t r) j : S2048x1024.Idx) := by
  obtain ⟨e0, e1⟩ := where_k t
  funext a; apply Fin.ext
  match a with
  | ⟨0, _⟩ => show win0_3.index t (0 : Fin 2) * 256 + 1 * r.val = 256 * t.val + r.val; omega
  | ⟨1, _⟩ => show win0_3.index t (1 : Fin 2) * 1024 + 1 * j.val = j.val; omega

theorem embV (t : Fin cfg0.N) (r : Fin 256) (j : Fin 1024) :
    ((cfg0.win 4).blk t).view.emb (ix2 r j : S256x1024.Idx) = (ix2 (row t r) j : S2048x1024.Idx) := by
  obtain ⟨e0, e1⟩ := where_v t
  funext a; apply Fin.ext
  match a with
  | ⟨0, _⟩ => show win0_4.index t (0 : Fin 2) * 256 + 1 * r.val = 256 * t.val + r.val; omega
  | ⟨1, _⟩ => show win0_4.index t (1 : Fin 2) * 1024 + 1 * j.val = j.val; omega

/-- Every index of a block, by its row and column. -/
theorem split_o (j : S256x1024.Idx) : ∃ (r : Fin 256) (k : Fin 1024), j = ix2 r k :=
  ⟨j 0, j 1, funext fun a => match a with | ⟨0, _⟩ => rfl | ⟨1, _⟩ => rfl⟩

/-- Every row and column of the results, by a point's local ones. -/
theorem split_a (i : S2048x1024.Idx) : ∃ (t : Fin cfg0.N) (r : Fin 256) (k : Fin 1024), i = ix2 (row t r) k := by
  have h0 : (i 0).val < 2048 := (i 0).isLt
  refine ⟨(⟨(i 0).val / 256, by show _ < 8; omega⟩ : Fin cfg0.N), ⟨(i 0).val % 256, by omega⟩, i 1, ?_⟩
  funext a; apply Fin.ext
  match a with
  | ⟨0, _⟩ => show (i 0).val = 256 * ((i 0).val / 256) + (i 0).val % 256; omega
  | ⟨1, _⟩ => rfl

/-- The reference's results of the argument arrays. -/
abbrev wantK : S2048x1024.Idx → EReal :=
  Cert.MemoryRefIdeal.Read.val_main_v14 (F := Ideal) (argX m c) (argG m c) (argK m c)
abbrev wantV : S2048x1024.Idx → EReal :=
  Cert.MemoryRefIdeal.Read.val_main_v16 (F := Ideal) (argX m c) (argG m c) (argV m c)

/-- What a point writes back of the keys is its block of the reference's. -/
theorem flushedK (t : Fin cfg0.N) :
    (dats m 0 c).flushed 3 t = ((cfg0.win 3).blk t).view.read (Elt Ideal) (wantK m c) := by
  rw [flushed3]
  refine funext fun (j : S256x1024.Idx) => ?_
  obtain ⟨r, k, rfl⟩ := split_o j
  show out0_3 (F := Ideal) _ _ _ (ix2 r k) = wantK m c (((cfg0.win 3).blk t).view.emb _)
  rw [embK]
  refine (out3_apply _ _ _ r k).trans (Eq.trans ?_ (Cert.MemoryRefIdeal.Linear.v14_apply _ _ _ (batch t) r k).symm)
  exact normDot_congr (fun l => iblkX_apply m c t r l) (fun l => iblkG_apply m c t l)
    fun l => (iblkW_apply m c t l _).trans (V_wk m c l k)

/-- What a point writes back of the values is its block of the reference's. -/
theorem flushedV (t : Fin cfg0.N) :
    (dats m 0 c).flushed 4 t = ((cfg0.win 4).blk t).view.read (Elt Ideal) (wantV m c) := by
  rw [flushed4]
  refine funext fun (j : S256x1024.Idx) => ?_
  obtain ⟨r, k, rfl⟩ := split_o j
  show out0_4 (F := Ideal) _ _ _ (ix2 r k) = wantV m c (((cfg0.win 4).blk t).view.emb _)
  rw [embV]
  refine (out4_apply _ _ _ r k).trans (Eq.trans ?_ (Cert.MemoryRefIdeal.Linear.v16_apply _ _ _ (batch t) r k).symm)
  exact normDot_congr (fun l => iblkX_apply m c t r l) (fun l => iblkG_apply m c t l)
    fun l => (iblkW_apply m c t l _).trans (V_wv m c l k)

/-- Every index of the keys is in some point's block. -/
theorem coveredK (i : S2048x1024.Idx) :
    ∃ t : Fin cfg0.N, (cfg0.win 3).flush t = true ∧ i ∈ ((cfg0.win 3).blk t).view.set := by
  obtain ⟨t, r, k, rfl⟩ := split_a i
  refine ⟨t, flush0_3 _, ?_⟩
  rw [← embK]
  exact ((cfg0.win 3).blk t).view.emb_mem_set _

/-- Every index of the values is in some point's block. -/
theorem coveredV (i : S2048x1024.Idx) :
    ∃ t : Fin cfg0.N, (cfg0.win 4).flush t = true ∧ i ∈ ((cfg0.win 4).blk t).view.set := by
  obtain ⟨t, r, k, rfl⟩ := split_a i
  refine ⟨t, flush0_4 _, ?_⟩
  rw [← embV]
  exact ((cfg0.win 4).blk t).view.emb_mem_set _

/-- The kernel's result arrays after the run are the reference's. -/
theorem finalK : (dats m 0 c).arrAt 3 cfg0.N = wantK m c :=
  (dats m 0 c).arrAt_eq_of_cover 3 (wantK m c) (fun t _ => flushedK m c t) (coveredK)
theorem finalV : (dats m 0 c).arrAt 4 cfg0.N = wantV m c :=
  (dats m 0 c).arrAt_eq_of_cover 4 (wantV m c) (fun t _ => flushedV m c t) (coveredV)

/-- The memory projection computes the reference's keys and values. -/
theorem memory : Cert.algebraic_MemoryIdeal_MemoryRefIdeal := by
  intro m ρ m' ρ' _ hag
  refine ⟨fun c => wantK m c, fun c => wantV m c, ?_, ?_⟩
  · exact (θ_run Cert.MemoryIdeal.defs _ _).mono
      (fun r h c => ⟨(h c).1.trans (finalK m c), (h c).2.1.trans (finalV m c), (h c).2.2.2.2⟩)
      (Cert.MemoryIdeal.Value.run_blocks (F := Ideal) m ρ)
  · refine (θ_run Cert.MemoryRefIdeal.defs _ _).mono (fun r h c => ⟨(h c).1.trans ?_, (h c).2.1.trans ?_, (h c).2.2⟩)
      (Cert.MemoryRefIdeal.Value.run (F := Ideal) m' ρ')
    · obtain ⟨e0, e1, e2, e3⟩ := hag c
      refine (Cert.MemoryRefIdeal.Read.val_main_v14_eq _ _ _).trans ?_
      rw [e0, e1, e2]
    · obtain ⟨e0, e1, e2, e3⟩ := hag c
      refine (Cert.MemoryRefIdeal.Read.val_main_v16_eq _ _ _).trans ?_
      rw [e0, e1, e3]

/-- The reference runs and keeps its arguments. -/
theorem memory_reference_frame : Cert.quiescent_MemoryRefIdeal := fun m ρ _ =>
  (θ_run Cert.MemoryRefIdeal.defs _ _).mono
    (fun r h => ⟨fun c => (h c).2.2, sem_eq_zero_of_no_sems (by decide) r.2⟩)
    (Cert.MemoryRefIdeal.Value.run (F := Ideal) m ρ)

end Cert.MemoryIdeal.Linear

end
-- ==== Proof.InProj.Block.lean ====
/- What the input projection's kernel computes of a block, entry by entry, and the arrays its blocks are read from. -/
module

public import proofs.«01_k».proof.Proof.Gen.InProjIdeal.Value
public import proofs.«01_k».proof.Proof.Linear.Norm
public import Idealize.ShloMosaic.Lib.StableHlo.ReadAt
public import Idealize.ShloMosaic.Lib.Pipeline.ValueKit.Tiles

@[expose] public section

set_option maxRecDepth 16384
set_option Elab.async false

noncomputable section

namespace Cert.InProjIdeal.Linear

open Cert.InProjIdeal Cert.InProjIdeal.Gen Cert.InProjIdeal.Value Cert.Linear Idealize.ShloMosaic Idealize.ShloMosaic.TcCoe
  Idealize.SL.Sem
open Idealize.ShloMosaic.Pointwise

section
variable (x : Vec Ideal S256x1024 .f32) (w : Vec Ideal S1024x2816 .bf16) (g : Vec Ideal S1x1024 .f32) (r : Fin 256)

/-- The block's rows, loaded whole and normalized. -/
theorem norm_apply (k : Fin 1024) :
    k0_pay3 (View.ld x r0_0) (View.ld g r0_1) (ix2 r k) = normed (fun k => x (ix2 r k)) (fun k => g (ix2 0 k)) k := by
  rw [show View.ld x r0_0 = x from View.ld_unit_zero (by decide) _ x,
    show View.ld g r0_1 = g from View.ld_unit_zero (by decide) _ g]
  unfold normed
  pointwise [k0_pay3]

/-- What the body leaves in the block of the convolution's inputs. -/
theorem out3_apply (j : Fin 1536) :
    out0_3 x w g (ix2 r j) = normDot (fun k => x (ix2 r k)) (fun k => g (ix2 0 k))
      (fun k => w (ix2 k ⟨j.val, by have := j.isLt; omega⟩)) := by
  unfold out0_3
  rw [View.canon_unit_zero (by decide)]
  have e : ∀ v : Vec Ideal S1024x1536 .bf16, k0_pay4 (View.ld x r0_0) (View.ld g r0_1) v (ix2 r j)
      = ∑ k : Fin 1024, k0_pay3 (View.ld x r0_0) (View.ld g r0_1) (ix2 r k) * v (ix2 k j) := fun v => by
    unfold k0_pay4
    generalize k0_pay3 (View.ld x r0_0) (View.ld g r0_1) = y
    pointwise []
  refine (e _).trans (Finset.sum_congr rfl fun k _ => congrArg₂ (· * ·) (norm_apply x g r k) ?_)
  exact View.ld_unit_apply_of w _ _ _ _ _ fun a => match a with | ⟨0, _⟩ => (Nat.zero_add _).symm | ⟨1, _⟩ => (Nat.zero_add _).symm

/-- What the body leaves in the block of the gates. -/
theorem out4_apply (j : Fin 512) :
    out0_4 x w g (ix2 r j) = normDot (fun k => x (ix2 r k)) (fun k => g (ix2 0 k))
      (fun k => w (ix2 k ⟨1536 + j.val, by have := j.isLt; omega⟩)) := by
  unfold out0_4
  rw [View.canon_unit_zero (by decide)]
  have e : ∀ v : Vec Ideal S1024x512 .bf16, k0_pay5 (View.ld x r0_0) (View.ld g r0_1) v (ix2 r j)
      = ∑ k : Fin 1024, k0_pay3 (View.ld x r0_0) (View.ld g r0_1) (ix2 r k) * v (ix2 k j) := fun v => by
    unfold k0_pay5
    generalize k0_pay3 (View.ld x r0_0) (View.ld g r0_1) = y
    pointwise []
  refine (e _).trans (Finset.sum_congr rfl fun k _ => congrArg₂ (· * ·) (norm_apply x g r k) ?_)
  exact View.ld_unit_apply_of w _ _ _ _ _ fun a => match a with | ⟨0, _⟩ => (Nat.zero_add _).symm | ⟨1, _⟩ => rfl

/-- What the body leaves in the block of the latent queries. -/
theorem out5_apply (j : Fin 384) :
    out0_5 x w g (ix2 r j) = normDot (fun k => x (ix2 r k)) (fun k => g (ix2 0 k))
      (fun k => w (ix2 k ⟨2048 + j.val, by have := j.isLt; omega⟩)) := by
  unfold out0_5
  rw [View.canon_unit_zero (by decide)]
  have e : ∀ v : Vec Ideal S1024x384 .bf16, k0_pay6 (View.ld x r0_0) (View.ld g r0_1) v (ix2 r j)
      = ∑ k : Fin 1024, k0_pay3 (View.ld x r0_0) (View.ld g r0_1) (ix2 r k) * v (ix2 k j) := fun v => by
    unfold k0_pay6
    generalize k0_pay3 (View.ld x r0_0) (View.ld g r0_1) = y
    pointwise []
  refine (e _).trans (Finset.sum_congr rfl fun k _ => congrArg₂ (· * ·) (norm_apply x g r k) ?_)
  exact View.ld_unit_apply_of w _ _ _ _ _ fun a => match a with | ⟨0, _⟩ => (Nat.zero_add _).symm | ⟨1, _⟩ => rfl

/-- What the body leaves in the block of the latent keys and values. -/
theorem out6_apply (j : Fin 256) :
    out0_6 x w g (ix2 r j) = normDot (fun k => x (ix2 r k)) (fun k => g (ix2 0 k))
      (fun k => w (ix2 k ⟨2432 + j.val, by have := j.isLt; omega⟩)) := by
  unfold_out out0_6
  rw [View.canon_unit_zero (by decide)]
  have e : ∀ v : Vec Ideal S1024x256 .bf16,
      k0_pay1 (k0_pay3 (View.ld x r0_0) (View.ld g r0_1)) (k0_pay7 v) (constant S256x256 .f32 0x00000000#32) (ix2 r j)
      = ∑ k : Fin 1024, k0_pay3 (View.ld x r0_0) (View.ld g r0_1) (ix2 r k) * v (ix2 k j) := fun v => by
    generalize k0_pay3 (View.ld x r0_0) (View.ld g r0_1) = y
    pointwise [k0_pay1, k0_pay7]
  refine (e _).trans (Finset.sum_congr rfl fun k _ => congrArg₂ (· * ·) (norm_apply x g r k) ?_)
  exact View.ld_unit_apply_of w _ _ _ _ _ fun a => match a with | ⟨0, _⟩ => (Nat.zero_add _).symm | ⟨1, _⟩ => rfl

end

variable (m : (ℓ : Loc nD τ sig) → Buf (Elt Ideal) ℓ) (c : Dev nD)

/-- The argument arrays. -/
abbrev argX : S8x2048x1024.Idx → EReal := m ((c : Thread nD τ).loc main_arg0)
abbrev argG : S1024.Idx → EReal := m ((c : Thread nD τ).loc main_arg1)
abbrev argW : S1024x2760.Idx → EReal := m ((c : Thread nD τ).loc main_arg2)

/-- The pieces of the kernel's weights: the reference's columns in another order, with zeros to fill up. -/
abbrev pieces (w : S1024x2760.Idx → EReal) : List ((s : Shape) × (s.Idx → EReal)) :=
  [⟨S1024x1536, extractStridedSlice S1024x1536 ![0, 0] w slices_S1024x2760_S1024x1536_0_0⟩,
    ⟨S1024x512, extractStridedSlice S1024x512 ![0, 1536] w slices_S1024x2760_S1024x512_0_1536⟩,
    ⟨S1024x384, extractStridedSlice S1024x384 ![0, 2056] w slices_S1024x2760_S1024x384_0_2056⟩,
    ⟨S1024x256, extractStridedSlice S1024x256 ![0, 2440] w slices_S1024x2760_S1024x256_0_2440⟩,
    ⟨S1024x64, extractStridedSlice S1024x64 ![0, 2696] w slices_S1024x2760_S1024x64_0_2696⟩,
    ⟨S1024x4, extractStridedSlice S1024x4 ![0, 2048] w slices_S1024x2760_S1024x4_0_2048⟩,
    ⟨S1024x4, extractStridedSlice S1024x4 ![0, 2052] w slices_S1024x2760_S1024x4_0_2052⟩,
    ⟨S1024x56, broadcastInDim S1024x56 ![] bcast_S_S1024x56 (constant (F := Ideal) S_ .f32 0x00000000#32)⟩]

/-- The pieces fill the kernel's weights. -/
theorem fits (w : S1024x2760.Idx → EReal) : Shape.Concatenates ((pieces w).map (·.1)) S1024x2816 1 := by
  exact concatenates_S1024x1536_S1024x512_S1024x384_S1024x256_S1024x64_S1024x4_S1024x4_S1024x56_S1024x2816_d1

theorem V_w : (V m c main_v9 : S1024x2816.Idx → EReal) = concatenate S1024x2816 1 (pieces (argW m c)) (fits (argW m c)) := by
  unfold V
  after_results
  rfl

/-- A column of the kernel's weights, by the piece it lies in. -/
theorem V_piece (n : Nat) (hn : n < 8) (s : Shape) (y : s.Idx → EReal) (hy : (pieces (argW m c))[n] = ⟨s, y⟩) (hr : s.rank = 2)
    (pre : Nat) (hpre : ((((pieces (argW m c)).take n).map (·.1)).map
      fun s => if h : s.rank = S1024x2816.rank then s.size ((1 : Fin 2).cast h.symm) else 0).sum = pre)
    (k : Fin 1024) (j : Fin 2816) (i : s.Idx) (h0 : (i ((0 : Fin 2).cast hr.symm)).val = k.val)
    (h1 : pre + (i ((1 : Fin 2).cast hr.symm)).val = j.val) :
    (V m c main_v9 : S1024x2816.Idx → EReal) (ix2 k j) = y i := by
  rw [V_w]
  refine concatenate_apply_piece (t := S1024x2816) 1 (pieces (argW m c)) _ _ n hn s y hy hr pre hpre i (fun b hb => ?_) h1
  obtain ⟨b, hlt⟩ := b
  have hb2 : b < 2 := hr ▸ hlt
  match b, hlt, hb with
  | 0, _, _ => exact h0
  | 1, _, hb => exact absurd rfl hb

/-- The columns of the convolution's inputs. -/
theorem V_conv (k : Fin 1024) (j : Fin 1536) :
    (V m c main_v9 : S1024x2816.Idx → EReal) (ix2 k ⟨j.val, by have := j.isLt; omega⟩)
      = argW m c (ix2 k ⟨j.val, by have := j.isLt; omega⟩) := by
  rw [V_piece m c 0 (by decide) S1024x1536 _ rfl rfl 0 rfl k _ (ix2 k j) rfl (Nat.zero_add _)]
  pointwise []

/-- The gates' columns. -/
theorem V_z (k : Fin 1024) (j : Fin 512) :
    (V m c main_v9 : S1024x2816.Idx → EReal) (ix2 k ⟨1536 + j.val, by have := j.isLt; omega⟩)
      = argW m c (ix2 k ⟨1536 + j.val, by have := j.isLt; omega⟩) := by
  rw [V_piece m c 1 (by decide) S1024x512 _ rfl rfl 1536 rfl k _ (ix2 k j) rfl rfl]
  pointwise []

/-- The latent queries' columns. -/
theorem V_cq (k : Fin 1024) (j : Fin 384) :
    (V m c main_v9 : S1024x2816.Idx → EReal) (ix2 k ⟨2048 + j.val, by have := j.isLt; omega⟩)
      = argW m c (ix2 k ⟨2056 + j.val, by have := j.isLt; omega⟩) := by
  rw [V_piece m c 2 (by decide) S1024x384 _ rfl rfl 2048 rfl k _ (ix2 k j) rfl rfl]
  pointwise []

/-- The latent keys' and values' columns. -/
theorem V_ckv (k : Fin 1024) (j : Fin 256) :
    (V m c main_v9 : S1024x2816.Idx → EReal) (ix2 k ⟨2432 + j.val, by have := j.isLt; omega⟩)
      = argW m c (ix2 k ⟨2440 + j.val, by have := j.isLt; omega⟩) := by
  rw [V_piece m c 3 (by decide) S1024x256 _ rfl rfl 2432 rfl k _ (ix2 k j) rfl rfl]
  pointwise []

/-- The rows the kernel is given: the prompts one after the other. -/
theorem V_x (b : Fin 8) (s : Fin 2048) (k : Fin 1024) :
    (V m c main_v10 : S16384x1024.Idx → EReal) (ix2 ⟨2048 * b.val + s.val, by have := b.isLt; have := s.isLt; omega⟩ k)
      = argX m c (ix3 b s k) := by
  unfold V
  after_reads_at

/-- The gain the kernel is given. -/
theorem V_g (k : Fin 1024) : (V m c main_v11 : S1x1024.Idx → EReal) (ix2 0 k) = argG m c (ix1 k) := by
  unfold V
  after_reads_at

end Cert.InProjIdeal.Linear
end
-- ==== Proof.InProj.Reference.lean ====
/- The input projection's reference, entry by entry. -/
module

public import proofs.«01_k».proof.Proof.Gen.InProjRefIdeal.Read
public import proofs.«01_k».proof.Proof.Linear.Norm
public import Idealize.ShloMosaic.Lib.KernelVsHost

@[expose] public section

set_option maxRecDepth 16384
set_option Elab.async false

noncomputable section

namespace Cert.InProjRefIdeal.Linear

open Cert.InProjRefIdeal Cert.InProjRefIdeal.Read Cert.Linear Idealize.ShloMosaic Idealize.ShloMosaic.TcCoe
open Idealize.ShloMosaic.Pointwise

/-- The row of the flat arrays that is position `s` of the prompt `b`. -/
def flat (b : Fin 8) (s : Fin 2048) : Fin 16384 := ⟨2048 * b.val + s.val, by have := b.isLt; have := s.isLt; omega⟩

variable (x : S8x2048x1024.Idx → EReal) (g : S1024.Idx → EReal) (w : S1024x2760.Idx → EReal)

/-- The normalized tokens. -/
theorem v12_apply (b : Fin 8) (s : Fin 2048) (k : Fin 1024) :
    val_main_v12 (F := Ideal) x g (ix3 b s k) = normed (fun k => x (ix3 b s k)) (fun k => g (ix1 k)) k := by
  unfold normed
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]

/-- The whole projection: a token's normalized row times a column of the weights. -/
theorem v14_apply (b : Fin 8) (s : Fin 2048) (j : Fin 2760) :
    val_main_v14 (F := Ideal) x g w (ix2 (flat b s) j)
      = normDot (fun k => x (ix3 b s k)) (fun k => g (ix1 k)) (fun k => w (ix2 k j)) := by
  have e : idx_main_v14 (ix2 (flat b s) j) = ix3 b s j := by
    have hb := b.isLt; have hs := s.isLt; have hj := j.isLt
    funext a; apply Fin.ext
    match a with
    | ⟨0, _⟩ => show ((2048 * b.val + s.val) * 2760 + j.val) / 5652480 = b.val; omega
    | ⟨1, _⟩ => show ((2048 * b.val + s.val) * 2760 + j.val) / 2760 % 2048 = s.val; omega
    | ⟨2, _⟩ => show ((2048 * b.val + s.val) * 2760 + j.val) % 2760 = j.val; omega
  rw [val_main_v14_apply, e, val_main_v13_apply]
  refine Finset.sum_congr rfl fun k _ => ?_
  have el : lidx_main_v13 (ix3 b s j) k = ix3 b s k := by
    funext a; match a with | ⟨0, _⟩ => rfl | ⟨1, _⟩ => rfl | ⟨2, _⟩ => rfl
  have er : ridx_main_v13 (ix3 b s j) k = ix2 k j := by funext a; match a with | ⟨0, _⟩ => rfl | ⟨1, _⟩ => rfl
  rw [el, er, v12_apply]

/-- Two index pairs with the same coordinates. -/
theorem pair_ext {n : Nat} (i : (⟨2, ![16384, n]⟩ : Shape).Idx) (p : Fin 16384) (q : Fin n) (h0 : (i 0).val = p.val)
    (h1 : (i 1).val = q.val) : i = ix2 p q := by
  funext a; apply Fin.ext
  match a with
  | ⟨0, _⟩ => exact h0
  | ⟨1, _⟩ => exact h1

/-- The convolution's inputs are the first columns of the projection. -/
theorem conv_apply (b : Fin 8) (s : Fin 2048) (j : Fin 1536) :
    val_main_v15 (F := Ideal) x g w (ix2 (flat b s) j)
      = normDot (fun k => x (ix3 b s k)) (fun k => g (ix1 k)) (fun k => w (ix2 k ⟨j.val, by have := j.isLt; omega⟩)) := by
  rw [val_main_v15_apply, pair_ext (idx_main_v15 _) (flat b s) ⟨j.val, by have := j.isLt; omega⟩ rfl rfl, v14_apply]

/-- The gates follow them. -/
theorem z_apply (b : Fin 8) (s : Fin 2048) (j : Fin 512) :
    val_main_v16 (F := Ideal) x g w (ix2 (flat b s) j)
      = normDot (fun k => x (ix3 b s k)) (fun k => g (ix1 k)) (fun k => w (ix2 k ⟨1536 + j.val, by have := j.isLt; omega⟩)) := by
  rw [val_main_v16_apply, pair_ext (idx_main_v16 _) (flat b s) ⟨1536 + j.val, by have := j.isLt; omega⟩ rfl rfl, v14_apply]

/-- The latent queries. -/
theorem cq_apply (b : Fin 8) (s : Fin 2048) (j : Fin 384) :
    val_main_v19 (F := Ideal) x g w (ix2 (flat b s) j)
      = normDot (fun k => x (ix3 b s k)) (fun k => g (ix1 k)) (fun k => w (ix2 k ⟨2056 + j.val, by have := j.isLt; omega⟩)) := by
  rw [val_main_v19_apply, pair_ext (idx_main_v19 _) (flat b s) ⟨2056 + j.val, by have := j.isLt; omega⟩ rfl rfl, v14_apply]

/-- The latent keys and values. -/
theorem ckv_apply (b : Fin 8) (s : Fin 2048) (j : Fin 256) :
    val_main_v20 (F := Ideal) x g w (ix2 (flat b s) j)
      = normDot (fun k => x (ix3 b s k)) (fun k => g (ix1 k)) (fun k => w (ix2 k ⟨2440 + j.val, by have := j.isLt; omega⟩)) := by
  rw [val_main_v20_apply, pair_ext (idx_main_v20 _) (flat b s) ⟨2440 + j.val, by have := j.isLt; omega⟩ rfl rfl, v14_apply]

end Cert.InProjRefIdeal.Linear

end
-- ==== Proof.InProj.Array.lean ====
/- The input projection's result arrays beside the reference's, block by block. -/
module

public import proofs.«01_k».proof.Proof.InProj.Block
public import proofs.«01_k».proof.Proof.InProj.Reference
public import proofs.«01_k».proof.Proof.Gen.InProjRefIdeal.Run
public import proofs.«01_k».proof.Defs

@[expose] public section

set_option maxRecDepth 16384
set_option Elab.async false

noncomputable section

namespace Cert.InProjIdeal.Linear

open Cert.InProjIdeal Cert.InProjIdeal.Gen Cert.InProjIdeal.Value Cert.Linear Idealize.ShloMosaic Idealize.ShloMosaic.TcCoe
  Idealize.SL.Sem
open Idealize.ShloMosaic.Pointwise
open Cert.InProjRefIdeal.Linear (flat pair_ext)

/-- Where the blocks of the point `t` stand: the rows' and the results' at block row `t`, the weights and the gain whole. -/
theorem where_x : ∀ t : Fin cfg0.N, win0_0.index t (0 : Fin 2) = t.val ∧ win0_0.index t (1 : Fin 2) = 0 :=
  (by decide +kernel : ∀ t : Fin grid0.N, _)
theorem where_w : ∀ t : Fin cfg0.N, win0_1.index t (0 : Fin 2) = 0 ∧ win0_1.index t (1 : Fin 2) = 0 :=
  (by decide +kernel : ∀ t : Fin grid0.N, _)
theorem where_g : ∀ t : Fin cfg0.N, win0_2.index t (0 : Fin 2) = 0 ∧ win0_2.index t (1 : Fin 2) = 0 :=
  (by decide +kernel : ∀ t : Fin grid0.N, _)
theorem where_conv : ∀ t : Fin cfg0.N, win0_3.index t (0 : Fin 2) = t.val ∧ win0_3.index t (1 : Fin 2) = 0 :=
  (by decide +kernel : ∀ t : Fin grid0.N, _)
theorem where_z : ∀ t : Fin cfg0.N, win0_4.index t (0 : Fin 2) = t.val ∧ win0_4.index t (1 : Fin 2) = 0 :=
  (by decide +kernel : ∀ t : Fin grid0.N, _)
theorem where_cq : ∀ t : Fin cfg0.N, win0_5.index t (0 : Fin 2) = t.val ∧ win0_5.index t (1 : Fin 2) = 0 :=
  (by decide +kernel : ∀ t : Fin grid0.N, _)
theorem where_ckv : ∀ t : Fin cfg0.N, win0_6.index t (0 : Fin 2) = t.val ∧ win0_6.index t (1 : Fin 2) = 0 :=
  (by decide +kernel : ∀ t : Fin grid0.N, _)

theorem n_points (t : Fin cfg0.N) : t.val < 64 := t.isLt

/-- The prompt a point works on, and the position in it of the point's local row. -/
def batch (t : Fin cfg0.N) : Fin 8 := ⟨t.val / 8, by have := n_points t; omega⟩
def pos (t : Fin cfg0.N) (r : Fin 256) : Fin 2048 := ⟨256 * (t.val % 8) + r.val, by have := r.isLt; omega⟩

/-- A block's row, counted over all prompts. -/
theorem flat_val (t : Fin cfg0.N) (r : Fin 256) : (flat (batch t) (pos t r)).val = t.val * 256 + 1 * r.val := by
  show 2048 * (t.val / 8) + (256 * (t.val % 8) + r.val) = _
  omega

/-- A block's entry stands in the array's row `flat` and in its own column. -/
theorem block_val {i b o : Nat} {t : Fin cfg0.N} (e : i = t.val) (r : Fin 256) (hb : b = 256) :
    i * b + 1 * r.val = (flat (batch t) (pos t r)).val := by
  rw [flat_val, e, hb]

theorem col_val {i b n : Nat} (e : i = 0) (j : Fin n) : i * b + 1 * j.val = j.val := by
  rw [e]; omega

variable (m : (ℓ : Loc nD τ sig) → Buf (Elt Ideal) ℓ) (c : Dev nD)

theorem iblkX_apply (t : Fin cfg0.N) (r : Fin 256) (k : Fin 1024) :
    (iblk m c 0 t : S256x1024.Idx → EReal) (ix2 r k) = argX m c (ix3 (batch t) (pos t r) k) := by
  refine Eq.trans ?_ (V_x m c (batch t) (pos t r) k)
  show (V m c main_v10 : S16384x1024.Idx → EReal) (((cfg0.win 0).blk t).view.emb _) = _
  refine congrArg (V m c main_v10 : S16384x1024.Idx → EReal) ?_
  obtain ⟨e0, e1⟩ := where_x t
  funext a; apply Fin.ext
  match a with
  | ⟨0, _⟩ =>
    show win0_0.index t (0 : Fin 2) * 256 + 1 * r.val = 2048 * (t.val / 8) + (256 * (t.val % 8) + r.val)
    omega
  | ⟨1, _⟩ => show win0_0.index t (1 : Fin 2) * 1024 + 1 * k.val = k.val; omega

theorem iblkW_apply (t : Fin cfg0.N) (k : Fin 1024) (j : Fin 2816) :
    (iblk m c 1 t : S1024x2816.Idx → EReal) (ix2 k j) = (V m c main_v9 : S1024x2816.Idx → EReal) (ix2 k j) := by
  show (V m c main_v9 : S1024x2816.Idx → EReal) (((cfg0.win 1).blk t).view.emb _) = _
  refine congrArg (V m c main_v9 : S1024x2816.Idx → EReal) ?_
  obtain ⟨e0, e1⟩ := where_w t
  funext a; apply Fin.ext
  match a with
  | ⟨0, _⟩ => show win0_1.index t (0 : Fin 2) * 1024 + 1 * k.val = k.val; omega
  | ⟨1, _⟩ => show win0_1.index t (1 : Fin 2) * 2816 + 1 * j.val = j.val; omega

theorem iblkG_apply (t : Fin cfg0.N) (k : Fin 1024) :
    (iblk m c 2 t : S1x1024.Idx → EReal) (ix2 0 k) = argG m c (ix1 k) := by
  refine Eq.trans ?_ (V_g m c k)
  show (V m c main_v11 : S1x1024.Idx → EReal) (((cfg0.win 2).blk t).view.emb _) = _
  refine congrArg (V m c main_v11 : S1x1024.Idx → EReal) ?_
  obtain ⟨e0, e1⟩ := where_g t
  funext a; apply Fin.ext
  match a with
  | ⟨0, _⟩ => show win0_2.index t (0 : Fin 2) * 1 + 1 * 0 = 0; omega
  | ⟨1, _⟩ => show win0_2.index t (1 : Fin 2) * 1024 + 1 * k.val = k.val; omega

theorem emb_conv (t : Fin cfg0.N) (r : Fin 256) (j : Fin 1536) :
    ((cfg0.win 3).blk t).view.emb (ix2 r j : S256x1536.Idx) = (ix2 (flat (batch t) (pos t r)) j : S16384x1536.Idx) :=
  pair_ext _ _ _ (block_val (o := 0) (where_conv t).1 r rfl) (col_val (where_conv t).2 j)

theorem emb_z (t : Fin cfg0.N) (r : Fin 256) (j : Fin 512) :
    ((cfg0.win 4).blk t).view.emb (ix2 r j : S256x512.Idx) = (ix2 (flat (batch t) (pos t r)) j : S16384x512.Idx) :=
  pair_ext _ _ _ (block_val (o := 0) (where_z t).1 r rfl) (col_val (where_z t).2 j)

theorem emb_cq (t : Fin cfg0.N) (r : Fin 256) (j : Fin 384) :
    ((cfg0.win 5).blk t).view.emb (ix2 r j : S256x384.Idx) = (ix2 (flat (batch t) (pos t r)) j : S16384x384.Idx) :=
  pair_ext _ _ _ (block_val (o := 0) (where_cq t).1 r rfl) (col_val (where_cq t).2 j)

theorem emb_ckv (t : Fin cfg0.N) (r : Fin 256) (j : Fin 256) :
    ((cfg0.win 6).blk t).view.emb (ix2 r j : S256x256.Idx) = (ix2 (flat (batch t) (pos t r)) j : S16384x256.Idx) :=
  pair_ext _ _ _ (block_val (o := 0) (where_ckv t).1 r rfl) (col_val (where_ckv t).2 j)

/-- Every index of a block, by its row and column. -/
theorem split_o {n : Nat} (j : (⟨2, ![256, n]⟩ : Shape).Idx) : ∃ (r : Fin 256) (k : Fin n), j = ix2 r k :=
  ⟨j 0, j 1, funext fun a => match a with | ⟨0, _⟩ => rfl | ⟨1, _⟩ => rfl⟩

/-- Every row and column of a result, by a point's local ones. -/
theorem split_a {n : Nat} (i : (⟨2, ![16384, n]⟩ : Shape).Idx) :
    ∃ (t : Fin cfg0.N) (r : Fin 256) (k : Fin n), i = ix2 (flat (batch t) (pos t r)) k := by
  have h0 : (i 0).val < 16384 := (i 0).isLt
  refine ⟨(⟨(i 0).val / 256, by show _ < 64; omega⟩ : Fin cfg0.N), ⟨(i 0).val % 256, by omega⟩, i 1, ?_⟩
  refine pair_ext _ _ _ ?_ rfl
  rw [flat_val]
  show (i 0).val = (i 0).val / 256 * 256 + 1 * ((i 0).val % 256)
  omega

/-- The reference's results of the argument arrays. -/
abbrev wantConv : S16384x1536.Idx → EReal :=
  Cert.InProjRefIdeal.Read.val_main_v15 (F := Ideal) (argX m c) (argG m c) (argW m c)
abbrev wantZ : S16384x512.Idx → EReal :=
  Cert.InProjRefIdeal.Read.val_main_v16 (F := Ideal) (argX m c) (argG m c) (argW m c)
abbrev wantCq : S16384x384.Idx → EReal :=
  Cert.InProjRefIdeal.Read.val_main_v19 (F := Ideal) (argX m c) (argG m c) (argW m c)
abbrev wantCkv : S16384x256.Idx → EReal :=
  Cert.InProjRefIdeal.Read.val_main_v20 (F := Ideal) (argX m c) (argG m c) (argW m c)

/-- A point's rows and gain are those of the arrays; with them, its products with a column. -/
theorem dot_eq (t : Fin cfg0.N) (r : Fin 256) {w w' : Fin 1024 → EReal} (hw : ∀ k, w k = w' k) :
    normDot (fun k => (iblk m c 0 t : S256x1024.Idx → EReal) (ix2 r k)) (fun k => (iblk m c 2 t : S1x1024.Idx → EReal) (ix2 0 k)) w
      = normDot (fun k => argX m c (ix3 (batch t) (pos t r) k)) (fun k => argG m c (ix1 k)) w' :=
  normDot_congr (fun k => iblkX_apply m c t r k) (fun k => iblkG_apply m c t k) hw

/-- What a point writes back of each result is its block of the reference's. -/
theorem flushed_conv (t : Fin cfg0.N) :
    (dats m 0 c).flushed 3 t = ((cfg0.win 3).blk t).view.read (Elt Ideal) (wantConv m c) := by
  rw [flushed3]
  refine funext fun (j : S256x1536.Idx) => ?_
  obtain ⟨r, k, rfl⟩ := split_o j
  show out0_3 (F := Ideal) _ _ _ (ix2 r k) = wantConv m c (((cfg0.win 3).blk t).view.emb _)
  rw [emb_conv]
  exact (out3_apply _ _ _ r k).trans ((dot_eq m c t r fun l => (iblkW_apply m c t l _).trans (V_conv m c l k)).trans
    (Cert.InProjRefIdeal.Linear.conv_apply _ _ _ (batch t) (pos t r) k).symm)

theorem flushed_z (t : Fin cfg0.N) :
    (dats m 0 c).flushed 4 t = ((cfg0.win 4).blk t).view.read (Elt Ideal) (wantZ m c) := by
  rw [flushed4]
  refine funext fun (j : S256x512.Idx) => ?_
  obtain ⟨r, k, rfl⟩ := split_o j
  show out0_4 (F := Ideal) _ _ _ (ix2 r k) = wantZ m c (((cfg0.win 4).blk t).view.emb _)
  rw [emb_z]
  exact (out4_apply _ _ _ r k).trans ((dot_eq m c t r fun l => (iblkW_apply m c t l _).trans (V_z m c l k)).trans
    (Cert.InProjRefIdeal.Linear.z_apply _ _ _ (batch t) (pos t r) k).symm)

theorem flushed_cq (t : Fin cfg0.N) :
    (dats m 0 c).flushed 5 t = ((cfg0.win 5).blk t).view.read (Elt Ideal) (wantCq m c) := by
  rw [flushed5]
  refine funext fun (j : S256x384.Idx) => ?_
  obtain ⟨r, k, rfl⟩ := split_o j
  show out0_5 (F := Ideal) _ _ _ (ix2 r k) = wantCq m c (((cfg0.win 5).blk t).view.emb _)
  rw [emb_cq]
  exact (out5_apply _ _ _ r k).trans ((dot_eq m c t r fun l => (iblkW_apply m c t l _).trans (V_cq m c l k)).trans
    (Cert.InProjRefIdeal.Linear.cq_apply _ _ _ (batch t) (pos t r) k).symm)

theorem flushed_ckv (t : Fin cfg0.N) :
    (dats m 0 c).flushed 6 t = ((cfg0.win 6).blk t).view.read (Elt Ideal) (wantCkv m c) := by
  rw [flushed6]
  refine funext fun (j : S256x256.Idx) => ?_
  obtain ⟨r, k, rfl⟩ := split_o j
  show out0_6 (F := Ideal) _ _ _ (ix2 r k) = wantCkv m c (((cfg0.win 6).blk t).view.emb _)
  rw [emb_ckv]
  exact (out6_apply _ _ _ r k).trans ((dot_eq m c t r fun l => (iblkW_apply m c t l _).trans (V_ckv m c l k)).trans
    (Cert.InProjRefIdeal.Linear.ckv_apply _ _ _ (batch t) (pos t r) k).symm)

/-- The kernel's result arrays after the run are the reference's: every index is in some point's block. -/
theorem final_conv : (dats m 0 c).arrAt 3 cfg0.N = wantConv m c :=
  (dats m 0 c).arrAt_eq_of_cover 3 (wantConv m c) (fun t _ => flushed_conv m c t) fun i => by
    obtain ⟨t, r, k, rfl⟩ := split_a i
    exact ⟨t, flush0_3 _, emb_conv t r k ▸ ((cfg0.win 3).blk t).view.emb_mem_set _⟩

theorem final_z : (dats m 0 c).arrAt 4 cfg0.N = wantZ m c :=
  (dats m 0 c).arrAt_eq_of_cover 4 (wantZ m c) (fun t _ => flushed_z m c t) fun i => by
    obtain ⟨t, r, k, rfl⟩ := split_a i
    exact ⟨t, flush0_4 _, emb_z t r k ▸ ((cfg0.win 4).blk t).view.emb_mem_set _⟩

theorem final_cq : (dats m 0 c).arrAt 5 cfg0.N = wantCq m c :=
  (dats m 0 c).arrAt_eq_of_cover 5 (wantCq m c) (fun t _ => flushed_cq m c t) fun i => by
    obtain ⟨t, r, k, rfl⟩ := split_a i
    exact ⟨t, flush0_5 _, emb_cq t r k ▸ ((cfg0.win 5).blk t).view.emb_mem_set _⟩

theorem final_ckv : (dats m 0 c).arrAt 6 cfg0.N = wantCkv m c :=
  (dats m 0 c).arrAt_eq_of_cover 6 (wantCkv m c) (fun t _ => flushed_ckv m c t) fun i => by
    obtain ⟨t, r, k, rfl⟩ := split_a i
    exact ⟨t, flush0_6 _, emb_ckv t r k ▸ ((cfg0.win 6).blk t).view.emb_mem_set _⟩

/-- The input projection computes the reference's four parts. -/
theorem input : Cert.algebraic_InProjIdeal_InProjRefIdeal := by
  intro m ρ m' ρ' _ hag
  refine ⟨fun c => wantConv m c, fun c => wantZ m c, fun c => wantCq m c, fun c => wantCkv m c, ?_, ?_⟩
  · exact (θ_run Cert.InProjIdeal.defs _ _).mono
      (fun r h c => ⟨(h c).1.trans (final_conv m c), (h c).2.1.trans (final_z m c), (h c).2.2.1.trans (final_cq m c),
        (h c).2.2.2.1.trans (final_ckv m c), (h c).2.2.2.2.2⟩)
      (Cert.InProjIdeal.Value.run_blocks (F := Ideal) m ρ)
  · refine (θ_run Cert.InProjRefIdeal.defs _ _).mono
      (fun r h c => ⟨(h c).1.trans ?_, (h c).2.1.trans ?_, (h c).2.2.1.trans ?_, (h c).2.2.2.1.trans ?_, (h c).2.2.2.2⟩)
      (Cert.InProjRefIdeal.Value.run (F := Ideal) m' ρ')
    all_goals obtain ⟨e0, e1, e2⟩ := hag c
    · refine (Cert.InProjRefIdeal.Read.val_main_v15_eq _ _ _).trans ?_
      rw [e0, e1, e2]
    · refine (Cert.InProjRefIdeal.Read.val_main_v16_eq _ _ _).trans ?_
      rw [e0, e1, e2]
    · refine (Cert.InProjRefIdeal.Read.val_main_v19_eq _ _ _).trans ?_
      rw [e0, e1, e2]
    · refine (Cert.InProjRefIdeal.Read.val_main_v20_eq _ _ _).trans ?_
      rw [e0, e1, e2]

/-- The reference runs and keeps its arguments. -/
theorem input_reference_frame : Cert.quiescent_InProjRefIdeal := fun m ρ _ =>
  (θ_run Cert.InProjRefIdeal.defs _ _).mono
    (fun r h => ⟨fun c => (h c).2.2.2.2, sem_eq_zero_of_no_sems (by decide) r.2⟩)
    (Cert.InProjRefIdeal.Value.run (F := Ideal) m ρ)

end Cert.InProjIdeal.Linear

end
-- ==== Proof.Experts.Setup.lean ====
module

public import proofs.«01_k».proof.Proof.Gen.ExpertsIdeal.Skeleton
public import proofs.«01_k».proof.Proof.Gen.ExpertsIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Pipeline.DatRel
public import Idealize.ShloMosaic.Lib.Pipeline.Frame
public import Idealize.ShloMosaic.Lib.Writes
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.ExpertsIdeal.Mlp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The first table (which expert owns a tile) and the second (how many of its rows hold a token), in scalar memory. -/
abbrev teM : Memref sig .tc .smem S290 .i32 := Memref.whole main_arg0
abbrev tvM : Memref sig .tc .smem S290 .i32 := Memref.whole main_arg1
/-- The four scratch buffers: the first weights rounded, the second weights with rows interleaved (f32, then rounded),
    and the activations. -/
abbrev s0M : Memref sig .tc .vmem S1024x2048 .bf16 := Memref.whole cc0_scratch0
abbrev s1M : Memref sig .tc .vmem S8x1024x128 .f32 := Memref.whole cc0_scratch1
abbrev s2M : Memref sig .tc .vmem S1024x1024 .bf16 := Memref.whole cc0_scratch2
abbrev s3M : Memref sig .tc .vmem S256x1024 .bf16 := Memref.whole cc0_scratch3

end Cert.ExpertsIdeal.Mlp

end
-- ==== Proof.Experts.Plane.lean ====
module

public import proofs.«01_k».proof.Proof.Experts.Setup
public import Idealize.ShloMosaic.Lib.Pointwise
public import Idealize.ShloMosaic.Lib.VecWindow

@[expose] public section

set_option maxRecDepth 65536
set_option Elab.async false

noncomputable section

namespace Cert.ExpertsIdeal.Mlp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

/-- The row of the second weights that row `r` of the scratch holds: within 128 rows, even rows take the first 64
    rows in order and odd rows the last 64. -/
def srcRow (r : ℕ) : ℕ := 128 * (r / 128) + r % 128 / 2 + 64 * (r % 2)

theorem srcRow_lt {r : ℕ} (h : r < 1024) : srcRow r < 1024 := by unfold srcRow; omega

/-- What the f32 scratch holds once filled: eight planes of 128 columns of the second weights, rows interleaved. -/
def planeOf (x3 : S1x1024x1024.Idx → Elt F .f32) : S8x1024x128.Idx → Elt F .f32 := fun y =>
  x3 (ix3 0 ⟨srcRow (y 1).val, srcRow_lt (y 1).isLt⟩
    ⟨128 * (y 0).val + (y 2).val, by have h0 : (y 0).val < 8 := (y 0).isLt; have h2 : (y 2).val < 128 := (y 2).isLt; omega⟩)

/-- The store, counted from 0, that fills element `y` of the scratch. -/
def num (y : S8x1024x128.Idx) : ℕ := 16 * (y 0).val + 2 * ((y 1).val / 128) + (y 1).val % 2

/-- The first `n` stores are done: the elements they fill read as the interleaved weights. -/
def Done (x3 : S1x1024x1024.Idx → Elt F .f32) (n : ℕ) (f : s1M.view.ty.Contents (Elt F)) : Prop :=
  ∀ y, num y < n → s1M.view.read (Elt F) f y = planeOf x3 y

theorem done_zero (x3 : S1x1024x1024.Idx → Elt F .f32) (f : s1M.view.ty.Contents (Elt F)) : Done x3 0 f :=
  fun _ h => absurd h (Nat.not_lt_zero _)

theorem num_hit {u h c b p : ℕ} (h1 : h < 1024) (hb : b < 8) (hp : p < 2) (e : 16 * u + 2 * (h / 128) + h % 2 = 16 * c + 2 * b + p) :
    u = c ∧ h / 128 = b ∧ h % 2 = p := by
  have : h / 128 < 8 := by omega
  generalize h / 128 = q at *
  omega

theorem half_hit {h b p : ℕ} (hb : h / 128 = b) (hp : h % 2 = p) :
    h = 128 * b + p + 2 * (h % 128 / 2) ∧ 128 * b + 64 * p + 1 * (h % 128 / 2) = srcRow h := by
  unfold srcRow
  omega

theorem half_mem {h b p j : ℕ} (hp : p < 2) (hj : j < 64) (e : h = 128 * b + p + 2 * j) : h / 128 = b ∧ h % 2 = p := by
  omega

/-- One more strided store: 64 rows of 128 columns go to every second row of a run of 128. -/
theorem done_step (a1 : s1M.view.ty.Contents (Elt F)) (arg6 : Memref sig .tc .vmem S1x1024x1024 .f32)
    (x3 : S1x1024x1024.Idx → Elt F .f32) (n c r1 r0 c0 : ℕ)
    (inb : ∀ a, S1x64x128.size a = 0 ∨ (![c, r1, 0] : Fin 3 → ℕ) a + (![1, 2, 1] : Fin 3 → ℕ) a * (S1x64x128.size a - 1) < S8x1024x128.size a)
    (sp : ∀ a, 0 < (![1, 2, 1] : Fin 3 → ℕ) a)
    (inb' : ∀ a, (![0, r0, c0] : Fin 3 → ℕ) a + S1x64x128.size a ≤ S1x1024x1024.size a)
    (L : List (View.Piece (Elt F) S8x1024x128 .f32))
    (w : S1x64x128.Idx → Elt F .f32)
    (b p : ℕ) (hn : b < 8 ∧ p < 2 ∧ n = 16 * c + 2 * b + p ∧ r1 = 128 * b + p ∧ r0 = 128 * b + 64 * p ∧ c0 = 128 * c)
    (hw : w = shapeCast S1x64x128 (shapeCast S64x128 (View.readAt (Elt F) arg6.view
      (Rect.unit (s := S1x1024x1024) ![0, r0, c0] S1x64x128.size inb').toLoadRect (arg6.view.rep x3)) shapeCasts_S1x64x128_S64x128) shapeCasts_S64x128_S1x64x128)
    (hD : Done x3 n (s1M.view.writes (Elt F) a1 L)) :
    Done x3 (n + 1) (s1M.view.writes (Elt F) a1 (⟨⟨⟨![c, r1, 0], S1x64x128.size, ![1, 2, 1], inb⟩, sp⟩, w⟩ :: L)) := by
  intro y hy
  obtain ⟨hb, hp, hn1, hr1, hr0, hc0⟩ := hn
  have h1 : (y 1).val < 1024 := (y 1).isLt
  have h2 : (y 2).val < 128 := (y 2).isLt
  by_cases he : num y = n
  · obtain ⟨eu, eb, ep⟩ := num_hit h1 hb hp ((show num y = n from he).trans hn1)
    obtain ⟨eh, es⟩ := half_hit eb ep
    have hq : (y 1).val % 128 / 2 < 64 := by omega
    have hx : ∀ a : Fin 3, (y a).val = (![c, r1, 0] : Fin 3 → ℕ) a + (![1, 2, 1] : Fin 3 → ℕ) a *
        ((ix3 (0 : Fin 1) (⟨(y 1).val % 128 / 2, hq⟩ : Fin 64) (⟨(y 2).val, h2⟩ : Fin 128)) a).val := by
      intro a
      fin_cases a
      · show (y 0).val = c + 1 * 0
        rw [eu]; rfl
      · show (y 1).val = r1 + 2 * ((y 1).val % 128 / 2)
        rw [hr1]; exact eh
      · show (y 2).val = 0 + 1 * (y 2).val
        rw [Nat.one_mul, Nat.zero_add]
    refine (View.read_writes_cons_hit_of_coords s1M.view a1 ⟨⟨![c, r1, 0], S1x64x128.size, ![1, 2, 1], inb⟩, sp⟩ w L
      (ix3 (0 : Fin 1) (⟨(y 1).val % 128 / 2, hq⟩ : Fin 64) (⟨(y 2).val, h2⟩ : Fin 128)) y hx).trans ?_
    subst hw
    rw [shapeCast_shapeCast, View.readAt_rep]
    unfold planeOf
    refine congrArg x3 (funext fun a => Fin.ext ?_)
    fin_cases a
    · rfl
    · show r0 + 1 * ((y 1).val % 128 / 2) = srcRow (y 1).val
      rw [hr0]; exact es
    · show c0 + 1 * (y 2).val = 128 * (y 0).val + (y 2).val
      rw [hc0, eu, Nat.one_mul]
  · have hm : y ∉ (⟨⟨![c, r1, 0], S1x64x128.size, ![1, 2, 1], inb⟩, sp⟩ : Rect S8x1024x128).set := by
      intro hm
      rw [LoadRect.mem_set] at hm
      obtain ⟨j0, hj0, e0⟩ := hm (0 : Fin 3)
      obtain ⟨j1, hj1, e1⟩ := hm (1 : Fin 3)
      have e0' : (y 0).val = c + 1 * j0 := e0
      have e1' : (y 1).val = 128 * b + p + 2 * j1 := hr1 ▸ e1
      have hj0' : j0 < 1 := hj0
      obtain ⟨eb, ep⟩ := half_mem hp hj1 e1'
      apply he
      show 16 * (y 0).val + 2 * ((y 1).val / 128) + (y 1).val % 2 = n
      rw [eb, ep, hn1]
      omega
    refine (View.read_writes_cons_miss s1M.view a1 (⟨⟨⟨![c, r1, 0], S1x64x128.size, ![1, 2, 1], inb⟩, sp⟩, w⟩ : View.Piece (Elt F) S8x1024x128 .f32) L y hm).trans ?_
    exact hD y (lt_of_le_of_ne (Nat.lt_succ_iff.mp hy) he)

/-- The same, with the place of the store told by its own offsets: 64 rows of 128 columns go to every second row of a run of 128. -/
theorem done_next (a1 : s1M.view.ty.Contents (Elt F)) (arg6 : Memref sig .tc .vmem S1x1024x1024 .f32)
    (x3 : S1x1024x1024.Idx → Elt F .f32) (n c r1 r0 c0 : ℕ)
    (inb : ∀ a, S1x64x128.size a = 0 ∨ (![c, r1, 0] : Fin 3 → ℕ) a + (![1, 2, 1] : Fin 3 → ℕ) a * (S1x64x128.size a - 1) < S8x1024x128.size a)
    (sp : ∀ a, 0 < (![1, 2, 1] : Fin 3 → ℕ) a)
    (inb' : ∀ a, (![0, r0, c0] : Fin 3 → ℕ) a + S1x64x128.size a ≤ S1x1024x1024.size a)
    (L : List (View.Piece (Elt F) S8x1024x128 .f32))
    (w : S1x64x128.Idx → Elt F .f32)
    (hn : r1 / 128 < 8 ∧ r1 % 2 < 2 ∧ n = 16 * c + 2 * (r1 / 128) + r1 % 2 ∧ r1 = 128 * (r1 / 128) + r1 % 2
      ∧ r0 = 128 * (r1 / 128) + 64 * (r1 % 2) ∧ c0 = 128 * c)
    (hw : w = shapeCast S1x64x128 (shapeCast S64x128 (View.readAt (Elt F) arg6.view
      (Rect.unit (s := S1x1024x1024) ![0, r0, c0] S1x64x128.size inb').toLoadRect (arg6.view.rep x3)) shapeCasts_S1x64x128_S64x128) shapeCasts_S64x128_S1x64x128)
    (hD : Done x3 n (s1M.view.writes (Elt F) a1 L)) :
    Done x3 (n + 1) (s1M.view.writes (Elt F) a1 (⟨⟨⟨![c, r1, 0], S1x64x128.size, ![1, 2, 1], inb⟩, sp⟩, w⟩ :: L)) :=
  done_step a1 arg6 x3 n c r1 r0 c0 inb sp inb' L w (r1 / 128) (r1 % 2) hn hw hD

/-- One plane as the load of it gives it. -/
def planeChunk (x3 : S1x1024x1024.Idx → Elt F .f32) (k : Fin 8) : S1x1024x128.Idx → Elt F .f32 := fun j =>
  planeOf x3 (ix3 k (j 1) (j 2))

theorem load_plane (x3 : S1x1024x1024.Idx → Elt F .f32) (f : s1M.view.ty.Contents (Elt F)) (hD : Done x3 128 f) (k : Fin 8)
    (inb : ∀ a, (![k.val, 0, 0] : Fin 3 → ℕ) a + S1x1024x128.size a ≤ S8x1024x128.size a) :
    View.readAt (Elt F) s1M.view (Rect.unit (s := S8x1024x128) ![k.val, 0, 0] S1x1024x128.size inb).toLoadRect f = planeChunk x3 k := by
  funext j
  have e : (Rect.unit (s := S8x1024x128) ![k.val, 0, 0] S1x1024x128.size inb).toLoadRect.idx j = ix3 k (j 1) (j 2) := by
    funext a
    apply Fin.ext
    have h0 : (j 0).val < 1 := (j 0).isLt
    fin_cases a
    · show k.val + 1 * (j 0).val = k.val
      omega
    · show 0 + 1 * (j 1).val = (j 1).val
      omega
    · show 0 + 1 * (j 2).val = (j 2).val
      omega
  rw [View.readAt_apply, e]
  refine hD _ ?_
  have h1 : (j 1).val < 1024 := (j 1).isLt
  have hk := k.isLt
  show 16 * k.val + 2 * ((j 1).val / 128) + (j 1).val % 2 < 128
  generalize (j 1).val = h at h1
  clear e
  omega

theorem load_lit (x3 : S1x1024x1024.Idx → Elt F .f32) (f : s1M.view.ty.Contents (Elt F)) (hD : Done x3 128 f) (k : Fin 8) (n : ℕ)
    (hk : k.val = n) (inb : ∀ a, (![n, 0, 0] : Fin 3 → ℕ) a + S1x1024x128.size a ≤ S8x1024x128.size a) :
    View.readAt (Elt F) s1M.view (Rect.unit (s := S8x1024x128) ![n, 0, 0] S1x1024x128.size inb).toLoadRect f = planeChunk x3 k := by
  subst hk
  exact load_plane x3 f hD k inb

/-- The first weights as the scratch keeps them: rounded. -/
def W1B (x1 : S1x1024x2048.Idx → Elt F .f32) : FVec F S1024x2048 .bf16 := k0_pay5 x1

/-- The second weights as the fill returns them: rows interleaved, rounded. -/
def W2V (x3 : S1x1024x1024.Idx → Elt F .f32) : FVec F S1024x1024 .bf16 :=
  k0_pay136 (k0_pay134 (planeChunk x3 0)) (k0_pay135 (planeChunk x3 1)) (planeChunk x3 2) (planeChunk x3 3) (planeChunk x3 4)
    (planeChunk x3 5) (planeChunk x3 6) (planeChunk x3 7)

/-- The second weights as the scratch keeps them. -/
def W2P (x3 : S1x1024x1024.Idx → Elt F .f32) : FVec F S1024x1024 .bf16 := k0_pay1 (W2V x3)

/-- The eight planes loaded one after another give the interleaved weights. -/
theorem w2v_of (x3 : S1x1024x1024.Idx → Elt F .f32) (f : s1M.view.ty.Contents (Elt F)) (hD : Done x3 128 f) :
    k0_pay136 (shapeCast S1024x128 (View.readAt (Elt F) s1M.view (Rect.unit (s := S8x1024x128) ![0, 0, 0] S1x1024x128.size inb_S8x1024x128_S1x1024x128_0_0_0).toLoadRect f) shapeCasts_S1x1024x128_S1024x128)
      (shapeCast S1024x128 (View.readAt (Elt F) s1M.view (Rect.unit (s := S8x1024x128) ![1, 0, 0] S1x1024x128.size inb_S8x1024x128_S1x1024x128_1_0_0).toLoadRect f) shapeCasts_S1x1024x128_S1024x128)
      (View.readAt (Elt F) s1M.view (Rect.unit (s := S8x1024x128) ![2, 0, 0] S1x1024x128.size inb_S8x1024x128_S1x1024x128_2_0_0).toLoadRect f)
      (View.readAt (Elt F) s1M.view (Rect.unit (s := S8x1024x128) ![3, 0, 0] S1x1024x128.size inb_S8x1024x128_S1x1024x128_3_0_0).toLoadRect f)
      (View.readAt (Elt F) s1M.view (Rect.unit (s := S8x1024x128) ![4, 0, 0] S1x1024x128.size inb_S8x1024x128_S1x1024x128_4_0_0).toLoadRect f)
      (View.readAt (Elt F) s1M.view (Rect.unit (s := S8x1024x128) ![5, 0, 0] S1x1024x128.size inb_S8x1024x128_S1x1024x128_5_0_0).toLoadRect f)
      (View.readAt (Elt F) s1M.view (Rect.unit (s := S8x1024x128) ![6, 0, 0] S1x1024x128.size inb_S8x1024x128_S1x1024x128_6_0_0).toLoadRect f)
      (View.readAt (Elt F) s1M.view (Rect.unit (s := S8x1024x128) ![7, 0, 0] S1x1024x128.size inb_S8x1024x128_S1x1024x128_7_0_0).toLoadRect f) = W2V x3 := by
  rw [load_lit x3 f hD 0 0 rfl, load_lit x3 f hD 1 1 rfl, load_lit x3 f hD 2 2 rfl, load_lit x3 f hD 3 3 rfl, load_lit x3 f hD 4 4 rfl, load_lit x3 f hD 5 5 rfl, load_lit x3 f hD 6 6 rfl, load_lit x3 f hD 7 7 rfl]
  rfl

/-- A store over the whole of a buffer leaves what was stored. -/
theorem read_all {κ : Kind} {sp : Space} {s : Shape} {e : EltTy} (v : View sig κ sp s e) (f : v.ty.Contents (Elt F)) (off : Fin s.rank → ℕ)
    (inb : ∀ a, off a + s.size a ≤ s.size a) (w : s.Idx → Elt F e) (L : List (View.Piece (Elt F) s e)) :
    v.read (Elt F) (v.writes (Elt F) f (⟨Rect.unit off s.size inb, w⟩ :: L)) = w := by
  funext y
  refine View.read_writes_cons_hit_of_coords v f (Rect.unit off s.size inb) w L y y fun a => ?_
  have h := inb a
  show (y a).val = off a + 1 * (y a).val
  omega

theorem read_first (arg4 : Memref sig .tc .vmem S1x1024x2048 .f32) (x1 : S1x1024x2048.Idx → Elt F .f32)
    (a0 : s0M.view.ty.Contents (Elt F)) (inb inb') :
    s0M.view.read (Elt F) (s0M.view.writes (Elt F) a0
      [⟨Rect.unit (s := S1024x2048) ![0, 0] S1024x2048.size inb, k0_pay5 (View.readAt (Elt F) arg4.view
        (Rect.unit (s := S1x1024x2048) ![0, 0, 0] S1x1024x2048.size inb').toLoadRect (arg4.view.rep x1))⟩]) = W1B x1 := by
  unfold W1B
  rw [View.readAt_rep_full]
  exact read_all s0M.view a0 ![0, 0] inb (k0_pay5 x1) []

end Cert.ExpertsIdeal.Mlp

end
-- ==== Proof.Experts.Act.lean ====
module

public import proofs.«01_k».proof.Proof.Experts.Plane
public import Idealize.ShloMosaic.Lib.Pointwise

@[expose] public section

set_option maxRecDepth 65536
set_option Elab.async false

noncomputable section

namespace Cert.ExpertsIdeal.Mlp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

/-- A word of a table as the body loads it. -/
abbrev wordOf (M : Memref sig .tc .smem S290 .i32) (T : M.view.ty.Contents (Elt F)) (off : Fin 1 → ℕ)
    (inb : ∀ a, off a + S1.size a ≤ S290.size a) : BitVec 32 :=
  View.readAt (Elt F) M.view (Rect.unit (s := S290) off S1.size inb).toLoadRect T (Shape.Idx.first (numel1_S1.symm ▸ Nat.one_pos))

/-- The tile brings a new expert: it is the first, or its expert is not the last tile's. -/
abbrev NewExpert (i : grid0.Coords) (T0 : teM.view.ty.Contents (Elt F)) : Prop :=
  Scalar.cmpi .ne (Scalar.extui (Scalar.ori (Scalar.cmpi .eq (BitVec.ofNat 32 (i 0).val) 0#32)
    (Scalar.cmpi .ne (wordOf (F := F) teM T0 (k0_off1 i) (k0_off1_inb i)) (wordOf (F := F) teM T0 (k0_off2 i) (k0_off2_inb i)))) : BitVec 32) 0#32 = 1#1

/-- One chunk of the activations: 256 columns, from 512 columns of the first weights. -/
def actChunk (xb : FVec F S256x1024 .bf16) (wb : Vec F S1024x512 .bf16) (bb : Vec F S1x1x512 .f32) : FVec F S256x256 .bf16 :=
  k0_pay153 (k0_pay148 xb k0_pay138 wb bb) (k0_pay151 xb k0_pay138 wb bb) (k0_pay152 xb k0_pay138 wb bb)

/-- The chunk of the first weights that starts at column `512 k`. -/
def wChunk (w1 : S1024x2048.Idx → Elt F .bf16) (k : Fin 4) : Vec F S1024x512 .bf16 := fun j =>
  w1 (ix2 (j 0) ⟨512 * k.val + (j 1).val, by have h : (j 1).val < 512 := (j 1).isLt; have := k.isLt; omega⟩)

/-- The chunk of the first bias that starts at column `512 k`. -/
def bChunk (b1 : S1x1x2048.Idx → Elt F .f32) (k : Fin 4) : Vec F S1x1x512 .f32 := fun j =>
  b1 (ix3 0 0 ⟨512 * k.val + (j 2).val, by have h : (j 2).val < 512 := (j 2).isLt; have := k.isLt; omega⟩)

/-- The activations of a tile, all four chunks. -/
def actOf (x0 : S256x8x128.Idx → Elt F .f32) (w1 : S1024x2048.Idx → Elt F .bf16) (b1 : S1x1x2048.Idx → Elt F .f32) :
    S256x1024.Idx → Elt F .bf16 := fun y =>
  actChunk (k0_pay137 x0) (wChunk w1 ⟨(y 1).val / 256, by have h : (y 1).val < 1024 := (y 1).isLt; omega⟩)
    (bChunk b1 ⟨(y 1).val / 256, by have h : (y 1).val < 1024 := (y 1).isLt; omega⟩) (ix2 (y 0) ⟨(y 1).val % 256, Nat.mod_lt _ (by decide)⟩)

/-- What a tile with tokens gives: activations through the second weights, plus their bias. -/
def outOf (x0 : S256x8x128.Idx → Elt F .f32) (w1 : S1024x2048.Idx → Elt F .bf16) (b1 : S1x1x2048.Idx → Elt F .f32)
    (w2 : S1024x1024.Idx → Elt F .bf16) (b2 : S1x1x1024.Idx → Elt F .f32) : FVec F S256x8x128 .f32 :=
  k0_pay3 (actOf x0 w1 b1) w2 b2

/-- A tile is either empty or not. -/
theorem cond_excl (v : BitVec 32) (h2 : k0_cond2 v = 1#1) (h3 : k0_cond3 v = 1#1) : False := by
  have h : v = 0#32 := by
    by_contra hne
    have : k0_cond3 v = 0#1 := by
      unfold k0_cond3
      have e : Scalar.cmpi .eq v 0#32 = 0#1 := by
        show BitVec.ofBool (v == 0#32) = 0#1
        rw [beq_eq_false_iff_ne.mpr hne]; rfl
      simp only [e]
      rfl
    rw [this] at h3
    exact absurd h3 (by decide)
  subst h
  exact absurd h2 (by decide)

theorem load_w (w1 : S1024x2048.Idx → Elt F .bf16) (a0 : s0M.view.ty.Contents (Elt F)) (h : s0M.view.read (Elt F) a0 = w1) (k : Fin 4) (n : ℕ)
    (hk : 512 * k.val = n) (inb : ∀ a, (![0, n] : Fin 2 → ℕ) a + S1024x512.size a ≤ S1024x2048.size a) :
    View.readAt (Elt F) s0M.view (Rect.unit (s := S1024x2048) ![0, n] S1024x512.size inb).toLoadRect a0 = wChunk w1 k := by
  funext j
  rw [View.readAt_apply, h]
  refine congrArg w1 (funext fun a => Fin.ext ?_)
  fin_cases a
  · show 0 + 1 * (j 0).val = (j 0).val
    rw [Nat.one_mul, Nat.zero_add]
  · show n + 1 * (j 1).val = 512 * k.val + (j 1).val
    rw [Nat.one_mul, hk]

theorem load_b (x2 : S1x1x2048.Idx → Elt F .f32) (arg5 : Memref sig .tc .vmem S1x1x2048 .f32) (k : Fin 4) (n : ℕ)
    (hk : 512 * k.val = n) (inb : ∀ a, (![0, 0, n] : Fin 3 → ℕ) a + S1x1x512.size a ≤ S1x1x2048.size a) :
    View.readAt (Elt F) arg5.view (Rect.unit (s := S1x1x2048) ![0, 0, n] S1x1x512.size inb).toLoadRect (arg5.view.rep x2) = bChunk x2 k := by
  funext j
  rw [View.readAt_rep]
  refine congrArg x2 (funext fun a => Fin.ext ?_)
  have h0 : (j 0).val < 1 := (j 0).isLt
  have h1 : (j 1).val < 1 := (j 1).isLt
  fin_cases a
  · show 0 + 1 * (j 0).val = 0
    rw [Nat.one_mul, Nat.zero_add]; exact Nat.lt_one_iff.mp h0
  · show 0 + 1 * (j 1).val = 0
    rw [Nat.one_mul, Nat.zero_add]; exact Nat.lt_one_iff.mp h1
  · show n + 1 * (j 2).val = 512 * k.val + (j 2).val
    rw [Nat.one_mul, hk]

theorem act_at (x0 : S256x8x128.Idx → Elt F .f32) (w1 : S1024x2048.Idx → Elt F .bf16) (b1 : S1x1x2048.Idx → Elt F .f32) (k : Fin 4)
    (n : ℕ) (hk : 256 * k.val = n) (inb : ∀ a, (![0, n] : Fin 2 → ℕ) a + S256x256.size a ≤ S256x1024.size a) (j : S256x256.Idx) :
    actChunk (k0_pay137 x0) (wChunk w1 k) (bChunk b1 k) j
      = actOf x0 w1 b1 ((Rect.unit (s := S256x1024) ![0, n] S256x256.size inb).emb j) := by
  have h0 : (j 0).val < 256 := (j 0).isLt
  have h1 : (j 1).val < 256 := (j 1).isLt
  have e1 : ((Rect.unit (s := S256x1024) ![0, n] S256x256.size inb).emb j 1).val = 256 * k.val + (j 1).val := by
    show n + 1 * (j 1).val = 256 * k.val + (j 1).val
    rw [Nat.one_mul, hk]
  have e0 : ((Rect.unit (s := S256x1024) ![0, n] S256x256.size inb).emb j 0).val = (j 0).val := by
    show 0 + 1 * (j 0).val = (j 0).val
    rw [Nat.one_mul, Nat.zero_add]
  have ek : (⟨((Rect.unit (s := S256x1024) ![0, n] S256x256.size inb).emb j 1).val / 256,
      by have h : ((Rect.unit (s := S256x1024) ![0, n] S256x256.size inb).emb j 1).val < 1024 := (_ : Fin 1024).isLt; omega⟩ : Fin 4) = k :=
    Fin.ext (by show _ / 256 = _; rw [e1]; omega)
  unfold actOf
  rw [ek]
  refine congrArg (actChunk (k0_pay137 x0) (wChunk w1 k) (bChunk b1 k)) (funext fun a => Fin.ext ?_)
  fin_cases a
  · exact e0.symm
  · show (j 1).val = ((Rect.unit (s := S256x1024) ![0, n] S256x256.size inb).emb j 1).val % 256
    rw [e1]; omega

/-- The four chunks stored side by side, read back. -/
theorem act_read (arg3 : Memref sig .tc .vmem S256x8x128 .f32) (arg5 : Memref sig .tc .vmem S1x1x2048 .f32) (x0 : S256x8x128.Idx → Elt F .f32)
    (x2 : S1x1x2048.Idx → Elt F .f32) (w1 : S1024x2048.Idx → Elt F .bf16) (a0 : s0M.view.ty.Contents (Elt F)) (h : s0M.view.read (Elt F) a0 = w1) :
    s3M.view.readCov (Val := Elt F)
      [⟨Rect.unit (s := S256x1024) ![0, 768] S256x256.size inb_S256x1024_S256x256_0_768,
        actChunk (k0_pay137 (View.readAt (Elt F) arg3.view (Rect.unit (s := S256x8x128) ![0, 0, 0] S256x8x128.size inb_S256x8x128_S256x8x128_0_0_0).toLoadRect (arg3.view.rep x0)))
          (View.readAt (Elt F) s0M.view (Rect.unit (s := S1024x2048) ![0, 1536] S1024x512.size inb_S1024x2048_S1024x512_0_1536).toLoadRect a0)
          (View.readAt (Elt F) arg5.view (Rect.unit (s := S1x1x2048) ![0, 0, 1536] S1x1x512.size inb_S1x1x2048_S1x1x512_0_0_1536).toLoadRect (arg5.view.rep x2))⟩,
       ⟨Rect.unit (s := S256x1024) ![0, 512] S256x256.size inb_S256x1024_S256x256_0_512,
        actChunk (k0_pay137 (View.readAt (Elt F) arg3.view (Rect.unit (s := S256x8x128) ![0, 0, 0] S256x8x128.size inb_S256x8x128_S256x8x128_0_0_0).toLoadRect (arg3.view.rep x0)))
          (View.readAt (Elt F) s0M.view (Rect.unit (s := S1024x2048) ![0, 1024] S1024x512.size inb_S1024x2048_S1024x512_0_1024).toLoadRect a0)
          (View.readAt (Elt F) arg5.view (Rect.unit (s := S1x1x2048) ![0, 0, 1024] S1x1x512.size inb_S1x1x2048_S1x1x512_0_0_1024).toLoadRect (arg5.view.rep x2))⟩,
       ⟨Rect.unit (s := S256x1024) ![0, 256] S256x256.size inb_S256x1024_S256x256_0_256,
        actChunk (k0_pay137 (View.readAt (Elt F) arg3.view (Rect.unit (s := S256x8x128) ![0, 0, 0] S256x8x128.size inb_S256x8x128_S256x8x128_0_0_0).toLoadRect (arg3.view.rep x0)))
          (View.readAt (Elt F) s0M.view (Rect.unit (s := S1024x2048) ![0, 512] S1024x512.size inb_S1024x2048_S1024x512_0_512).toLoadRect a0)
          (View.readAt (Elt F) arg5.view (Rect.unit (s := S1x1x2048) ![0, 0, 512] S1x1x512.size inb_S1x1x2048_S1x1x512_0_0_512).toLoadRect (arg5.view.rep x2))⟩,
       ⟨Rect.unit (s := S256x1024) ![0, 0] S256x256.size inb_S256x1024_S256x256_0_0,
        actChunk (k0_pay137 (View.readAt (Elt F) arg3.view (Rect.unit (s := S256x8x128) ![0, 0, 0] S256x8x128.size inb_S256x8x128_S256x8x128_0_0_0).toLoadRect (arg3.view.rep x0)))
          (View.readAt (Elt F) s0M.view (Rect.unit (s := S1024x2048) ![0, 0] S1024x512.size inb_S1024x2048_S1024x512_0_0).toLoadRect a0)
          (View.readAt (Elt F) arg5.view (Rect.unit (s := S1x1x2048) ![0, 0, 0] S1x1x512.size inb_S1x1x2048_S1x1x512_0_0_0).toLoadRect (arg5.view.rep x2))⟩]
      (Rect.unit (s := S256x1024) ![0, 0] S256x1024.size inb_S256x1024_S256x1024_0_0).toLoadRect = actOf x0 w1 x2 := by
  rw [View.readAt_rep_full, load_w w1 a0 h 0 0 rfl, load_w w1 a0 h 1 512 rfl, load_w w1 a0 h 2 1024 rfl, load_w w1 a0 h 3 1536 rfl,
    load_b x2 arg5 0 0 rfl, load_b x2 arg5 1 512 rfl, load_b x2 arg5 2 1024 rfl, load_b x2 arg5 3 1536 rfl]
  have cov : ∀ y : S256x1024.Idx, ∃ p ∈ ([⟨Rect.unit (s := S256x1024) ![0, 768] S256x256.size inb_S256x1024_S256x256_0_768, actChunk (k0_pay137 x0) (wChunk w1 3) (bChunk x2 3)⟩,
      ⟨Rect.unit (s := S256x1024) ![0, 512] S256x256.size inb_S256x1024_S256x256_0_512, actChunk (k0_pay137 x0) (wChunk w1 2) (bChunk x2 2)⟩,
      ⟨Rect.unit (s := S256x1024) ![0, 256] S256x256.size inb_S256x1024_S256x256_0_256, actChunk (k0_pay137 x0) (wChunk w1 1) (bChunk x2 1)⟩,
      ⟨Rect.unit (s := S256x1024) ![0, 0] S256x256.size inb_S256x1024_S256x256_0_0, actChunk (k0_pay137 x0) (wChunk w1 0) (bChunk x2 0)⟩] : List (View.Piece (Elt F) S256x1024 .bf16)), y ∈ p.1.set := by
    intro y
    have h0 : (y 0).val < 256 := (y 0).isLt
    have h1 : (y 1).val < 1024 := (y 1).isLt
    have key : ∀ (n : ℕ) (inb : ∀ a, (![0, n] : Fin 2 → ℕ) a + S256x256.size a ≤ S256x1024.size a), n ≤ (y 1).val → (y 1).val < n + 256 →
        y ∈ (Rect.unit (s := S256x1024) ![0, n] S256x256.size inb).set := by
      intro n inb ha hb
      rw [LoadRect.mem_set]
      intro a
      fin_cases a
      · exact ⟨(y 0).val, h0, by show (y 0).val = 0 + 1 * (y 0).val; omega⟩
      · exact ⟨(y 1).val - n, by show (y 1).val - n < 256; omega, by show (y 1).val = n + 1 * ((y 1).val - n); omega⟩
    by_cases c1 : (y 1).val < 256
    · exact ⟨_, .tail _ (.tail _ (.tail _ (.head _))), key 0 inb_S256x1024_S256x256_0_0 (Nat.zero_le _) (by omega)⟩
    by_cases c2 : (y 1).val < 512
    · exact ⟨_, .tail _ (.tail _ (.head _)), key 256 inb_S256x1024_S256x256_0_256 (by omega) (by omega)⟩
    by_cases c3 : (y 1).val < 768
    · exact ⟨_, .tail _ (.head _), key 512 inb_S256x1024_S256x256_0_512 (by omega) (by omega)⟩
    · exact ⟨_, .head _, key 768 inb_S256x1024_S256x256_0_768 (by omega) (by omega)⟩
  rw [View.readCov_eq_canon _ _ _ fun j => cov _]
  funext y
  rw [View.canon_apply_of_pieces (actOf x0 w1 x2) _ _ _ (cov _)]
  · refine congrArg (actOf x0 w1 x2) (funext fun a => Fin.ext ?_)
    fin_cases a
    · show 0 + 1 * (y 0).val = (y 0).val
      omega
    · show 0 + 1 * (y 1).val = (y 1).val
      omega
  · intro p hp
    rcases hp with _ | ⟨_, _ | ⟨_, _ | ⟨_, _ | ⟨_, hp⟩⟩⟩⟩
    · exact fun x => act_at x0 w1 x2 3 768 rfl inb_S256x1024_S256x256_0_768 x
    · exact fun x => act_at x0 w1 x2 2 512 rfl inb_S256x1024_S256x256_0_512 x
    · exact fun x => act_at x0 w1 x2 1 256 rfl inb_S256x1024_S256x256_0_256 x
    · exact fun x => act_at x0 w1 x2 0 0 rfl inb_S256x1024_S256x256_0_0 x
    · exact absurd hp List.not_mem_nil

/-- A load of the whole of a buffer reads it. -/
theorem load_all {κ : Kind} {sp : Space} {s : Shape} {e : EltTy} (v : View sig κ sp s e) (f : v.ty.Contents (Elt F)) (off : Fin s.rank → ℕ)
    (inb : ∀ a, off a + s.size a ≤ s.size a) :
    View.readAt (Elt F) v (Rect.unit off s.size inb).toLoadRect f = v.read (Elt F) f := by
  funext y
  rw [View.readAt_apply]
  refine congrArg (v.read (Elt F) f) (funext fun a => Fin.ext ?_)
  have h := inb a
  show off a + 1 * (y a).val = (y a).val
  omega

end Cert.ExpertsIdeal.Mlp

end
-- ==== Proof.Experts.BodyOld.lean ====
module

public import proofs.«01_k».proof.Proof.Experts.Plane
public import proofs.«01_k».proof.Proof.Experts.Act
public import Idealize.ShloMosaic.Lib.Pointwise

@[expose] public section

set_option maxRecDepth 65536
set_option Elab.async false

noncomputable section

namespace Cert.ExpertsIdeal.Mlp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

set_option maxHeartbeats 40000000 in
/-- The body at a tile whose expert is the last tile's. -/
theorem body_old (c : Dev nD) (i : grid0.Coords) (arg3 : Memref sig .tc .vmem S256x8x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x8x128 .f32) (harg8 : arg8.IsWhole)
    (T0 : teM.view.ty.Contents (Elt F)) (T1 : tvM.view.ty.Contents (Elt F))
    (x0 : S256x8x128.Idx → Elt F .f32) (x1 : S1x1024x2048.Idx → Elt F .f32) (x2 : S1x1x2048.Idx → Elt F .f32) (x3 : S1x1024x1024.Idx → Elt F .f32) (x4 : S1x1x1024.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3))
    (hc0 : ¬ NewExpert i T0) (e0 : s0M.view.read (Elt F) a0 = W1B x1) (e2 : s2M.view.read (Elt F) a2 = W2P x3) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (tvM.view.loc (c : Thread nD τ) ↦{fullShare.right} T1)
          ∗ (∃ d, owns (c : Thread nD τ) arg8 fullShare d)
          ∗ (s0M.view.loc (c : Thread nD τ) ↦{fullShare} a0)
          ∗ (s1M.view.loc (c : Thread nD τ) ↦{fullShare} a1)
          ∗ (s2M.view.loc (c : Thread nD τ) ↦{fullShare} a2)
          ∗ (s3M.view.loc (c : Thread nD τ) ↦{fullShare} a3)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (tvM.view.loc (c : Thread nD τ) ↦{fullShare.right} T1)
              ∗ (∃ X, iprop(⌜(k0_cond2 (wordOf (F := F) tvM T1 (k0_off3 i) (k0_off3_inb i)) = 1#1 → X = outOf x0 (W1B x1) x2 (W2P x3) x4)
                  ∧ (k0_cond3 (wordOf (F := F) tvM T1 (k0_off3 i) (k0_off3_inb i)) = 1#1 → X = k0_pay4)⌝ ∗ owns (c : Thread nD τ) arg8 fullShare X))
              ∗ (∃ b0, iprop(⌜s0M.view.read (Elt F) b0 = W1B x1⌝ ∗ (s0M.view.loc (c : Thread nD τ) ↦{fullShare} b0)))
              ∗ (∃ b1, (s1M.view.loc (c : Thread nD τ) ↦{fullShare} b1))
              ∗ (∃ b2, iprop(⌜s2M.view.read (Elt F) b2 = W2P x3⌝ ∗ (s2M.view.loc (c : Thread nD τ) ↦{fullShare} b2)))
              ∗ (∃ b3, (s3M.view.loc (c : Thread nD τ) ↦{fullShare} b3))) -∗ K ⟨⟩))
     ⊢ wp frame (wpE (defs₀ (F := F)) Variants.none c none) Set.univ
        (cc0_moe_experts i teM (Memref.isWhole_whole _) tvM (Memref.isWhole_whole _) arg3 harg3 arg4 harg4 arg5 harg5 arg6 harg6 arg7 harg7 arg8 harg8 s0M (Memref.isWhole_whole _) s1M (Memref.isWhole_whole _) s2M (Memref.isWhole_whole _) s3M (Memref.isWhole_whole _)) K := by
  unfold owns
  rw [cc0_moe_experts_eq_skeleton]; unfold cc0_moe_experts_skel
  iintro ⟨H0, H1, H2, H3, H4, HT0, HT1, ⟨%d5, %f5, -, HO5⟩, HS0, HS1, HS2, HS3, Hk⟩
  have hS0 : s0M.IsWhole := Memref.isWhole_whole _
  have hS1 : s1M.IsWhole := Memref.isWhole_whole _
  have hS2 : s2M.IsWhole := Memref.isWhole_whole _
  have hS3 : s3M.IsWhole := Memref.isWhole_whole _
  have hT0 : teM.IsWhole := Memref.isWhole_whole _
  have hT1 : tvM.IsWhole := Memref.isWhole_whole _
  by_cases h2 : k0_cond2 (wordOf (F := F) tvM T1 (k0_off3 i) (k0_off3_inb i)) = 1#1
  · have h3 : ¬ k0_cond3 (wordOf (F := F) tvM T1 (k0_off4 i) (k0_off4_inb i)) = 1#1 := fun h => cond_excl _ h2 h
    sl_exec_parts (disch := first | (guard_target = ¬(Scalar.cmpi = _); exact hc0) | (guard_target = k0_cond2 _ = _; exact h2) | (guard_target = ¬(k0_cond3 _ = _); exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists (outOf x0 (W1B x1) x2 (W2P x3) x4)
      isplit; · ipureintro; exact ⟨fun _ => rfl, fun h => absurd h h3⟩
      iexists _
      isplitl []; rotate_left; · iexact HO5
      ipureintro
      refine (read_all arg8.view f5 _ _ _ _).trans ?_
      exact congr (congr (congrArg k0_pay3 (act_read arg3 arg5 x0 x2 (W1B x1) a0 e0)) ((load_all s2M.view a2 _ _).trans e2)) (View.readAt_rep_full arg7.view x4 _)
    isplitl [HS0]
    · iexists _
      isplitl []; rotate_left
      · iexact HS0
      · ipureintro; exact e0
    isplitl [HS1]; · iexists _; iexact HS1
    isplitl [HS2]
    · iexists _
      isplitl []; rotate_left
      · iexact HS2
      · ipureintro; exact e2
    iexists _; iexact HS3
  · by_cases h3 : k0_cond3 (wordOf (F := F) tvM T1 (k0_off4 i) (k0_off4_inb i)) = 1#1
    · skip
      sl_exec_parts (disch := first | (guard_target = ¬(Scalar.cmpi = _); exact hc0) | (guard_target = ¬(k0_cond2 _ = _); exact h2) | (guard_target = k0_cond3 _ = _; exact h3))
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HO5]
      · iexists k0_pay4
        isplit; · ipureintro; exact ⟨fun h => absurd h h2, fun _ => rfl⟩
        iexists _
        isplitl []; rotate_left; · iexact HO5
        ipureintro
        exact read_all arg8.view f5 _ _ _ _
      isplitl [HS0]
      · iexists _
        isplitl []; rotate_left
        · iexact HS0
        · ipureintro; exact e0
      isplitl [HS1]; · iexists _; iexact HS1
      isplitl [HS2]
      · iexists _
        isplitl []; rotate_left
        · iexact HS2
        · ipureintro; exact e2
      iexists _; iexact HS3
    · skip
      sl_exec_parts (disch := first | (guard_target = ¬(Scalar.cmpi = _); exact hc0) | (guard_target = ¬(k0_cond2 _ = _); exact h2) | (guard_target = ¬(k0_cond3 _ = _); exact h3))
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HO5]
      · iexists (arg8.view.read (Elt F) f5)
        isplit; · ipureintro; exact ⟨fun h => absurd h h2, fun h => absurd h h3⟩
        iexists _
        isplitl []; rotate_left; · iexact HO5
        ipureintro
        rfl
      isplitl [HS0]
      · iexists _
        isplitl []; rotate_left
        · iexact HS0
        · ipureintro; exact e0
      isplitl [HS1]; · iexists _; iexact HS1
      isplitl [HS2]
      · iexists _
        isplitl []; rotate_left
        · iexact HS2
        · ipureintro; exact e2
      iexists _; iexact HS3

end Cert.ExpertsIdeal.Mlp

end
-- ==== Proof.Experts.BodyNew.lean ====
module

public import proofs.«01_k».proof.Proof.Experts.Plane
public import proofs.«01_k».proof.Proof.Experts.Act
public import Idealize.ShloMosaic.Lib.Pointwise

@[expose] public section

set_option maxRecDepth 65536
set_option Elab.async false

noncomputable section

namespace Cert.ExpertsIdeal.Mlp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

set_option maxHeartbeats 40000000 in
/-- The body at a tile with a new expert. -/
theorem body_new (c : Dev nD) (i : grid0.Coords) (arg3 : Memref sig .tc .vmem S256x8x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x8x128 .f32) (harg8 : arg8.IsWhole)
    (T0 : teM.view.ty.Contents (Elt F)) (T1 : tvM.view.ty.Contents (Elt F))
    (x0 : S256x8x128.Idx → Elt F .f32) (x1 : S1x1024x2048.Idx → Elt F .f32) (x2 : S1x1x2048.Idx → Elt F .f32) (x3 : S1x1024x1024.Idx → Elt F .f32) (x4 : S1x1x1024.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3))
    (hc0 : NewExpert i T0) (h2 : k0_cond2 (wordOf (F := F) tvM T1 (k0_off3 i) (k0_off3_inb i)) = 1#1) (h3 : ¬ k0_cond3 (wordOf (F := F) tvM T1 (k0_off4 i) (k0_off4_inb i)) = 1#1) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (tvM.view.loc (c : Thread nD τ) ↦{fullShare.right} T1)
          ∗ (∃ d, owns (c : Thread nD τ) arg8 fullShare d)
          ∗ (s0M.view.loc (c : Thread nD τ) ↦{fullShare} a0)
          ∗ (s1M.view.loc (c : Thread nD τ) ↦{fullShare} a1)
          ∗ (s2M.view.loc (c : Thread nD τ) ↦{fullShare} a2)
          ∗ (s3M.view.loc (c : Thread nD τ) ↦{fullShare} a3)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (tvM.view.loc (c : Thread nD τ) ↦{fullShare.right} T1)
              ∗ (∃ X, iprop(⌜(k0_cond2 (wordOf (F := F) tvM T1 (k0_off3 i) (k0_off3_inb i)) = 1#1 → X = outOf x0 (W1B x1) x2 (W2P x3) x4)
                  ∧ (k0_cond3 (wordOf (F := F) tvM T1 (k0_off3 i) (k0_off3_inb i)) = 1#1 → X = k0_pay4)⌝ ∗ owns (c : Thread nD τ) arg8 fullShare X))
              ∗ (∃ b0, iprop(⌜s0M.view.read (Elt F) b0 = W1B x1⌝ ∗ (s0M.view.loc (c : Thread nD τ) ↦{fullShare} b0)))
              ∗ (∃ b1, (s1M.view.loc (c : Thread nD τ) ↦{fullShare} b1))
              ∗ (∃ b2, iprop(⌜s2M.view.read (Elt F) b2 = W2P x3⌝ ∗ (s2M.view.loc (c : Thread nD τ) ↦{fullShare} b2)))
              ∗ (∃ b3, (s3M.view.loc (c : Thread nD τ) ↦{fullShare} b3))) -∗ K ⟨⟩))
     ⊢ wp frame (wpE (defs₀ (F := F)) Variants.none c none) Set.univ
        (cc0_moe_experts i teM (Memref.isWhole_whole _) tvM (Memref.isWhole_whole _) arg3 harg3 arg4 harg4 arg5 harg5 arg6 harg6 arg7 harg7 arg8 harg8 s0M (Memref.isWhole_whole _) s1M (Memref.isWhole_whole _) s2M (Memref.isWhole_whole _) s3M (Memref.isWhole_whole _)) K := by
  unfold owns
  rw [cc0_moe_experts_eq_skeleton]; unfold cc0_moe_experts_skel
  iintro ⟨H0, H1, H2, H3, H4, HT0, HT1, ⟨%d5, %f5, -, HO5⟩, HS0, HS1, HS2, HS3, Hk⟩
  have hS0 : s0M.IsWhole := Memref.isWhole_whole _
  have hS1 : s1M.IsWhole := Memref.isWhole_whole _
  have hS2 : s2M.IsWhole := Memref.isWhole_whole _
  have hS3 : s3M.IsWhole := Memref.isWhole_whole _
  have hT0 : teM.IsWhole := Memref.isWhole_whole _
  have hT1 : tvM.IsWhole := Memref.isWhole_whole _
  sl_exec_parts (disch := first | (guard_target = Scalar.cmpi = _; exact hc0) | (guard_target = k0_cond2 _ = _; exact h2) | (guard_target = ¬(k0_cond3 _ = _); exact h3))
  sl_step
  have e0 : ∀ a, s0M.view.read (Elt F) (s0M.view.writes (Elt F) a (body_new.sl.HS0_1 arg4 x1)) = W1B x1 := fun a => by
    unfold body_new.sl.HS0_1; exact read_first arg4 x1 a _ _
  have hD : Done x3 128 (s1M.view.writes (Elt F) a1 (body_new.sl.HS1_128 arg6 x3)) := by
    iterate 128 refine done_next a1 arg6 x3 _ _ _ _ _ _ _ _ _ _ (by decide) rfl ?_
    exact done_zero _ _
  have e2 : ∀ a, s2M.view.read (Elt F) (s2M.view.writes (Elt F) a (body_new.sl.HS2_1 c arg6 x3 a1)) = W2P x3 := fun a => by
    unfold body_new.sl.HS2_1
    unfold body_new.sl.r_2 body_new.sl.v668 body_new.sl.v670
    rw [w2v_of x3 _ hD]
    exact read_all s2M.view a ![0, 0] _ (W2P x3) []
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists (outOf x0 (W1B x1) x2 (W2P x3) x4)
    isplit; · ipureintro; exact ⟨fun _ => rfl, fun h => absurd h h3⟩
    iexists _
    isplitl []; rotate_left; · iexact HO5
    ipureintro
    refine (read_all arg8.view f5 _ _ _ _).trans ?_
    unfold body_new.sl.v287 body_new.sl.v288_1
    have r2 : s2M.view.readCov (Val := Elt F) (body_new.sl.HS2_1 c arg6 x3 a1) (Rect.unit ![0, 0] S1024x1024.size inb_S1024x1024_S1024x1024_0_0).toLoadRect = W2P x3 :=
      (load_all s2M.view (s2M.view.writes (Elt F) s2M.view.junk (body_new.sl.HS2_1 c arg6 x3 a1)) _ _).trans (e2 _)
    rw [r2]
    have r3 : s3M.view.readCov (Val := Elt F) (body_new.sl.HS3_4 arg3 arg4 arg5 x0 x1 x2) (Rect.unit (s := S256x1024) ![0, 0] S256x1024.size inb_S256x1024_S256x1024_0_0).toLoadRect = actOf x0 (W1B x1) x2 := by
      exact act_read arg3 arg5 x0 x2 (W1B x1) (s0M.view.writes (Elt F) s0M.view.junk (body_new.sl.HS0_1 arg4 x1)) (e0 _)
    rw [r3, View.readAt_rep_full]; rfl
  isplitl [HS0]
  · iexists _
    isplitl []; rotate_left
    · iexact HS0
    · ipureintro; exact e0 a0
  isplitl [HS1]
  · iexists _; iexact HS1
  isplitl [HS2]
  · iexists _
    isplitl []; rotate_left
    · iexact HS2
    · ipureintro; exact e2 a2
  iexists _; iexact HS3

end Cert.ExpertsIdeal.Mlp

end
-- ==== Proof.Experts.BodyZero.lean ====
module

public import proofs.«01_k».proof.Proof.Experts.Plane
public import proofs.«01_k».proof.Proof.Experts.Act
public import Idealize.ShloMosaic.Lib.Pointwise

@[expose] public section

set_option maxRecDepth 65536
set_option Elab.async false

noncomputable section

namespace Cert.ExpertsIdeal.Mlp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

set_option maxHeartbeats 40000000 in
/-- The body at a tile with a new expert. -/
theorem body_zero (c : Dev nD) (i : grid0.Coords) (arg3 : Memref sig .tc .vmem S256x8x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x8x128 .f32) (harg8 : arg8.IsWhole)
    (T0 : teM.view.ty.Contents (Elt F)) (T1 : tvM.view.ty.Contents (Elt F))
    (x0 : S256x8x128.Idx → Elt F .f32) (x1 : S1x1024x2048.Idx → Elt F .f32) (x2 : S1x1x2048.Idx → Elt F .f32) (x3 : S1x1024x1024.Idx → Elt F .f32) (x4 : S1x1x1024.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3))
    (hc0 : NewExpert i T0) (h2 : ¬ k0_cond2 (wordOf (F := F) tvM T1 (k0_off3 i) (k0_off3_inb i)) = 1#1) (h3 : k0_cond3 (wordOf (F := F) tvM T1 (k0_off4 i) (k0_off4_inb i)) = 1#1) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (tvM.view.loc (c : Thread nD τ) ↦{fullShare.right} T1)
          ∗ (∃ d, owns (c : Thread nD τ) arg8 fullShare d)
          ∗ (s0M.view.loc (c : Thread nD τ) ↦{fullShare} a0)
          ∗ (s1M.view.loc (c : Thread nD τ) ↦{fullShare} a1)
          ∗ (s2M.view.loc (c : Thread nD τ) ↦{fullShare} a2)
          ∗ (s3M.view.loc (c : Thread nD τ) ↦{fullShare} a3)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (tvM.view.loc (c : Thread nD τ) ↦{fullShare.right} T1)
              ∗ (∃ X, iprop(⌜(k0_cond2 (wordOf (F := F) tvM T1 (k0_off3 i) (k0_off3_inb i)) = 1#1 → X = outOf x0 (W1B x1) x2 (W2P x3) x4)
                  ∧ (k0_cond3 (wordOf (F := F) tvM T1 (k0_off3 i) (k0_off3_inb i)) = 1#1 → X = k0_pay4)⌝ ∗ owns (c : Thread nD τ) arg8 fullShare X))
              ∗ (∃ b0, iprop(⌜s0M.view.read (Elt F) b0 = W1B x1⌝ ∗ (s0M.view.loc (c : Thread nD τ) ↦{fullShare} b0)))
              ∗ (∃ b1, (s1M.view.loc (c : Thread nD τ) ↦{fullShare} b1))
              ∗ (∃ b2, iprop(⌜s2M.view.read (Elt F) b2 = W2P x3⌝ ∗ (s2M.view.loc (c : Thread nD τ) ↦{fullShare} b2)))
              ∗ (∃ b3, (s3M.view.loc (c : Thread nD τ) ↦{fullShare} b3))) -∗ K ⟨⟩))
     ⊢ wp frame (wpE (defs₀ (F := F)) Variants.none c none) Set.univ
        (cc0_moe_experts i teM (Memref.isWhole_whole _) tvM (Memref.isWhole_whole _) arg3 harg3 arg4 harg4 arg5 harg5 arg6 harg6 arg7 harg7 arg8 harg8 s0M (Memref.isWhole_whole _) s1M (Memref.isWhole_whole _) s2M (Memref.isWhole_whole _) s3M (Memref.isWhole_whole _)) K := by
  unfold owns
  rw [cc0_moe_experts_eq_skeleton]; unfold cc0_moe_experts_skel
  iintro ⟨H0, H1, H2, H3, H4, HT0, HT1, ⟨%d5, %f5, -, HO5⟩, HS0, HS1, HS2, HS3, Hk⟩
  have hS0 : s0M.IsWhole := Memref.isWhole_whole _
  have hS1 : s1M.IsWhole := Memref.isWhole_whole _
  have hS2 : s2M.IsWhole := Memref.isWhole_whole _
  have hS3 : s3M.IsWhole := Memref.isWhole_whole _
  have hT0 : teM.IsWhole := Memref.isWhole_whole _
  have hT1 : tvM.IsWhole := Memref.isWhole_whole _
  sl_exec_parts (disch := first | (guard_target = Scalar.cmpi = _; exact hc0) | (guard_target = ¬(k0_cond2 _ = _); exact h2) | (guard_target = k0_cond3 _ = _; exact h3))
  sl_step
  have e0 : ∀ a, s0M.view.read (Elt F) (s0M.view.writes (Elt F) a (body_zero.sl.HS0_1 arg4 x1)) = W1B x1 := fun a => by
    unfold body_zero.sl.HS0_1; exact read_first arg4 x1 a _ _
  have hD : Done x3 128 (s1M.view.writes (Elt F) a1 (body_zero.sl.HS1_128 arg6 x3)) := by
    iterate 128 refine done_next a1 arg6 x3 _ _ _ _ _ _ _ _ _ _ (by decide) rfl ?_
    exact done_zero _ _
  have e2 : ∀ a, s2M.view.read (Elt F) (s2M.view.writes (Elt F) a [⟨Rect.unit (s := S1024x1024) ![0, 0] S1024x1024.size inb_S1024x1024_S1024x1024_0_0, k0_pay1 (body_zero.sl.r_2 c arg6 x3 a1)⟩]) = W2P x3 := fun a => by
    unfold body_zero.sl.r_2 body_zero.sl.v668 body_zero.sl.v670
    rw [w2v_of x3 _ hD]
    exact read_all s2M.view a ![0, 0] _ (W2P x3) []
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists k0_pay4
    isplit; · ipureintro; exact ⟨fun h => absurd h h2, fun _ => rfl⟩
    iexists _
    isplitl []; rotate_left; · iexact HO5
    ipureintro
    exact read_all arg8.view f5 _ _ _ _
  isplitl [HS0]
  · iexists _
    isplitl []; rotate_left
    · iexact HS0
    · ipureintro; exact e0 a0
  isplitl [HS1]
  · iexists _; iexact HS1
  isplitl [HS2]
  · iexists _
    isplitl []; rotate_left
    · iexact HS2
    · ipureintro; exact e2 a2
  iexists _; iexact HS3

end Cert.ExpertsIdeal.Mlp

end
-- ==== Proof.Experts.BodyNone.lean ====
module

public import proofs.«01_k».proof.Proof.Experts.Plane
public import proofs.«01_k».proof.Proof.Experts.Act
public import Idealize.ShloMosaic.Lib.Pointwise

@[expose] public section

set_option maxRecDepth 65536
set_option Elab.async false

noncomputable section

namespace Cert.ExpertsIdeal.Mlp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

set_option maxHeartbeats 40000000 in
/-- The body at a tile with a new expert. -/
theorem body_none (c : Dev nD) (i : grid0.Coords) (arg3 : Memref sig .tc .vmem S256x8x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x8x128 .f32) (harg8 : arg8.IsWhole)
    (T0 : teM.view.ty.Contents (Elt F)) (T1 : tvM.view.ty.Contents (Elt F))
    (x0 : S256x8x128.Idx → Elt F .f32) (x1 : S1x1024x2048.Idx → Elt F .f32) (x2 : S1x1x2048.Idx → Elt F .f32) (x3 : S1x1024x1024.Idx → Elt F .f32) (x4 : S1x1x1024.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3))
    (hc0 : NewExpert i T0) (h2 : ¬ k0_cond2 (wordOf (F := F) tvM T1 (k0_off3 i) (k0_off3_inb i)) = 1#1) (h3 : ¬ k0_cond3 (wordOf (F := F) tvM T1 (k0_off4 i) (k0_off4_inb i)) = 1#1) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (tvM.view.loc (c : Thread nD τ) ↦{fullShare.right} T1)
          ∗ (∃ d, owns (c : Thread nD τ) arg8 fullShare d)
          ∗ (s0M.view.loc (c : Thread nD τ) ↦{fullShare} a0)
          ∗ (s1M.view.loc (c : Thread nD τ) ↦{fullShare} a1)
          ∗ (s2M.view.loc (c : Thread nD τ) ↦{fullShare} a2)
          ∗ (s3M.view.loc (c : Thread nD τ) ↦{fullShare} a3)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (tvM.view.loc (c : Thread nD τ) ↦{fullShare.right} T1)
              ∗ (∃ X, iprop(⌜(k0_cond2 (wordOf (F := F) tvM T1 (k0_off3 i) (k0_off3_inb i)) = 1#1 → X = outOf x0 (W1B x1) x2 (W2P x3) x4)
                  ∧ (k0_cond3 (wordOf (F := F) tvM T1 (k0_off3 i) (k0_off3_inb i)) = 1#1 → X = k0_pay4)⌝ ∗ owns (c : Thread nD τ) arg8 fullShare X))
              ∗ (∃ b0, iprop(⌜s0M.view.read (Elt F) b0 = W1B x1⌝ ∗ (s0M.view.loc (c : Thread nD τ) ↦{fullShare} b0)))
              ∗ (∃ b1, (s1M.view.loc (c : Thread nD τ) ↦{fullShare} b1))
              ∗ (∃ b2, iprop(⌜s2M.view.read (Elt F) b2 = W2P x3⌝ ∗ (s2M.view.loc (c : Thread nD τ) ↦{fullShare} b2)))
              ∗ (∃ b3, (s3M.view.loc (c : Thread nD τ) ↦{fullShare} b3))) -∗ K ⟨⟩))
     ⊢ wp frame (wpE (defs₀ (F := F)) Variants.none c none) Set.univ
        (cc0_moe_experts i teM (Memref.isWhole_whole _) tvM (Memref.isWhole_whole _) arg3 harg3 arg4 harg4 arg5 harg5 arg6 harg6 arg7 harg7 arg8 harg8 s0M (Memref.isWhole_whole _) s1M (Memref.isWhole_whole _) s2M (Memref.isWhole_whole _) s3M (Memref.isWhole_whole _)) K := by
  unfold owns
  rw [cc0_moe_experts_eq_skeleton]; unfold cc0_moe_experts_skel
  iintro ⟨H0, H1, H2, H3, H4, HT0, HT1, ⟨%d5, %f5, -, HO5⟩, HS0, HS1, HS2, HS3, Hk⟩
  have hS0 : s0M.IsWhole := Memref.isWhole_whole _
  have hS1 : s1M.IsWhole := Memref.isWhole_whole _
  have hS2 : s2M.IsWhole := Memref.isWhole_whole _
  have hS3 : s3M.IsWhole := Memref.isWhole_whole _
  have hT0 : teM.IsWhole := Memref.isWhole_whole _
  have hT1 : tvM.IsWhole := Memref.isWhole_whole _
  sl_exec_parts (disch := first | (guard_target = Scalar.cmpi = _; exact hc0) | (guard_target = ¬(k0_cond2 _ = _); exact h2) | (guard_target = ¬(k0_cond3 _ = _); exact h3))
  sl_step
  have e0 : ∀ a, s0M.view.read (Elt F) (s0M.view.writes (Elt F) a (body_none.sl.HS0_1 arg4 x1)) = W1B x1 := fun a => by
    unfold body_none.sl.HS0_1; exact read_first arg4 x1 a _ _
  have hD : Done x3 128 (s1M.view.writes (Elt F) a1 (body_none.sl.HS1_128 arg6 x3)) := by
    iterate 128 refine done_next a1 arg6 x3 _ _ _ _ _ _ _ _ _ _ (by decide) rfl ?_
    exact done_zero _ _
  have e2 : ∀ a, s2M.view.read (Elt F) (s2M.view.writes (Elt F) a [⟨Rect.unit (s := S1024x1024) ![0, 0] S1024x1024.size inb_S1024x1024_S1024x1024_0_0, k0_pay1 (body_none.sl.r_2 c arg6 x3 a1)⟩]) = W2P x3 := fun a => by
    unfold body_none.sl.r_2 body_none.sl.v668 body_none.sl.v670
    rw [w2v_of x3 _ hD]
    exact read_all s2M.view a ![0, 0] _ (W2P x3) []
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists (arg8.view.read (Elt F) f5)
    isplit; · ipureintro; exact ⟨fun h => absurd h h2, fun h => absurd h h3⟩
    iexists _
    isplitl []; rotate_left; · iexact HO5
    ipureintro
    rfl
  isplitl [HS0]
  · iexists _
    isplitl []; rotate_left
    · iexact HS0
    · ipureintro; exact e0 a0
  isplitl [HS1]
  · iexists _; iexact HS1
  isplitl [HS2]
  · iexists _
    isplitl []; rotate_left
    · iexact HS2
    · ipureintro; exact e2 a2
  iexists _; iexact HS3

end Cert.ExpertsIdeal.Mlp

end
-- ==== Proof.Experts.Body.lean ====
module

public import proofs.«01_k».proof.Proof.Experts.Plane
public import proofs.«01_k».proof.Proof.Experts.Act
public import proofs.«01_k».proof.Proof.Experts.BodyOld
public import proofs.«01_k».proof.Proof.Experts.BodyNew
public import proofs.«01_k».proof.Proof.Experts.BodyZero
public import proofs.«01_k».proof.Proof.Experts.BodyNone
public import Idealize.ShloMosaic.Lib.Pointwise

@[expose] public section

set_option maxRecDepth 65536
set_option Elab.async false

noncomputable section

namespace Cert.ExpertsIdeal.Mlp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

/-- The body at any tile: its inputs kept, the weights of the tile's expert in place, the output at the expert's result if the tile has rows. -/
theorem body_run (c : Dev nD) (i : grid0.Coords) (arg3 : Memref sig .tc .vmem S256x8x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x8x128 .f32) (harg8 : arg8.IsWhole)
    (T0 : teM.view.ty.Contents (Elt F)) (T1 : tvM.view.ty.Contents (Elt F))
    (x0 : S256x8x128.Idx → Elt F .f32) (x1 : S1x1024x2048.Idx → Elt F .f32) (x2 : S1x1x2048.Idx → Elt F .f32) (x3 : S1x1024x1024.Idx → Elt F .f32) (x4 : S1x1x1024.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3))
    (hold : ¬ NewExpert i T0 → s0M.view.read (Elt F) a0 = W1B x1 ∧ s2M.view.read (Elt F) a2 = W2P x3) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (tvM.view.loc (c : Thread nD τ) ↦{fullShare.right} T1)
          ∗ (∃ d, owns (c : Thread nD τ) arg8 fullShare d)
          ∗ (s0M.view.loc (c : Thread nD τ) ↦{fullShare} a0)
          ∗ (s1M.view.loc (c : Thread nD τ) ↦{fullShare} a1)
          ∗ (s2M.view.loc (c : Thread nD τ) ↦{fullShare} a2)
          ∗ (s3M.view.loc (c : Thread nD τ) ↦{fullShare} a3)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (teM.view.loc (c : Thread nD τ) ↦{fullShare.right} T0)
          ∗ (tvM.view.loc (c : Thread nD τ) ↦{fullShare.right} T1)
              ∗ (∃ X, iprop(⌜(k0_cond2 (wordOf (F := F) tvM T1 (k0_off3 i) (k0_off3_inb i)) = 1#1 → X = outOf x0 (W1B x1) x2 (W2P x3) x4)
                  ∧ (k0_cond3 (wordOf (F := F) tvM T1 (k0_off3 i) (k0_off3_inb i)) = 1#1 → X = k0_pay4)⌝ ∗ owns (c : Thread nD τ) arg8 fullShare X))
              ∗ (∃ b0, iprop(⌜s0M.view.read (Elt F) b0 = W1B x1⌝ ∗ (s0M.view.loc (c : Thread nD τ) ↦{fullShare} b0)))
              ∗ (∃ b1, (s1M.view.loc (c : Thread nD τ) ↦{fullShare} b1))
              ∗ (∃ b2, iprop(⌜s2M.view.read (Elt F) b2 = W2P x3⌝ ∗ (s2M.view.loc (c : Thread nD τ) ↦{fullShare} b2)))
              ∗ (∃ b3, (s3M.view.loc (c : Thread nD τ) ↦{fullShare} b3))) -∗ K ⟨⟩))
     ⊢ wp frame (wpE (defs₀ (F := F)) Variants.none c none) Set.univ
        (cc0_moe_experts i teM (Memref.isWhole_whole _) tvM (Memref.isWhole_whole _) arg3 harg3 arg4 harg4 arg5 harg5 arg6 harg6 arg7 harg7 arg8 harg8 s0M (Memref.isWhole_whole _) s1M (Memref.isWhole_whole _) s2M (Memref.isWhole_whole _) s3M (Memref.isWhole_whole _)) K := by
  by_cases hc0 : NewExpert i T0
  · by_cases h2 : k0_cond2 (wordOf (F := F) tvM T1 (k0_off3 i) (k0_off3_inb i)) = 1#1
    · exact body_new c i arg3 harg3 arg4 harg4 arg5 harg5 arg6 harg6 arg7 harg7 arg8 harg8 T0 T1 x0 x1 x2 x3 x4 a0 a1 a2 a3 hc0 h2 (fun h => cond_excl _ h2 h) K
    · by_cases h3 : k0_cond3 (wordOf (F := F) tvM T1 (k0_off4 i) (k0_off4_inb i)) = 1#1
      · exact body_zero c i arg3 harg3 arg4 harg4 arg5 harg5 arg6 harg6 arg7 harg7 arg8 harg8 T0 T1 x0 x1 x2 x3 x4 a0 a1 a2 a3 hc0 h2 h3 K
      · exact body_none c i arg3 harg3 arg4 harg4 arg5 harg5 arg6 harg6 arg7 harg7 arg8 harg8 T0 T1 x0 x1 x2 x3 x4 a0 a1 a2 a3 hc0 h2 h3 K
  · obtain ⟨e0, e2⟩ := hold hc0
    exact body_old c i arg3 harg3 arg4 harg4 arg5 harg5 arg6 harg6 arg7 harg7 arg8 harg8 T0 T1 x0 x1 x2 x3 x4 a0 a1 a2 a3 hc0 e0 e2 K

end Cert.ExpertsIdeal.Mlp

end
-- ==== Proof.Experts.Launch.lean ====
module

public import proofs.«01_k».proof.Proof.Experts.Body

@[expose] public section

set_option maxRecDepth 16384
set_option Elab.async false

noncomputable section

namespace Cert.ExpertsIdeal.Mlp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat RDat Cfg Window cellOf)

variable {F : FTy → Type} [FloatOps F]

local notation "𝕄" => MT nD τ sig Unit (Elt F) ℕ (UR sig nD τ) ℕ

/-! ## The words of the tables -/

/-- A grid point's one coordinate is its position. -/
theorem coord_val : ∀ t : Fin grid0.N, ((grid0.coords t) 0).val = t.val := by decide +kernel
theorem off1_val : ∀ t : Fin grid0.N, k0_off1 (grid0.coords t) 0 = t.val := by decide +kernel
theorem off3_val : ∀ t : Fin grid0.N, k0_off3 (grid0.coords t) 0 = t.val := by decide +kernel
theorem off2_val : ∀ t : Fin grid0.N, k0_off2 (grid0.coords t) 0 = t.val - 1 := by decide +kernel

/-- A tile's place in a table. -/
def tileIx (t : Fin grid0.N) : S290.Idx := fun a => match a with | ⟨0, _⟩ => ⟨t.val, lt_of_lt_of_eq t.isLt N_0⟩

theorem word_eq (M : Memref sig .tc .smem S290 .i32) (T : M.view.ty.Contents (Elt F)) (off off' : Fin 1 → ℕ)
    (inb : ∀ a, off a + S1.size a ≤ S290.size a) (inb' : ∀ a, off' a + S1.size a ≤ S290.size a) (h : off 0 = off' 0) :
    wordOf (F := F) M T off inb = wordOf (F := F) M T off' inb' := by
  have e : off = off' := by
    funext a
    match a with
    | ⟨0, _⟩ => exact h
  subst e; rfl

/-- The expert's number at grid point `i`. -/
def expertAt (pf : pre0.Contents (Elt F)) (i : grid0.Coords) : BitVec 32 :=
  pf.at 0 (Rect.unit (s := S290) (k0_off1 i) S1.size (k0_off1_inb i)) numel1_S1

theorem expertAt_word (pf : pre0.Contents (Elt F)) (i : grid0.Coords) :
    expertAt pf i = wordOf (F := F) teM (pf 0) (k0_off1 i) (k0_off1_inb i) := rfl

theorem expertAt_eq (pf : pre0.Contents (Elt F)) (t : Fin grid0.N) :
    expertAt pf (grid0.coords t) = (pf 0 : S290.Idx → BitVec 32) (tileIx t) := by
  show (pf 0 : S290.Idx → BitVec 32) _ = _
  refine congrArg (pf 0 : S290.Idx → BitVec 32) ?_
  funext a; apply Fin.ext
  match a with
  | ⟨0, _⟩ => show k0_off1 (grid0.coords t) 0 + 1 * 0 = t.val; rw [off1_val]; rfl

theorem rows_eq (T : tvM.view.ty.Contents (Elt F)) (t : Fin grid0.N) :
    wordOf (F := F) tvM T (k0_off3 (grid0.coords t)) (k0_off3_inb _) = (T : S290.Idx → BitVec 32) (tileIx t) := by
  show (T : S290.Idx → BitVec 32) _ = _
  refine congrArg (T : S290.Idx → BitVec 32) ?_
  funext a; apply Fin.ext
  match a with
  | ⟨0, _⟩ => show k0_off3 (grid0.coords t) 0 + 1 * 0 = t.val; rw [off3_val]; rfl

/-- Every expert's number is below 32. -/
def Small (pf : pre0.Contents (Elt F)) : Prop := ∀ x : S290.Idx, ((pf 0 : S290.Idx → BitVec 32) x).toNat < 32

theorem expertAt_lt (pf : pre0.Contents (Elt F)) (h : Small pf) (i : grid0.Coords) : (expertAt pf i).toNat < 32 := h _

/-- With every expert's number below 32 the blocks lie inside their arrays. -/
theorem ok_of_small (pf : pre0.Contents (Elt F)) (h : Small pf) : ok0 (F := F) pf := by
  have hi : ∀ i, (expertAt pf i).toNat + 1 ≤ 32 := fun i => expertAt_lt pf h i
  refine ⟨fun i => ⟨fun a => ?_, .inl rfl⟩, fun i => ⟨fun a => ?_, .inl rfl⟩, fun i => ⟨fun a => ?_, .inl rfl⟩, fun i => ⟨fun a => ?_, .inl rfl⟩⟩
  · match a with
    | ⟨0, _⟩ => show ((expertAt pf i).toNat + 1) * 1 ≤ 32; rw [Nat.mul_one]; exact hi i
    | ⟨1, _⟩ => show (0 + 1) * 1024 ≤ 1024; decide
    | ⟨2, _⟩ => show (0 + 1) * 2048 ≤ 2048; decide
  · match a with
    | ⟨0, _⟩ => show ((expertAt pf i).toNat + 1) * 1 ≤ 32; rw [Nat.mul_one]; exact hi i
    | ⟨1, _⟩ => show (0 + 1) * 1 ≤ 1; decide
    | ⟨2, _⟩ => show (0 + 1) * 2048 ≤ 2048; decide
  · match a with
    | ⟨0, _⟩ => show ((expertAt pf i).toNat + 1) * 1 ≤ 32; rw [Nat.mul_one]; exact hi i
    | ⟨1, _⟩ => show (0 + 1) * 1024 ≤ 1024; decide
    | ⟨2, _⟩ => show (0 + 1) * 1024 ≤ 1024; decide
  · match a with
    | ⟨0, _⟩ => show ((expertAt pf i).toNat + 1) * 1 ≤ 32; rw [Nat.mul_one]; exact hi i
    | ⟨1, _⟩ => show (0 + 1) * 1 ≤ 1; decide
    | ⟨2, _⟩ => show (0 + 1) * 1024 ≤ 1024; decide

theorem bits_zero : ∀ b1 b2 : BitVec 1, ¬ Scalar.cmpi .ne (Scalar.extui (Scalar.ori b1 b2) : BitVec 32) 0#32 = 1#1 → b1 = 0#1 ∧ b2 = 0#1 := by decide

/-- A tile that brings no new expert is not the first, and has the last tile's. -/
theorem old_expert (pf : pre0.Contents (Elt F)) (t : Fin grid0.N) (h : ¬ NewExpert (F := F) (grid0.coords t) (pf 0)) :
    t.val ≠ 0 ∧ ∀ u : Fin grid0.N, u.val + 1 = t.val → expertAt pf (grid0.coords u) = expertAt pf (grid0.coords t) := by
  obtain ⟨h1, h2⟩ := bits_zero _ _ h
  refine ⟨fun h0 => ?_, fun u hu => ?_⟩
  · rw [coord_val, h0] at h1
    exact absurd h1 (by decide)
  · rw [expertAt_word, expertAt_word]
    have e : wordOf (F := F) teM (pf 0) (k0_off1 (grid0.coords t)) (k0_off1_inb _)
        = wordOf (F := F) teM (pf 0) (k0_off2 (grid0.coords t)) (k0_off2_inb _) := by
      by_contra hne
      have : BitVec.ofBool (wordOf (F := F) teM (pf 0) (k0_off1 (grid0.coords t)) (k0_off1_inb _)
        != wordOf (F := F) teM (pf 0) (k0_off2 (grid0.coords t)) (k0_off2_inb _)) = 0#1 := h2
      rw [bne_iff_ne.mpr hne] at this
      exact absurd this (by decide)
    rw [e]
    exact word_eq teM (pf 0) _ _ _ _ (by rw [off1_val, off2_val]; omega)

/-! ## The pipeline at the tables -/

variable (pf : pre0.Contents (Elt F)) (hs : Small pf)

def adm : (pcfg0 (F := F)).Adm := ⟨pf, ok_of_small pf hs⟩
abbrev cA : Pipeline.Cfg sig Λ₀ := cfg0 (F := F) (adm pf hs)

variable (m : (ℓ : Loc nD τ sig) → Buf (Elt F) ℓ) (ρ : Dev nD → PrngReg)

abbrev st0 (t : Fin grid0.N) : Memref sig .tc .vmem S256x8x128 .f32 := spec0_0.stage ((cA pf hs).slots t (0 : Fin 6))
abbrev st1 (t : Fin grid0.N) : Memref sig .tc .vmem S1x1024x2048 .f32 := spec0_1.stage ((cA pf hs).slots t (1 : Fin 6))
abbrev st2 (t : Fin grid0.N) : Memref sig .tc .vmem S1x1x2048 .f32 := spec0_2.stage ((cA pf hs).slots t (2 : Fin 6))
abbrev st3 (t : Fin grid0.N) : Memref sig .tc .vmem S1x1024x1024 .f32 := spec0_3.stage ((cA pf hs).slots t (3 : Fin 6))
abbrev st4 (t : Fin grid0.N) : Memref sig .tc .vmem S1x1x1024 .f32 := spec0_4.stage ((cA pf hs).slots t (4 : Fin 6))
abbrev st5 (t : Fin grid0.N) : Memref sig .tc .vmem S256x8x128 .f32 := spec0_5.stage ((cA pf hs).slots t (5 : Fin 6))

/-- What window `w` reads at point `t`. -/
def iblk (c : Dev nD) (w : Fin 6) (t : Fin (cA pf hs).N) : (((cA pf hs).win w).xblock ((cA pf hs).grid.coords t)).Idx → Elt F ((cA pf hs).win w).elt :=
  (((cA pf hs).win w).blk t).view.read (Elt F) ((s₀ m ρ).mem (((cA pf hs).win w).arr.view.loc (c : Thread nD τ)))

/-- The five inputs at a tile, at their shapes. -/
def b0 (c : Dev nD) (t : Fin grid0.N) : S256x8x128.Idx → Elt F .f32 := iblk pf hs m ρ c 0 t
def b1 (c : Dev nD) (t : Fin grid0.N) : S1x1024x2048.Idx → Elt F .f32 := iblk pf hs m ρ c 1 t
def b2 (c : Dev nD) (t : Fin grid0.N) : S1x1x2048.Idx → Elt F .f32 := iblk pf hs m ρ c 2 t
def b3 (c : Dev nD) (t : Fin grid0.N) : S1x1024x1024.Idx → Elt F .f32 := iblk pf hs m ρ c 3 t
def b4 (c : Dev nD) (t : Fin grid0.N) : S1x1x1024.Idx → Elt F .f32 := iblk pf hs m ρ c 4 t

/-- A tile's place among the experts. -/
def expert (t : Fin grid0.N) : Fin 32 := ⟨(expertAt pf (grid0.coords t)).toNat, expertAt_lt pf hs _⟩

theorem b1_apply (c : Dev nD) (t : Fin grid0.N) (k : Fin 1024) (j : Fin 2048) :
    b1 pf hs m ρ c t (ix3 0 k j) = (m ((c : Thread nD τ).loc main_arg3) : S32x1024x2048.Idx → Elt F .f32) (ix3 (expert pf hs t) k j) := by
  show (m ((c : Thread nD τ).loc main_arg3) : S32x1024x2048.Idx → Elt F .f32) ((((cA pf hs).win 1).blk t).view.emb _) = _
  refine congrArg (m ((c : Thread nD τ).loc main_arg3) : S32x1024x2048.Idx → Elt F .f32) ?_
  funext a; apply Fin.ext
  match a with
  | ⟨0, _⟩ => show (expertAt pf (grid0.coords t)).toNat * 1 + 1 * 0 = (expertAt pf (grid0.coords t)).toNat; omega
  | ⟨1, _⟩ => show 0 * 1024 + 1 * k.val = k.val; omega
  | ⟨2, _⟩ => show 0 * 2048 + 1 * j.val = j.val; omega

theorem b3_apply (c : Dev nD) (t : Fin grid0.N) (k : Fin 1024) (j : Fin 1024) :
    b3 pf hs m ρ c t (ix3 0 k j) = (m ((c : Thread nD τ).loc main_arg5) : S32x1024x1024.Idx → Elt F .f32) (ix3 (expert pf hs t) k j) := by
  show (m ((c : Thread nD τ).loc main_arg5) : S32x1024x1024.Idx → Elt F .f32) ((((cA pf hs).win 3).blk t).view.emb _) = _
  refine congrArg (m ((c : Thread nD τ).loc main_arg5) : S32x1024x1024.Idx → Elt F .f32) ?_
  funext a; apply Fin.ext
  match a with
  | ⟨0, _⟩ => show (expertAt pf (grid0.coords t)).toNat * 1 + 1 * 0 = (expertAt pf (grid0.coords t)).toNat; omega
  | ⟨1, _⟩ => show 0 * 1024 + 1 * k.val = k.val; omega
  | ⟨2, _⟩ => show 0 * 1024 + 1 * j.val = j.val; omega

theorem ix3_of {p q : ℕ} (j : (⟨3, ![1, p, q]⟩ : Shape).Idx) : j = ix3 0 (j 1) (j 2) := by
  funext a
  match a with
  | ⟨0, _⟩ => exact Subsingleton.elim (α := Fin 1) _ _
  | ⟨1, _⟩ => rfl
  | ⟨2, _⟩ => rfl

theorem b1_same (c : Dev nD) (t u : Fin grid0.N) (h : expertAt pf (grid0.coords u) = expertAt pf (grid0.coords t)) :
    b1 pf hs m ρ c u = b1 pf hs m ρ c t := by
  funext j
  have e : expert pf hs u = expert pf hs t := Fin.ext (by show (expertAt pf (grid0.coords u)).toNat = (expertAt pf (grid0.coords t)).toNat; rw [h])
  have hj : j = ix3 0 (j 1) (j 2) := ix3_of (p := 1024) (q := 2048) j
  refine (congrArg (b1 pf hs m ρ c u) hj).trans ((b1_apply pf hs m ρ c u (j 1) (j 2)).trans ?_)
  rw [e]
  exact ((congrArg (b1 pf hs m ρ c t) hj).trans (b1_apply pf hs m ρ c t (j 1) (j 2))).symm

theorem b3_same (c : Dev nD) (t u : Fin grid0.N) (h : expertAt pf (grid0.coords u) = expertAt pf (grid0.coords t)) :
    b3 pf hs m ρ c u = b3 pf hs m ρ c t := by
  funext j
  have e : expert pf hs u = expert pf hs t := Fin.ext (by show (expertAt pf (grid0.coords u)).toNat = (expertAt pf (grid0.coords t)).toNat; rw [h])
  have hj : j = ix3 0 (j 1) (j 2) := ix3_of (p := 1024) (q := 1024) j
  refine (congrArg (b3 pf hs m ρ c u) hj).trans ((b3_apply pf hs m ρ c u (j 1) (j 2)).trans ?_)
  rw [e]
  exact ((congrArg (b3 pf hs m ρ c t) hj).trans (b3_apply pf hs m ρ c t (j 1) (j 2))).symm

/-- What a tile leaves in its output block. -/
def TileOut (c : Dev nD) (t : Fin grid0.N) (X : S256x8x128.Idx → Elt F .f32) : Prop :=
  (k0_cond2 (wordOf (F := F) tvM (pf 1) (k0_off3 (grid0.coords t)) (k0_off3_inb _)) = 1#1 →
      X = outOf (b0 pf hs m ρ c t) (W1B (b1 pf hs m ρ c t)) (b2 pf hs m ρ c t) (W2P (b3 pf hs m ρ c t)) (b4 pf hs m ρ c t))
    ∧ (k0_cond3 (wordOf (F := F) tvM (pf 1) (k0_off3 (grid0.coords t)) (k0_off3_inb _)) = 1#1 → X = k0_pay4)

/-- Before tile `t` the scratch buffers hold the weights of the tile before. -/
def Phi (c : Dev nD) (t : Fin ((cA pf hs).N + 1)) : sProp 𝕄 :=
  iprop((∃ a, iprop(⌜∀ u : Fin grid0.N, u.val + 1 = t.val → s0M.view.read (Elt F) a = W1B (b1 pf hs m ρ c u)⌝ ∗ (s0M.view.loc (c : Thread nD τ) ↦{fullShare} a)))
    ∗ (∃ a, (s1M.view.loc (c : Thread nD τ) ↦{fullShare} a))
    ∗ (∃ a, iprop(⌜∀ u : Fin grid0.N, u.val + 1 = t.val → s2M.view.read (Elt F) a = W2P (b3 pf hs m ρ c u)⌝ ∗ (s2M.view.loc (c : Thread nD τ) ↦{fullShare} a)))
    ∗ (∃ a, (s3M.view.loc (c : Thread nD τ) ↦{fullShare} a))
    ∗ (teM.view.loc (c : Thread nD τ) ↦{fullShare.right} (pf 0))
    ∗ (tvM.view.loc (c : Thread nD τ) ↦{fullShare.right} (pf 1))
    ∗ (∃ r, prngReg c r))

def dat (c : Dev nD) : Dat τ (Elt F) Unit ℕ (UR sig nD τ) ℕ (cA pf hs) c where
  A w := (s₀ m ρ).mem (((cA pf hs).win w).arr.view.loc (c : Thread nD τ))
  after w t := match w with
    | ⟨0, _⟩ => iblk pf hs m ρ c (0 : Fin 6) t
    | ⟨1, _⟩ => iblk pf hs m ρ c (1 : Fin 6) t
    | ⟨2, _⟩ => iblk pf hs m ρ c (2 : Fin 6) t
    | ⟨3, _⟩ => iblk pf hs m ρ c (3 : Fin 6) t
    | ⟨4, _⟩ => iblk pf hs m ρ c (4 : Fin 6) t
    | ⟨5, _⟩ => (k0_pay4 : FVec F S256x8x128 .f32)
  Φ t := Phi pf hs m ρ c t
  q _ := fullShare
  owed _ := 0

/-- The output window is held to what its tile leaves; the inputs to their blocks. -/
def marked : Fin 6 → Bool := fun | 0 => false | 1 => false | 2 => false | 3 => false | 4 => false | 5 => true | ⟨_ + 6, h⟩ => absurd h (Nat.not_lt.2 (Nat.le_add_left _ _))
def rel (c : Dev nD) : (w : Fin (cA pf hs).W) → Fin (cA pf hs).N → (((cA pf hs).win w).block.Idx → Elt F ((cA pf hs).win w).elt) → Prop := fun w t X =>
  match w, X with
  | ⟨5, _⟩, X => TileOut pf hs m ρ c t X
  | _, _ => True

theorem before_0 (c : Dev nD) (t : Fin (cA pf hs).N) (d) : (dat pf hs m ρ c).before (0 : Fin 6) t d = iblk pf hs m ρ c (0 : Fin 6) t :=
  ((dat pf hs m ρ c).before_in_eq_fetched (0 : Fin 6) rfl (fun _ => rfl) (fun _ _ _ => rfl) (fun t => by rw [show (dat pf hs m ρ c).after (0 : Fin 6) t = iblk pf hs m ρ c (0 : Fin 6) t from rfl]; unfold Dat.blockOf iblk; rfl) t d).trans
    (by unfold Dat.fetched Dat.blockOf iblk; rfl)
theorem before_1 (c : Dev nD) (t : Fin (cA pf hs).N) (d) : (dat pf hs m ρ c).before (1 : Fin 6) t d = iblk pf hs m ρ c (1 : Fin 6) t :=
  ((dat pf hs m ρ c).before_in_eq_fetched (1 : Fin 6) rfl (fun _ => rfl) (fun _ _ _ => rfl) (fun t => by rw [show (dat pf hs m ρ c).after (1 : Fin 6) t = iblk pf hs m ρ c (1 : Fin 6) t from rfl]; unfold Dat.blockOf iblk; rfl) t d).trans
    (by unfold Dat.fetched Dat.blockOf iblk; rfl)
theorem before_2 (c : Dev nD) (t : Fin (cA pf hs).N) (d) : (dat pf hs m ρ c).before (2 : Fin 6) t d = iblk pf hs m ρ c (2 : Fin 6) t :=
  ((dat pf hs m ρ c).before_in_eq_fetched (2 : Fin 6) rfl (fun _ => rfl) (fun _ _ _ => rfl) (fun t => by rw [show (dat pf hs m ρ c).after (2 : Fin 6) t = iblk pf hs m ρ c (2 : Fin 6) t from rfl]; unfold Dat.blockOf iblk; rfl) t d).trans
    (by unfold Dat.fetched Dat.blockOf iblk; rfl)
theorem before_3 (c : Dev nD) (t : Fin (cA pf hs).N) (d) : (dat pf hs m ρ c).before (3 : Fin 6) t d = iblk pf hs m ρ c (3 : Fin 6) t :=
  ((dat pf hs m ρ c).before_in_eq_fetched (3 : Fin 6) rfl (fun _ => rfl) (fun _ _ _ => rfl) (fun t => by rw [show (dat pf hs m ρ c).after (3 : Fin 6) t = iblk pf hs m ρ c (3 : Fin 6) t from rfl]; unfold Dat.blockOf iblk; rfl) t d).trans
    (by unfold Dat.fetched Dat.blockOf iblk; rfl)
theorem before_4 (c : Dev nD) (t : Fin (cA pf hs).N) (d) : (dat pf hs m ρ c).before (4 : Fin 6) t d = iblk pf hs m ρ c (4 : Fin 6) t :=
  ((dat pf hs m ρ c).before_in_eq_fetched (4 : Fin 6) rfl (fun _ => rfl) (fun _ _ _ => rfl) (fun t => by rw [show (dat pf hs m ρ c).after (4 : Fin 6) t = iblk pf hs m ρ c (4 : Fin 6) t from rfl]; unfold Dat.blockOf iblk; rfl) t d).trans
    (by unfold Dat.fetched Dat.blockOf iblk; rfl)

/-- The body at tile `t`, as the pipeline calls it. -/
abbrev bodyAt (t : Fin grid0.N) : Prog (TpuEff nD τ sig (Elt F) Λ₀ .tc) PUnit :=
  cc0_moe_experts (grid0.coords t) teM (Memref.isWhole_whole _) tvM (Memref.isWhole_whole _)
    (st0 pf hs t) (hstage0_0 (((cA pf hs).slots t (0 : Fin 6)).cast nbuf0_0)) (st1 pf hs t) (hstage0_1 (((cA pf hs).slots t (1 : Fin 6)).cast nbuf0_1))
    (st2 pf hs t) (hstage0_2 (((cA pf hs).slots t (2 : Fin 6)).cast nbuf0_2)) (st3 pf hs t) (hstage0_3 (((cA pf hs).slots t (3 : Fin 6)).cast nbuf0_3))
    (st4 pf hs t) (hstage0_4 (((cA pf hs).slots t (4 : Fin 6)).cast nbuf0_4)) (st5 pf hs t) (hstage0_5 (((cA pf hs).slots t (5 : Fin 6)).cast nbuf0_5))
    s0M (Memref.isWhole_whole _) s1M (Memref.isWhole_whole _) s2M (Memref.isWhole_whole _) s3M (Memref.isWhole_whole _)

set_option maxHeartbeats 4000000 in
/-- The body at tile `t`: from the weights the tile before left, to this tile's weights and its result. -/
theorem sound_body (c : Dev nD) (t : Fin grid0.N) :
    iprop(Phi pf hs m ρ c t.castSucc ∗ (dat pf hs m ρ c).owesAt () t.castSucc
        ∗ (∃ d, owns (c : Thread nD τ) (st0 pf hs t) fullShare ((dat pf hs m ρ c).before (0 : Fin 6) t d))
        ∗ (∃ d, owns (c : Thread nD τ) (st1 pf hs t) fullShare ((dat pf hs m ρ c).before (1 : Fin 6) t d))
        ∗ (∃ d, owns (c : Thread nD τ) (st2 pf hs t) fullShare ((dat pf hs m ρ c).before (2 : Fin 6) t d))
        ∗ (∃ d, owns (c : Thread nD τ) (st3 pf hs t) fullShare ((dat pf hs m ρ c).before (3 : Fin 6) t d))
        ∗ (∃ d, owns (c : Thread nD τ) (st4 pf hs t) fullShare ((dat pf hs m ρ c).before (4 : Fin 6) t d))
        ∗ (∃ Y, iprop(⌜((dat pf hs m ρ c).toRRel marked (rel pf hs m ρ c)).Finds (5 : Fin 6) t Y⌝ ∗ owns (c : Thread nD τ) (st5 pf hs t) fullShare Y)))
      ⊢ wp frame (wpE (defs₀ (F := F)) Variants.none c none) Set.univ (bodyAt pf hs t) fun _ =>
          iprop(Phi pf hs m ρ c t.succ ∗ (dat pf hs m ρ c).owesAt () t.succ
            ∗ owns (c : Thread nD τ) (st0 pf hs t) fullShare (iblk pf hs m ρ c (0 : Fin 6) t)
            ∗ owns (c : Thread nD τ) (st1 pf hs t) fullShare (iblk pf hs m ρ c (1 : Fin 6) t)
            ∗ owns (c : Thread nD τ) (st2 pf hs t) fullShare (iblk pf hs m ρ c (2 : Fin 6) t)
            ∗ owns (c : Thread nD τ) (st3 pf hs t) fullShare (iblk pf hs m ρ c (3 : Fin 6) t)
            ∗ owns (c : Thread nD τ) (st4 pf hs t) fullShare (iblk pf hs m ρ c (4 : Fin 6) t)
            ∗ (∃ X, iprop(⌜TileOut pf hs m ρ c t X⌝ ∗ owns (c : Thread nD τ) (st5 pf hs t) fullShare X))) := by
  simp only [before_0, before_1, before_2, before_3, before_4]
  rewrite [show (dat pf hs m ρ c).owesAt () t.succ = (dat pf hs m ρ c).owesAt () t.castSucc from rfl]
  unfold Phi
  iintro ⟨⟨⟨%a0, %e0, HS0⟩, ⟨%a1, HS1⟩, ⟨%a2, %e2, HS2⟩, ⟨%a3, HS3⟩, HT0, HT1, HP⟩, Ho, ⟨%d0, H0⟩, ⟨%d1, H1⟩, ⟨%d2, H2⟩, ⟨%d3, H3⟩, ⟨%d4, H4⟩, ⟨%Y, -, H5⟩⟩
  have hold : ¬ NewExpert (F := F) (grid0.coords t) (pf 0) → s0M.view.read (Elt F) a0 = W1B (b1 pf hs m ρ c t) ∧ s2M.view.read (Elt F) a2 = W2P (b3 pf hs m ρ c t) := by
    intro hn
    obtain ⟨h0, hu⟩ := old_expert pf t hn
    have hv : t.val - 1 + 1 = t.val := by omega
    have hlt : t.val - 1 < grid0.N := by have := t.isLt; omega
    have hsame := hu ⟨t.val - 1, hlt⟩ hv
    exact ⟨(e0 ⟨t.val - 1, hlt⟩ hv).trans (congrArg W1B (b1_same pf hs m ρ c t _ hsame)),
      (e2 ⟨t.val - 1, hlt⟩ hv).trans (congrArg W2P (b3_same pf hs m ρ c t _ hsame))⟩
  iapply (body_run c (grid0.coords t) (st0 pf hs t) (hstage0_0 (((cA pf hs).slots t (0 : Fin 6)).cast nbuf0_0)) (st1 pf hs t) (hstage0_1 (((cA pf hs).slots t (1 : Fin 6)).cast nbuf0_1))
    (st2 pf hs t) (hstage0_2 (((cA pf hs).slots t (2 : Fin 6)).cast nbuf0_2)) (st3 pf hs t) (hstage0_3 (((cA pf hs).slots t (3 : Fin 6)).cast nbuf0_3))
    (st4 pf hs t) (hstage0_4 (((cA pf hs).slots t (4 : Fin 6)).cast nbuf0_4)) (st5 pf hs t) (hstage0_5 (((cA pf hs).slots t (5 : Fin 6)).cast nbuf0_5))
    (pf 0) (pf 1) (b0 pf hs m ρ c t) (b1 pf hs m ρ c t) (b2 pf hs m ρ c t) (b3 pf hs m ρ c t) (b4 pf hs m ρ c t) a0 a1 a2 a3 hold _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists Y; iexact H5
  isplitl [HS0]; · iexact HS0
  isplitl [HS1]; · iexact HS1
  isplitl [HS2]; · iexact HS2
  isplitl [HS3]; · iexact HS3
  iintro ⟨H0, H1, H2, H3, H4, HT0, HT1, ⟨%X, %hX, H5⟩, ⟨%c0, %g0, HS0⟩, ⟨%c1, HS1⟩, ⟨%c2, %g2, HS2⟩, ⟨%c3, HS3⟩⟩
  isplitl [HS0 HS1 HS2 HS3 HT0 HT1 HP]
  · isplitl [HS0]
    · iexists c0; isplitr; swap
      · iexact HS0
      · ipureintro; intro u hu
        have : u = t := Fin.ext (Nat.succ.inj hu)
        rw [this]; exact g0
    isplitl [HS1]
    · iexists c1; iexact HS1
    isplitl [HS2]
    · iexists c2; isplitr; swap
      · iexact HS2
      · ipureintro; intro u hu
        have : u = t := Fin.ext (Nat.succ.inj hu)
        rw [this]; exact g2
    isplitl [HS3]
    · iexists c3; iexact HS3
    isplitl [HT0]
    · iexact HT0
    isplitl [HT1]
    · iexact HT1
    iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexists X; isplitr; swap
  · iexact H5
  · ipureintro; exact hX

theorem body_obligation (c : Dev nD) : Pipeline.BodyObligationRel (dat pf hs m ρ c) (defs₀ (F := F)) Variants.none () Set.univ marked (rel pf hs m ρ c) := fun t => by
  rw [bigSep_W0, bigSep_W0]
  exact sound_body pf hs m ρ c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) : iprop(Pipeline.ΦA spec0 c ∗ Pipeline.ΦT pre0 pf c) ⊢ Phi pf hs m ρ c 0 := by
  unfold Pipeline.ΦA Pipeline.ΦT
  rw [prefHeld_eq, scopedRest0_eq]
  unfold Phi
  iintro ⟨⟨⟨⟨%a0, HS0⟩, ⟨%a1, HS1⟩, ⟨%a2, HS2⟩, ⟨%a3, HS3⟩⟩, HP⟩, HT0, HT1⟩
  isplitl [HS0]
  · iexists a0; isplitr; swap
    · iexact HS0
    · ipureintro; intro u hu; exact absurd hu (Nat.succ_ne_zero _)
  isplitl [HS1]
  · iexists a1; iexact HS1
  isplitl [HS2]
  · iexists a2; isplitr; swap
    · iexact HS2
    · ipureintro; intro u hu; exact absurd hu (Nat.succ_ne_zero _)
  isplitl [HS3]
  · iexists a3; iexact HS3
  isplitl [HT0]; · iexact HT0
  isplitl [HT1]; · iexact HT1
  iexact HP

theorem phi_exit (c : Dev nD) : Phi pf hs m ρ c (Fin.last _) ⊢ (Pipeline.ΦA spec0 c : sProp 𝕄) := by
  unfold Pipeline.ΦA
  rw [scopedRest0_eq]
  unfold Phi
  iintro ⟨⟨%a0, -, HS0⟩, ⟨%a1, HS1⟩, ⟨%a2, -, HS2⟩, ⟨%a3, HS3⟩, -, -, HP⟩
  isplitr [HP]
  · isplitl [HS0]
    · iexists a0; iexact HS0
    isplitl [HS1]
    · iexists a1; iexact HS1
    isplitl [HS2]
    · iexists a2; iexact HS2
    iexists a3; iexact HS3
  iexact HP

/-- The data of the run: inputs at their blocks, the output held to `TileOut`. -/
abbrev rdat (c : Dev nD) : RDat τ (Elt F) Unit ℕ (UR sig nD τ) ℕ (cA pf hs) c := (dat pf hs m ρ c).toRRel marked (rel pf hs m ρ c)

set_option backward.isDefEq.respectTransparency.types false in
set_option maxHeartbeats 4000000 in
/-- Every run ends, with each array where the tiles leave it, and every counter at zero. -/
theorem run_main (hpf : ∀ (c : Dev nD) (k : Fin 2), m ((c : Thread nD τ).loc (pre0.ref k)) = pf k) :
    θ_run (defs (F := F)) (onTc (τ := τ) (main (F := F))) (s₀ m ρ) (fun r =>
      Pipeline.RDat.FramePost (cA pf hs) (rdat pf hs m ρ) (fun c b => m ((c : Thread nD τ).loc b)) r ∧ r.2.sem = fun _ => 0) :=
  Pipeline.RDat.θ_run_frameP_track (Q' := fun r => Pipeline.RDat.FramePost (cA pf hs) (rdat pf hs m ρ) (fun c b => m ((c : Thread nD τ).loc b)) r ∧ r.2.sem = fun _ => 0) (pcfgs (F := F)) (fun _ => adm pf hs) (0 : Fin 1) (launch0 (F := F)) defs₀ Variants.none
    (rdat pf hs m ρ) m ρ main
    (hbody := fun c => (body_obligation pf hs m ρ c).toRRel)
    (hshare := fun c w => by show (dat pf hs m ρ c).share w = fullShare; unfold Dat.share; split <;> rfl)
    (howed := fun _ _ => rfl)
    (V := fun c b => m ((c : Thread nD τ).loc b))
    (hmain := Pipeline.hmainP_region _ _ _ _ m main fun c => rfl)
    (hA := fun _ _ => rfl)
    (hpf := fun c k => hpf c k)
    (hin := phi_intro pf hs m ρ)
    (hout := phi_exit pf hs m ρ)
    (hQ' := fun _ h => h)

include hs in
/-- The arguments end as they began, and every counter at zero. -/
theorem frame_of (hpf : ∀ (c : Dev nD) (k : Fin 2), m ((c : Thread nD τ).loc (pre0.ref k)) = pf k) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).2 main_arg0 (show main_arg0 ∈ Pipeline.restRefs sig spec0 by decide), (h.1 c).2 main_arg1 (show main_arg1 ∈ Pipeline.restRefs sig spec0 by decide),
    Pipeline.RDat.FramePost.arr_in h.1 c (0 : Fin 6) rfl, Pipeline.RDat.FramePost.arr_in h.1 c (1 : Fin 6) rfl,
    Pipeline.RDat.FramePost.arr_in h.1 c (2 : Fin 6) rfl, Pipeline.RDat.FramePost.arr_in h.1 c (3 : Fin 6) rfl,
    Pipeline.RDat.FramePost.arr_in h.1 c (4 : Fin 6) rfl⟩, h.2⟩) (run_main pf hs m ρ hpf)

/-- The tables a memory holds. -/
def tablesOf (c : Dev nD) : pre0.Contents (Elt F) := fun k => m ((c : Thread nD τ).loc (pre0.ref k))

/-- There is one core, so the tables are its. -/
theorem tables_eq (c : Dev nD) (k : Fin 2) : m ((c : Thread nD τ).loc (pre0.ref k)) = tablesOf m 0 k := by
  have : c = 0 := Subsingleton.elim _ _
  subst this; rfl

end Cert.ExpertsIdeal.Mlp

end
-- ==== Proof.Experts.Chunk.lean ====
/- One tile's arithmetic, element by element: each column of the activations is the gated unit of one pair of columns of the
   hidden products. -/
module

public import proofs.«01_k».proof.Proof.Experts.Act
public import Idealize.ShloMosaic.Lib.Pointwise
public import Idealize.ShloMosaic.Lib.KernelVsHost

@[expose] public section

set_option maxRecDepth 65536
set_option Elab.async false

noncomputable section

namespace Cert.ExpertsIdeal.Mlp

open Cert.ExpertsIdeal Cert.ExpertsIdeal.Gen
open Idealize.ShloMosaic Idealize.ShloMosaic.TcCoe
open Idealize.ShloMosaic.Pointwise

/-- The gated unit: the value limited above, times its sigmoid, times one more than the other limited on both sides. -/
def unit (g l : EReal) : EReal :=
  (min (Ideal.ofBits .f32 0x40E00000#32) (max (Ideal.ofBits .f32 0xC0E00000#32) l) + Ideal.ofBits .f32 0x3F800000#32)
    * (min g (Ideal.ofBits .f32 0x40E00000#32) * Ideal.div (Ideal.ofBits .f32 0x3F800000#32)
      (Ideal.ofBits .f32 0x3F800000#32 + Ideal.exp (-(Ideal.ofBits .f32 0x3FD9DB23#32 * min g (Ideal.ofBits .f32 0x40E00000#32)))))

/-- The test of an even lane, on the lane's word. -/
def evenWord (w : BitVec 32) : BitVec 1 :=
  let v28 := IntOp.remsi .vector w (Scalar.select (Scalar.cmpi .eq 2#32 0#32) 1#32 2#32)
  IntOp.cmpi .eq (Scalar.select (IntOp.andi (IntOp.xori (IntOp.cmpi .slt v28 0#32) (Scalar.cmpi .slt (Scalar.select (Scalar.cmpi .eq 2#32 0#32) 1#32 2#32) 0#32)) (IntOp.cmpi .ne v28 0#32))
    (IntOp.addi v28 (Scalar.select (Scalar.cmpi .eq 2#32 0#32) 1#32 2#32)) v28) 0#32

theorem pay138_word (r : Fin 256) (l : Fin 128) : k0_pay138 (ix2 r l) = evenWord (BitVec.ofNat 32 (0 * 128 + l.val)) := rfl

theorem srem_two (n : ℕ) (h : n < 128) : IntOp.remsi .vector (BitVec.ofNat 32 n) 2#32 = BitVec.ofNat 32 (n % 2) := by
  have hc : ¬ IntOp.SDivCorner (BitVec.ofNat 32 n) 2#32 := by
    intro hc; rcases hc with hc | ⟨_, hc⟩ <;> exact absurd hc (by decide)
  unfold IntOp.remsi
  rw [if_neg hc]
  exact (by decide : ∀ n : Fin 128, (BitVec.ofNat 32 n.val).srem 2#32 = BitVec.ofNat 32 (n.val % 2)) ⟨n, h⟩

theorem pay138_even (r : Fin 256) (l : Fin 128) (h : l.val % 2 = 0) : k0_pay138 (ix2 r l) = 1#1 := by
  rw [pay138_word, Nat.zero_mul, Nat.zero_add]
  unfold evenWord
  rw [show Scalar.select (Scalar.cmpi .eq 2#32 0#32) 1#32 2#32 = 2#32 from rfl, srem_two l.val l.isLt, h]
  rfl

theorem pay138_odd (r : Fin 256) (l : Fin 128) (h : l.val % 2 = 1) : k0_pay138 (ix2 r l) = 0#1 := by
  rw [pay138_word, Nat.zero_mul, Nat.zero_add]
  unfold evenWord
  rw [show Scalar.select (Scalar.cmpi .eq 2#32 0#32) 1#32 2#32 = 2#32 from rfl, srem_two l.val l.isLt, h]
  rfl

/-- The hidden products of a chunk. -/
theorem pay147_apply (xb : FVec Ideal S256x1024 .bf16) (wb : Vec Ideal S1024x512 .bf16) (bb : Vec Ideal S1x1x512 .f32)
    (r : Fin 256) (j : Fin 512) :
    k0_pay147 xb wb bb (ix2 r j) = (∑ k : Fin 1024, xb (ix2 r k) * wb (ix2 k j)) + bb (ix3 0 0 j) := by
  pointwise [k0_pay147]

theorem rot1_apply (x : FVec Ideal S256x128 .f32) (r : Fin 256) (l : Fin 128) (h : l.val % 2 = 1) :
    dynamicRotate 1 1#32 none x rotates_S256x128_d1 (ix2 r l) = x (ix2 r ⟨l.val - 1, by have := l.isLt; omega⟩) := by
  refine dynamicRotate_apply _ _ _ _ _ _ fun b => ?_
  have hl := l.isLt
  fin_cases b
  · rfl
  · show l.val - 1 = (l.val + 128 - 1 % 128) % 128
    omega

theorem rot127_apply (x : FVec Ideal S256x128 .f32) (r : Fin 256) (l : Fin 128) (h : l.val % 2 = 0) :
    dynamicRotate 1 127#32 none x rotates_S256x128_d1 (ix2 r l) = x (ix2 r ⟨l.val + 1, by have := l.isLt; omega⟩) := by
  refine dynamicRotate_apply _ _ _ _ _ _ fun b => ?_
  have hl := l.isLt
  fin_cases b
  · rfl
  · show l.val + 1 = (l.val + 128 - 127 % 128) % 128
    omega

theorem cut_apply (x : FVec Ideal S256x512 .f32) (o : ℕ) (h : S256x512.Slices ![0, o] S256x128) (ho : o + 128 ≤ 512)
    (r : Fin 256) (l : Fin 128) :
    extractStridedSlice S256x128 ![0, o] x h (ix2 r l) = x (ix2 r ⟨o + l.val, by have := l.isLt; omega⟩) := by
  refine extractStridedSlice_apply _ _ _ _ _ fun a => ?_
  fin_cases a
  · show r.val = 0 + r.val
    rw [Nat.zero_add]
  · rfl

/-- The pair column within a chunk that column `l` of half `h` uses: its left member, counted from the chunk's start. -/
def pairCol (l : ℕ) : ℕ := 2 * (l / 2) + 128 * (l % 2)

theorem pairCol_lt {l : ℕ} (h : l < 128) : pairCol l + 1 < 256 := by unfold pairCol; omega

variable (xb : FVec Ideal S256x1024 .bf16) (wb : Vec Ideal S1024x512 .bf16) (bb : Vec Ideal S1x1x512 .f32)

/-- The left member, both lanes. -/
theorem left_apply (o : ℕ) (ho : o + 256 ≤ 512) (H : FVec Ideal S256x512 .f32) (h1 : S256x512.Slices ![0, o] S256x128)
    (h2 : S256x512.Slices ![0, o + 128] S256x128) (r : Fin 256) (l : Fin 128) :
    select k0_pay138 (extractStridedSlice S256x128 ![0, o] H h1)
      (dynamicRotate 1 1#32 none (extractStridedSlice S256x128 ![0, o + 128] H h2) rotates_S256x128_d1) (ix2 r l)
      = H (ix2 r ⟨o + pairCol l.val, by have := pairCol_lt l.isLt; omega⟩) := by
  show Scalar.select (k0_pay138 (ix2 r l)) _ _ = _
  have hl := l.isLt
  rcases Nat.mod_two_eq_zero_or_one l.val with h | h
  · rw [pay138_even r l h]
    refine (cut_apply H o h1 (by omega) r l).trans (congrArg H (congrArg (ix2 r) (Fin.ext ?_)))
    show o + l.val = o + pairCol l.val
    unfold pairCol; omega
  · rw [pay138_odd r l h]
    refine ((rot1_apply _ r l h).trans (cut_apply H (o + 128) h2 (by omega) r _)).trans (congrArg H (congrArg (ix2 r) (Fin.ext ?_)))
    show o + 128 + (l.val - 1) = o + pairCol l.val
    unfold pairCol; omega

/-- The right member, both lanes. -/
theorem right_apply (o : ℕ) (ho : o + 256 ≤ 512) (H : FVec Ideal S256x512 .f32) (h1 : S256x512.Slices ![0, o] S256x128)
    (h2 : S256x512.Slices ![0, o + 128] S256x128) (r : Fin 256) (l : Fin 128) :
    select k0_pay138 (dynamicRotate 1 127#32 none (extractStridedSlice S256x128 ![0, o] H h1) rotates_S256x128_d1)
      (extractStridedSlice S256x128 ![0, o + 128] H h2) (ix2 r l)
      = H (ix2 r ⟨o + pairCol l.val + 1, by have := pairCol_lt l.isLt; omega⟩) := by
  show Scalar.select (k0_pay138 (ix2 r l)) _ _ = _
  have hl := l.isLt
  rcases Nat.mod_two_eq_zero_or_one l.val with h | h
  · rw [pay138_even r l h]
    refine ((rot127_apply _ r l h).trans (cut_apply H o h1 (by omega) r _)).trans (congrArg H (congrArg (ix2 r) (Fin.ext ?_)))
    show o + (l.val + 1) = o + pairCol l.val + 1
    unfold pairCol; omega
  · rw [pay138_odd r l h]
    refine (cut_apply H (o + 128) h2 (by omega) r l).trans (congrArg H (congrArg (ix2 r) (Fin.ext ?_)))
    show o + 128 + l.val = o + pairCol l.val + 1
    unfold pairCol; omega

theorem ofBits_zero : (Ideal.ofBits .f32 0x00000000#32 : EReal) = 0 := by
  simp [Ideal.ofBits, Ideal.ieee]

/-- The first half of a chunk. -/
theorem pay148_apply (r : Fin 256) (l : Fin 128) :
    k0_pay148 xb k0_pay138 wb bb (ix2 r l)
      = unit (k0_pay147 xb wb bb (ix2 r ⟨0 + pairCol l.val, by have := pairCol_lt l.isLt; omega⟩))
        (k0_pay147 xb wb bb (ix2 r ⟨0 + pairCol l.val + 1, by have := pairCol_lt l.isLt; omega⟩)) := by
  rw [← left_apply 0 (by omega) (k0_pay147 xb wb bb) slices_S256x512_o0_0_S256x128 slices_S256x512_o0_128_S256x128 r l,
    ← right_apply 0 (by omega) (k0_pay147 xb wb bb) slices_S256x512_o0_0_S256x128 slices_S256x512_o0_128_S256x128 r l]
  unfold unit
  rw [← zero_sub, ← ofBits_zero]
  rfl

/-- The second half of a chunk. -/
theorem pay153_apply (v : FVec Ideal S256x128 .f32) (r : Fin 256) (l : Fin 128) :
    k0_pay153 v (k0_pay151 xb k0_pay138 wb bb) (k0_pay152 xb k0_pay138 wb bb) (ix2 r ⟨128 + l.val, by have := l.isLt; omega⟩)
      = unit (k0_pay147 xb wb bb (ix2 r ⟨256 + pairCol l.val, by have := pairCol_lt l.isLt; omega⟩))
        (k0_pay147 xb wb bb (ix2 r ⟨256 + pairCol l.val + 1, by have := pairCol_lt l.isLt; omega⟩)) := by
  rw [← left_apply 256 (by omega) (k0_pay147 xb wb bb) slices_S256x512_o0_256_S256x128 slices_S256x512_o0_384_S256x128 r l,
    ← right_apply 256 (by omega) (k0_pay147 xb wb bb) slices_S256x512_o0_256_S256x128 slices_S256x512_o0_384_S256x128 r l]
  unfold unit
  rw [← zero_sub, ← ofBits_zero]
  unfold k0_pay153
  rw [shapeCast_self]
  show concatenate S256x256 1 [⟨S256x128, v⟩, ⟨S256x128, _⟩] concatenates_S256x128_S256x128_S256x256_d1 _ = _
  refine (concatenate_pair_apply_right (s₁ := S256x128) (s₂ := S256x128) (1 : Fin 2) _ _ _ (ix2 r ⟨128 + l.val, _⟩ : S256x256.Idx) rfl rfl (ix2 r l) (fun b hb => ?_) ?_).trans ?_
  · fin_cases b
    · rfl
    · exact absurd rfl hb
  · show l.val + 128 = 128 + l.val
    omega
  · rfl

theorem pay153_left (v a b : FVec Ideal S256x128 .f32) (r : Fin 256) (l : Fin 128) :
    k0_pay153 v a b (ix2 r ⟨l.val, by have := l.isLt; omega⟩) = v (ix2 r l) := by
  unfold k0_pay153
  rw [shapeCast_self]
  show concatenate S256x256 1 [⟨S256x128, v⟩, ⟨S256x128, _⟩] concatenates_S256x128_S256x128_S256x256_d1 _ = _
  refine (concatenate_pair_apply_left (s₁ := S256x128) (s₂ := S256x128) (1 : Fin 2) _ _ _ (ix2 r ⟨l.val, _⟩ : S256x256.Idx) rfl (ix2 r l) fun b => ?_)
  fin_cases b <;> rfl

/-- A column of a chunk of the activations. -/
theorem actChunk_apply (r : Fin 256) (y : Fin 256) :
    actChunk xb wb bb (ix2 r y)
      = unit (k0_pay147 xb wb bb (ix2 r ⟨256 * (y.val / 128) + pairCol (y.val % 128), by have := y.isLt; have := pairCol_lt (Nat.mod_lt y.val (by decide : 0 < 128)); omega⟩))
        (k0_pay147 xb wb bb (ix2 r ⟨256 * (y.val / 128) + pairCol (y.val % 128) + 1, by have := y.isLt; have := pairCol_lt (Nat.mod_lt y.val (by decide : 0 < 128)); omega⟩)) := by
  have hy := y.isLt
  unfold actChunk
  by_cases h : y.val < 128
  · have e1 : y.val / 128 = 0 := by omega
    have e2 : y.val % 128 = y.val := by omega
    simp only [e1, e2]
    exact (pay153_left _ _ _ r ⟨y.val, h⟩).trans (pay148_apply xb wb bb r ⟨y.val, h⟩)
  · have e1 : y.val / 128 = 1 := by omega
    have e2 : y.val % 128 = y.val - 128 := by omega
    have ey : y = ⟨128 + (⟨y.val - 128, by omega⟩ : Fin 128).val, by show 128 + (y.val - 128) < 256; omega⟩ := Fin.ext (by show y.val = 128 + (y.val - 128); omega)
    simp only [e1, e2]
    refine (congrArg (fun z => k0_pay153 _ _ _ (ix2 r z)) ey).trans ?_
    exact pay153_apply xb wb bb _ r ⟨y.val - 128, by omega⟩

end Cert.ExpertsIdeal.Mlp

end
-- ==== Proof.Experts.Out.lean ====
/- What a tile with tokens gives, element by element: the gated units of the expert's pairs of columns, through the expert's
   second weights. The rows of the second weights stand in the order the units' columns come in, so the sum is over all pairs. -/
module

public import proofs.«01_k».proof.Proof.Experts.Chunk

@[expose] public section

set_option maxRecDepth 65536
set_option Elab.async false

noncomputable section

namespace Cert.ExpertsIdeal.Mlp

open Cert.ExpertsIdeal Cert.ExpertsIdeal.Gen
open Idealize.ShloMosaic Idealize.ShloMosaic.TcCoe
open Idealize.ShloMosaic.Pointwise

/-- A token's number `k` within the tile's rows of eight by 128. -/
def rowIx (r : Fin 256) (k : Fin 1024) : S256x8x128.Idx :=
  ix3 r ⟨k.val / 128, by have := k.isLt; omega⟩ ⟨k.val % 128, Nat.mod_lt _ (by decide)⟩

variable (x0 : S256x8x128.Idx → Elt Ideal .f32) (x1 : S1x1024x2048.Idx → Elt Ideal .f32) (b1 : S1x1x2048.Idx → Elt Ideal .f32)
  (x3 : S1x1024x1024.Idx → Elt Ideal .f32) (b2 : S1x1x1024.Idx → Elt Ideal .f32)

/-- The hidden product of a row with a column of the first weights, plus the bias. -/
def hid (r : Fin 256) (j : Fin 2048) : EReal :=
  (∑ k : Fin 1024, (x0 (rowIx r k) : EReal) * x1 (ix3 0 k j)) + b1 (ix3 0 0 j)

theorem pay137_apply (r : Fin 256) (k : Fin 1024) : (k0_pay137 x0 (ix2 r k) : EReal) = x0 (rowIx r k) := by
  show shapeCast S256x1024 x0 shapeCasts_S256x8x128_S256x1024 (ix2 r k) = _
  refine shapeCast_apply _ _ _ _ ?_
  rw [Shape.rowMajor_val_three, Shape.rowMajor_val_two]
  have := k.isLt
  show (r.val * 8 + k.val / 128) * 128 + k.val % 128 = r.val * 1024 + k.val
  omega

theorem W1B_apply (k : Fin 1024) (j : Fin 2048) : (W1B x1 (ix2 k j) : EReal) = x1 (ix3 0 k j) := by
  unfold W1B k0_pay5
  rw [shapeCast_self]
  show shapeCast S1024x2048 x1 shapeCasts_S1x1024x2048_S1024x2048 (ix2 k j) = _
  refine shapeCast_apply _ _ _ _ ?_
  rw [Shape.rowMajor_val_three, Shape.rowMajor_val_two]
  show (0 * 1024 + k.val) * 2048 + j.val = k.val * 2048 + j.val
  omega

/-- A chunk's hidden products are the row's, 512 columns further on per chunk. -/
theorem chunk_hid (q : Fin 4) (r : Fin 256) (j : Fin 512) :
    k0_pay147 (k0_pay137 x0) (wChunk (W1B x1) q) (bChunk b1 q) (ix2 r j)
      = hid x0 x1 b1 r ⟨512 * q.val + j.val, by have := q.isLt; have := j.isLt; omega⟩ := by
  rw [pay147_apply]
  unfold hid
  refine congrArg₂ (· + ·) (Finset.sum_congr rfl fun k _ => ?_) rfl
  exact congrArg₂ (· * ·) (pay137_apply x0 r k) (W1B_apply x1 k _)

theorem srcCol {y : ℕ} (h : y < 1024) : 512 * (y / 256) + (256 * (y % 256 / 128) + pairCol (y % 256 % 128)) = 2 * srcRow y := by
  unfold pairCol srcRow; omega

/-- Column `y` of the activations is the unit of pair `srcRow y`. -/
theorem actOf_apply (r : Fin 256) (y : Fin 1024) :
    actOf x0 (W1B x1) b1 (ix2 r y)
      = unit (hid x0 x1 b1 r ⟨2 * srcRow y.val, by have := srcRow_lt y.isLt; omega⟩)
        (hid x0 x1 b1 r ⟨2 * srcRow y.val + 1, by have := srcRow_lt y.isLt; omega⟩) := by
  have hs := srcCol y.isLt
  unfold actOf
  refine (actChunk_apply _ _ _ r ⟨y.val % 256, Nat.mod_lt _ (by decide)⟩).trans ?_
  rw [chunk_hid, chunk_hid]
  refine congrArg₂ unit (congrArg (hid x0 x1 b1 r) (Fin.ext ?_)) (congrArg (hid x0 x1 b1 r) (Fin.ext ?_))
  · exact hs
  · show 512 * (y.val / 256) + (256 * (y.val % 256 / 128) + pairCol (y.val % 256 % 128) + 1) = 2 * srcRow y.val + 1
    omega

theorem plane_apply (n : Fin 8) (y : Fin 1024) (l : Fin 128) :
    shapeCast S1024x128 (planeChunk x3 n) shapeCasts_S1x1024x128_S1024x128 (ix2 y l) = planeOf x3 (ix3 n y l) := by
  refine (shapeCast_apply _ _ _ (ix3 0 y l) ?_).trans rfl
  rw [Shape.rowMajor_val_three, Shape.rowMajor_val_two]
  show (0 * 1024 + y.val) * 128 + l.val = y.val * 128 + l.val
  omega

/-- Row `y` of the second weights as kept is row `srcRow y` of them. -/
theorem W2P_apply (y c : Fin 1024) : (W2P x3 (ix2 y c) : EReal) = x3 (ix3 0 ⟨srcRow y.val, srcRow_lt y.isLt⟩ c) := by
  have hc := c.isLt
  unfold W2P k0_pay1
  rw [shapeCast_self]
  have e : W2V x3 (ix2 y c) = shapeCast S1024x128 (planeChunk x3 ⟨c.val / 128, by omega⟩) shapeCasts_S1x1024x128_S1024x128
      (ix2 y ⟨c.val % 128, Nat.mod_lt _ (by decide)⟩) :=
    concatenate_ofFn_apply (t := S1024x1024) (s₁ := S1024x128) (1 : Fin 2) (N := 8)
      (fun n => shapeCast S1024x128 (planeChunk x3 n) shapeCasts_S1x1024x128_S1024x128) concatenates_S1024x128_S1024x128_S1024x128_S1024x128_S1024x128_S1024x128_S1024x128_S1024x128_S1024x1024_d1 rfl 128 rfl (ix2 y c)
      ⟨c.val / 128, by omega⟩ rfl (ix2 y ⟨c.val % 128, Nat.mod_lt _ (by decide)⟩) rfl (fun b hb => by
        fin_cases b
        · rfl
        · exact absurd rfl hb)
  refine e.trans ((plane_apply x3 _ y _).trans ?_)
  unfold planeOf
  refine congrArg x3 (congrArg (ix3 0 _) (Fin.ext ?_))
  show 128 * (c.val / 128) + c.val % 128 = c.val
  omega

theorem pay3_apply (a : FVec Ideal S256x1024 .bf16) (w : FVec Ideal S1024x1024 .bf16) (r : Fin 256) (g : Fin 8) (l : Fin 128) :
    k0_pay3 a w b2 (ix3 r g l) = (∑ y : Fin 1024, a (ix2 r y) * w (ix2 y ⟨128 * g.val + l.val, by have := g.isLt; have := l.isLt; omega⟩))
      + b2 (ix3 0 0 ⟨128 * g.val + l.val, by have := g.isLt; have := l.isLt; omega⟩) := by
  unfold k0_pay3
  refine (shapeCast_apply _ _ _ (ix2 r ⟨128 * g.val + l.val, by have := g.isLt; have := l.isLt; omega⟩) ?_).trans ?_
  · rw [Shape.rowMajor_val_three, Shape.rowMajor_val_two]
    show r.val * 1024 + (128 * g.val + l.val) = (r.val * 8 + g.val) * 128 + l.val
    omega
  · generalize (⟨128 * g.val + l.val, _⟩ : Fin 1024) = j
    pointwise []

theorem src_div (y : ℕ) : srcRow y / 128 = y / 128 := by unfold srcRow; omega

theorem src_mod (y : ℕ) : srcRow y % 128 = y % 128 / 2 + 64 * (y % 2) := by unfold srcRow; omega

theorem src_inj {a b : ℕ} (hd : a / 128 = b / 128) (hm : a % 128 / 2 + 64 * (a % 2) = b % 128 / 2 + 64 * (b % 2)) : a = b := by
  have ha : a % 128 / 2 < 64 := by omega
  have hb : b % 128 / 2 < 64 := by omega
  have e : a % 2 = b % 2 ∧ a % 128 / 2 = b % 128 / 2 := by
    have h1 : a % 2 < 2 := Nat.mod_lt _ (by decide)
    have h2 : b % 2 < 2 := Nat.mod_lt _ (by decide)
    generalize a % 128 / 2 = p at *
    generalize b % 128 / 2 = q at *
    generalize a % 2 = u at *
    generalize b % 2 = v at *
    omega
  obtain ⟨e1, e2⟩ := e
  have ea : a = 128 * (a / 128) + 2 * (a % 128 / 2) + a % 2 := by omega
  have eb : b = 128 * (b / 128) + 2 * (b % 128 / 2) + b % 2 := by omega
  rw [ea, eb, hd, e1, e2]

/-- The order of the rows is a permutation. -/
theorem srcRow_bij : Function.Bijective fun y : Fin 1024 => (⟨srcRow y.val, srcRow_lt y.isLt⟩ : Fin 1024) := by
  refine Finite.injective_iff_bijective.mp fun a b h => Fin.ext ?_
  have h' : srcRow a.val = srcRow b.val := congrArg Fin.val h
  have hd := (src_div a.val).symm.trans ((congrArg (· / 128) h').trans (src_div b.val))
  have hm := (src_mod a.val).symm.trans ((congrArg (· % 128) h').trans (src_mod b.val))
  exact src_inj hd hm

/-- One expert's result for a row and a column. -/
def mlp (x : Fin 1024 → EReal) (w1 : Fin 1024 → Fin 2048 → EReal) (c1 : Fin 2048 → EReal) (w2 : Fin 1024 → EReal) (c2 : EReal) : EReal :=
  (∑ s : Fin 1024, unit ((∑ k, x k * w1 k ⟨2 * s.val, by have := s.isLt; omega⟩) + c1 ⟨2 * s.val, by have := s.isLt; omega⟩)
    ((∑ k, x k * w1 k ⟨2 * s.val + 1, by have := s.isLt; omega⟩) + c1 ⟨2 * s.val + 1, by have := s.isLt; omega⟩) * w2 s) + c2

theorem outOf_apply (r : Fin 256) (g : Fin 8) (l : Fin 128) :
    outOf x0 (W1B x1) b1 (W2P x3) b2 (ix3 r g l)
      = mlp (fun k => x0 (rowIx r k)) (fun k j => x1 (ix3 0 k j)) (fun j => b1 (ix3 0 0 j))
        (fun s => x3 (ix3 0 s ⟨128 * g.val + l.val, by have := g.isLt; have := l.isLt; omega⟩))
        (b2 (ix3 0 0 ⟨128 * g.val + l.val, by have := g.isLt; have := l.isLt; omega⟩)) := by
  unfold outOf mlp
  rw [pay3_apply]
  refine congrArg (· + _) ?_
  refine Function.Bijective.sum_comp srcRow_bij (fun s : Fin 1024 => unit (hid x0 x1 b1 r ⟨2 * s.val, by have := s.isLt; omega⟩)
    (hid x0 x1 b1 r ⟨2 * s.val + 1, by have := s.isLt; omega⟩) * x3 (ix3 0 s ⟨128 * g.val + l.val, by have := g.isLt; have := l.isLt; omega⟩)) |>.symm.trans ?_ |>.symm
  refine Finset.sum_congr rfl fun y _ => ?_
  exact congrArg₂ (· * ·) (actOf_apply x0 x1 b1 r y).symm (W2P_apply x3 y _).symm

end Cert.ExpertsIdeal.Mlp

end
-- ==== Proof.Experts.Reference.lean ====
/- The reference's result, element by element: every expert's result for the token, weighted by whether the token's tile is
   that expert's and holds tokens; so the tile's expert's result, or nothing. -/
module

public import proofs.«01_k».proof.Proof.Gen.ExpertsRefIdeal.Read
public import proofs.«01_k».proof.Proof.Experts.Out
public import Idealize.ShloMosaic.Lib.StableHlo.Predicate

@[expose] public section

set_option maxRecDepth 16384
set_option Elab.async false

noncomputable section

namespace Cert.ExpertsRefIdeal.Mlp

open Cert.ExpertsRefIdeal Cert.ExpertsRefIdeal.Gen Cert.ExpertsRefIdeal.Read
open Idealize.ShloMosaic Idealize.ShloMosaic.TcCoe
open Idealize.ShloMosaic.Pointwise
open Cert.ExpertsIdeal.Mlp (unit mlp)

variable (x0 x1 : (⟨S290, .i32⟩ : BufTy).Contents (Elt Ideal)) (x2 : (⟨S74240x8x128, .f32⟩ : BufTy).Contents (Elt Ideal))
  (x3 : (⟨S32x1024x2048, .f32⟩ : BufTy).Contents (Elt Ideal)) (x4 : (⟨S32x1x2048, .f32⟩ : BufTy).Contents (Elt Ideal))
  (x5 : (⟨S32x1024x1024, .f32⟩ : BufTy).Contents (Elt Ideal)) (x6 : (⟨S32x1x1024, .f32⟩ : BufTy).Contents (Elt Ideal))

/-- Entry `k` of token `n`. -/
def tokIx (n : Fin 74240) (k : Fin 1024) : S74240x8x128.Idx :=
  ix3 n ⟨k.val / 128, by have := k.isLt; omega⟩ ⟨k.val % 128, Nat.mod_lt _ (by decide)⟩

theorem v0_at (n : Fin 74240) (k : Fin 1024) : val_main_v0 (F := Ideal) x2 (ix2 n k) = x2 (tokIx n k) := by
  rw [val_main_v0_apply]
  refine congrArg x2 (funext fun a => Fin.ext ?_)
  have hk := k.isLt
  fin_cases a
  · show (n.val * 1024 + k.val) / 1024 = n.val
    omega
  · show (n.val * 1024 + k.val) / 128 % 8 = k.val / 128
    omega
  · show (n.val * 1024 + k.val) % 128 = k.val % 128
    omega

/-- The hidden products. -/
theorem v4_at (e : Fin 32) (n : Fin 74240) (j : Fin 2048) :
    val_main_v4 (F := Ideal) x2 x3 x4 (ix3 e n j)
      = ((∑ k : Fin 1024, (x2 (tokIx n k) : EReal) * x3 (ix3 e k j)) + x4 (ix3 e 0 j) : EReal) := by
  rw [val_main_v4_apply, val_main_v2_apply, val_main_v1_apply, val_main_v3_apply]
  refine congrArg₂ (· + ·) (Finset.sum_congr rfl fun k _ => ?_) (congrArg x4 (funext fun a => by fin_cases a <;> rfl))
  rw [show ridx_main_v1 (idx_main_v2 (ix3 e n j)) k = ix2 n k from funext fun a => by fin_cases a <;> rfl, v0_at,
    show lidx_main_v1 (idx_main_v2 (ix3 e n j)) k = ix3 e k j from funext fun a => by fin_cases a <;> rfl]
  exact mul_comm _ _

theorem v5_at (e : Fin 32) (n : Fin 74240) (s : Fin 1024) :
    val_main_v5 (F := Ideal) x2 x3 x4 (ix3 e n s) = val_main_v4 (F := Ideal) x2 x3 x4 (ix3 e n ⟨2 * s.val, by have := s.isLt; omega⟩) := by
  unfold val_main_v5
  generalize val_main_v4 (F := Ideal) x2 x3 x4 = y
  unfold Host.slice
  refine congrArg y (funext fun a => Fin.ext ?_)
  fin_cases a
  · show 0 + 1 * e.val = e.val
    omega
  · show 0 + 1 * n.val = n.val
    omega
  · show 0 + 2 * s.val = 2 * s.val
    omega

theorem v8_at (e : Fin 32) (n : Fin 74240) (s : Fin 1024) :
    val_main_v8 (F := Ideal) x2 x3 x4 (ix3 e n s) = val_main_v4 (F := Ideal) x2 x3 x4 (ix3 e n ⟨2 * s.val + 1, by have := s.isLt; omega⟩) := by
  unfold val_main_v8
  generalize val_main_v4 (F := Ideal) x2 x3 x4 = y
  unfold Host.slice
  refine congrArg y (funext fun a => Fin.ext ?_)
  fin_cases a
  · show 0 + 1 * e.val = e.val
    omega
  · show 0 + 1 * n.val = n.val
    omega
  · show 1 + 2 * s.val = 2 * s.val + 1
    omega

/-- The gated units. -/
theorem v21_at (i : S32x74240x1024.Idx) :
    val_main_v21 (F := Ideal) x2 x3 x4 i = unit (val_main_v5 (F := Ideal) x2 x3 x4 i) (val_main_v8 (F := Ideal) x2 x3 x4 i) := by
  rw [val_main_v21_apply, val_main_v11_apply, val_main_v9_apply, val_main_call0_v4_apply, val_main_call0_v3_apply, val_main_call0_v2_apply,
    val_main_call0_v1_apply, val_main_call0_v0_apply, val_main_v10_apply, val_main_v20_apply, val_main_v7_apply, val_main_v6_apply,
    val_main_v19_apply, val_main_v18_apply, val_main_v17_apply, val_main_v16_apply, val_main_v15_apply, val_main_v14_apply,
    val_main_v13_apply, val_main_v12_apply, val_main_v7_apply, val_main_v6_apply]
  rfl

/-- One expert's result for a token. -/
theorem v24_at (e : Fin 32) (n : Fin 74240) (j : Fin 1024) :
    val_main_v24 (F := Ideal) x2 x3 x4 x5 x6 (ix3 e n j)
      = mlp (fun k => x2 (tokIx n k)) (fun k c => x3 (ix3 e k c)) (fun c => x4 (ix3 e 0 c)) (fun s => x5 (ix3 e s j)) (x6 (ix3 e 0 j)) := by
  rw [val_main_v24_apply, val_main_v22_apply, val_main_v23_apply]
  unfold mlp
  refine congrArg₂ (· + ·) (Finset.sum_congr rfl fun s _ => ?_) (congrArg x6 (funext fun a => by fin_cases a <;> rfl))
  rw [show lidx_main_v22 (ix3 e n j) s = ix3 e n s from funext fun a => by fin_cases a <;> rfl,
    show ridx_main_v22 (ix3 e n j) s = ix3 e s j from funext fun a => by fin_cases a <;> rfl, v21_at, v5_at, v8_at, v4_at, v4_at]

/-- The weight of an expert at a tile. -/
theorem v35_at (e : Fin 32) (t : Fin 290) (r : Fin 256) (j : Fin 1024) :
    val_main_v35 (F := Ideal) x0 x1 (ix4 e t r j)
      = (FloatOps.uitofp (F := Ideal) .f32 (IntOp.cmpi .eq (x0 (ix1 t)) (BitVec.ofNat 32 e.val)) * FloatOps.uitofp (F := Ideal) .f32 (IntOp.cmpi .sgt (x1 (ix1 t)) 0#32) : EReal) := by
  rw [val_main_v35_apply, val_main_v34_apply, val_main_v33_apply, val_main_v32_apply, val_main_v26_apply, val_main_call1_v4_apply,
    val_main_call1_v2_apply, val_main_call1_v0_apply, val_main_call1_v3_apply, val_main_call1_v1_apply, val_main_v31_apply,
    val_main_v30_apply, val_main_v29_apply, val_main_v28_apply, val_main_v27_apply, val_main_c_apply]
  refine congrArg₂ (· * ·) ?_ ?_
  · refine congrArg (fun z => FloatOps.uitofp (F := Ideal) .f32 (IntOp.cmpi .eq (x0 z) _)) (funext fun a => by fin_cases a; rfl)
  · refine congrArg (fun z => FloatOps.uitofp (F := Ideal) .f32 (IntOp.cmpi .sgt (x1 z) _)) (funext fun a => by fin_cases a; rfl)

theorem bit_one : (FloatOps.uitofp (F := Ideal) .f32 (1#1) : EReal) = 1 := by
  simp [FloatOps.uitofp]

theorem bit_zero : (FloatOps.uitofp (F := Ideal) .f32 (0#1) : EReal) = 0 := by
  simp [FloatOps.uitofp]

/-- Row `r` of tile `t`. -/
def tok (t : Fin 290) (r : Fin 256) : Fin 74240 := ⟨256 * t.val + r.val, by have := t.isLt; have := r.isLt; omega⟩

theorem v25_at (e : Fin 32) (t : Fin 290) (r : Fin 256) (j : Fin 1024) :
    val_main_v25 (F := Ideal) x2 x3 x4 x5 x6 (ix4 e t r j) = val_main_v24 (F := Ideal) x2 x3 x4 x5 x6 (ix3 e (tok t r) j) := by
  rw [val_main_v25_apply]
  refine congrArg (val_main_v24 (F := Ideal) x2 x3 x4 x5 x6) (funext fun a => Fin.ext ?_)
  have ht := t.isLt
  have hr := r.isLt
  have hj := j.isLt
  fin_cases a
  · show (((e.val * 290 + t.val) * 256 + r.val) * 1024 + j.val) / 76021760 = e.val
    omega
  · show (((e.val * 290 + t.val) * 256 + r.val) * 1024 + j.val) / 1024 % 74240 = 256 * t.val + r.val
    omega
  · show (((e.val * 290 + t.val) * 256 + r.val) * 1024 + j.val) % 1024 = j.val
    omega

/-- The result: the sum over the experts. -/
theorem v38_at (t : Fin 290) (r : Fin 256) (g : Fin 8) (l : Fin 128) :
    val_main_v38 (F := Ideal) x0 x1 x2 x3 x4 x5 x6 (ix3 (tok t r) g l)
      = (0 + ∑ e : Fin 32, val_main_v35 (F := Ideal) x0 x1 (ix4 e t r ⟨128 * g.val + l.val, by have := g.isLt; have := l.isLt; omega⟩)
        * val_main_v24 (F := Ideal) x2 x3 x4 x5 x6 (ix3 e (tok t r) ⟨128 * g.val + l.val, by have := g.isLt; have := l.isLt; omega⟩) : EReal) := by
  have hr := r.isLt
  have hg := g.isLt
  have hl := l.isLt
  rw [val_main_v38_apply, val_main_v37_apply, val_main_cst_6_apply]
  refine congrArg₂ (· + ·) Cert.ExpertsIdeal.Mlp.ofBits_zero (Finset.sum_congr rfl fun e _ => ?_)
  have hi : idx_main_v37 (idx_main_v38 (ix3 (tok t r) g l)) e = ix4 e t r ⟨128 * g.val + l.val, by omega⟩ := by
    funext a
    apply Fin.ext
    fin_cases a
    · rfl
    · show (((256 * t.val + r.val) * 8 + g.val) * 128 + l.val) / 262144 = t.val
      omega
    · show (((256 * t.val + r.val) * 8 + g.val) * 128 + l.val) / 1024 % 256 = r.val
      omega
    · show (((256 * t.val + r.val) * 8 + g.val) * 128 + l.val) % 1024 = 128 * g.val + l.val
      omega
  rw [hi, val_main_v36_apply, v25_at]
  rfl

/-- A tile with tokens: its expert's result. -/
theorem v38_some (t : Fin 290) (r : Fin 256) (g : Fin 8) (l : Fin 128) (e : Fin 32) (he : x0 (ix1 t) = BitVec.ofNat 32 e.val)
    (hv : IntOp.cmpi .sgt (x1 (ix1 t)) 0#32 = 1#1) :
    val_main_v38 (F := Ideal) x0 x1 x2 x3 x4 x5 x6 (ix3 (tok t r) g l)
      = mlp (fun k => x2 (tokIx (tok t r) k)) (fun k c => x3 (ix3 e k c)) (fun c => x4 (ix3 e 0 c))
        (fun s => x5 (ix3 e s ⟨128 * g.val + l.val, by have := g.isLt; have := l.isLt; omega⟩))
        (x6 (ix3 e 0 ⟨128 * g.val + l.val, by have := g.isLt; have := l.isLt; omega⟩)) := by
  rw [v38_at, zero_add, Finset.sum_eq_single e]
  · rw [v35_at, he, hv, StableHlo.Predicate.cmpi_eq_iff.mpr rfl, bit_one, one_mul, one_mul, v24_at]
  · intro b _ hb
    have hne : IntOp.cmpi .eq (BitVec.ofNat 32 e.val) (BitVec.ofNat 32 b.val) = 0#1 := by
      have h : (BitVec.ofNat 32 e.val == BitVec.ofNat 32 b.val) = false := by
        rw [beq_eq_false_iff_ne]
        intro hc
        have := congrArg BitVec.toNat hc
        rw [BitVec.toNat_ofNat, BitVec.toNat_ofNat] at this
        have he := e.isLt
        have hb' := b.isLt
        exact hb (Fin.ext (by omega))
      show BitVec.ofBool _ = _
      rw [h]; rfl
    rw [v35_at, he, hne, bit_zero, zero_mul, zero_mul]
  · exact fun h => absurd (Finset.mem_univ _) h

/-- An empty tile: nothing. -/
theorem v38_none (t : Fin 290) (r : Fin 256) (g : Fin 8) (l : Fin 128) (hv : IntOp.cmpi .sgt (x1 (ix1 t)) 0#32 = 0#1) :
    val_main_v38 (F := Ideal) x0 x1 x2 x3 x4 x5 x6 (ix3 (tok t r) g l) = (0 : EReal) := by
  rw [v38_at, zero_add]
  refine Finset.sum_eq_zero fun e _ => ?_
  rw [v35_at, hv, bit_zero, mul_zero, zero_mul]

end Cert.ExpertsRefIdeal.Mlp

end
-- ==== Proof.Experts.Array.lean ====
/- The experts' result array after the run is the reference's: each tile's block is, and the blocks fill the array. -/
module

public import proofs.«01_k».proof.Proof.Experts.Launch
public import proofs.«01_k».proof.Proof.Experts.Out
public import proofs.«01_k».proof.Proof.Experts.Reference
public import Idealize.ShloMosaic.Lib.Pipeline.ArrRel

@[expose] public section

set_option maxRecDepth 16384
set_option Elab.async false

noncomputable section

namespace Cert.ExpertsIdeal.Mlp

open Cert.ExpertsIdeal Cert.ExpertsIdeal.Gen
open Idealize.ShloMosaic Idealize.ShloMosaic.TcCoe
open Idealize.ShloMosaic.Pointwise
open Idealize.SL.Sem
open Idealize.ShloMosaic.Pipeline (Dat RDat Cfg Window)
open Cert.ExpertsRefIdeal.Mlp (tok tokIx v38_some v38_none)

variable (pf : pre0.Contents (Elt Ideal)) (hs : Small pf)
variable (m : (ℓ : Loc nD τ sig) → Buf (Elt Ideal) ℓ) (ρ : Dev nD → PrngReg) (c : Dev nD)

/-- A grid point as a tile's number. -/
def tile (t : Fin grid0.N) : Fin 290 := ⟨t.val, lt_of_lt_of_eq t.isLt N_0⟩

theorem tileIx_eq (t : Fin grid0.N) : tileIx t = ix1 (tile t) := by
  funext a
  match a with
  | ⟨0, _⟩ => rfl

/-- The grid's coordinate as a word of the index maps. -/
theorem coord_word : ∀ t : Fin grid0.N, (BitVec.ofNat 32 ((grid0.coords t) 0).val).toNat = t.val := by decide +kernel

/-- The argument arrays. -/
abbrev argX : S74240x8x128.Idx → EReal := m ((c : Thread nD τ).loc main_arg2)
abbrev argW1 : S32x1024x2048.Idx → EReal := m ((c : Thread nD τ).loc main_arg3)
abbrev argB1 : S32x1x2048.Idx → EReal := m ((c : Thread nD τ).loc main_arg4)
abbrev argW2 : S32x1024x1024.Idx → EReal := m ((c : Thread nD τ).loc main_arg5)
abbrev argB2 : S32x1x1024.Idx → EReal := m ((c : Thread nD τ).loc main_arg6)

theorem b0_apply (t : Fin grid0.N) (r : Fin 256) (k : Fin 1024) :
    b0 pf hs m ρ c t (rowIx r k) = argX m c (tokIx (tok (tile t) r) k) := by
  show argX m c ((((cA pf hs).win 0).blk t).view.emb _) = _
  refine congrArg (argX m c) ?_
  funext a; apply Fin.ext
  match a with
  | ⟨0, _⟩ => show (BitVec.ofNat 32 ((grid0.coords t) 0).val).toNat * 256 + 1 * r.val = 256 * t.val + r.val; rw [coord_word]; omega
  | ⟨1, _⟩ => show 0 * 8 + 1 * (k.val / 128) = k.val / 128; omega
  | ⟨2, _⟩ => show 0 * 128 + 1 * (k.val % 128) = k.val % 128; omega

theorem b2_apply (t : Fin grid0.N) (j : Fin 2048) : b2 pf hs m ρ c t (ix3 0 0 j) = argB1 m c (ix3 (expert pf hs t) 0 j) := by
  show argB1 m c ((((cA pf hs).win 2).blk t).view.emb _) = _
  refine congrArg (argB1 m c) ?_
  funext a; apply Fin.ext
  match a with
  | ⟨0, _⟩ => show (expertAt pf (grid0.coords t)).toNat * 1 + 1 * 0 = (expertAt pf (grid0.coords t)).toNat; omega
  | ⟨1, _⟩ => rfl
  | ⟨2, _⟩ => show 0 * 2048 + 1 * j.val = j.val; omega

theorem b4_apply (t : Fin grid0.N) (j : Fin 1024) : b4 pf hs m ρ c t (ix3 0 0 j) = argB2 m c (ix3 (expert pf hs t) 0 j) := by
  show argB2 m c ((((cA pf hs).win 4).blk t).view.emb _) = _
  refine congrArg (argB2 m c) ?_
  funext a; apply Fin.ext
  match a with
  | ⟨0, _⟩ => show (expertAt pf (grid0.coords t)).toNat * 1 + 1 * 0 = (expertAt pf (grid0.coords t)).toNat; omega
  | ⟨1, _⟩ => rfl
  | ⟨2, _⟩ => show 0 * 1024 + 1 * j.val = j.val; omega

theorem embO (t : Fin grid0.N) (r : Fin 256) (g : Fin 8) (l : Fin 128) :
    (((cA pf hs).win 5).blk t).view.emb (ix3 r g l : S256x8x128.Idx) = (ix3 (tok (tile t) r) g l : S74240x8x128.Idx) := by
  funext a; apply Fin.ext
  match a with
  | ⟨0, _⟩ => show (BitVec.ofNat 32 ((grid0.coords t) 0).val).toNat * 256 + 1 * r.val = 256 * t.val + r.val; rw [coord_word]; omega
  | ⟨1, _⟩ => show 0 * 8 + 1 * g.val = g.val; omega
  | ⟨2, _⟩ => show 0 * 128 + 1 * l.val = l.val; omega

/-- Every tile's block is written back. -/
theorem flush_all (t : Fin (cA pf hs).N) : ((cA pf hs).win 5).flush t = true :=
  (Pipeline.Window.flush_reads ((cA pf hs).win 5) rfl (0 : Fin 1) (show 1 < grid0.bound 0 by decide)
    (show grid0.fixedAfter reads0_5 0 = true by decide)
    (Pipeline.Window.sep_of_coord cc0_transform_5 0 0 (fun _ => rfl) (by decide)) (P := 1) (m := 0) (show grid0.stride 0 = 1 by decide) rfl t).mpr (Nat.mod_one _)

/-- The reference's result of the argument arrays. -/
abbrev want : S74240x8x128.Idx → EReal :=
  Cert.ExpertsRefIdeal.Read.val_main_v38 (F := Ideal) (m ((c : Thread nD τ).loc main_arg0)) (m ((c : Thread nD τ).loc main_arg1))
    (argX m c) (argW1 m c) (argB1 m c) (argW2 m c) (argB2 m c)

/-- A tile's conditions, of its count of tokens. -/
theorem cond_some (v : BitVec 32) (h : IntOp.cmpi .sgt v 0#32 = 1#1) : k0_cond2 v = 1#1 := by
  unfold k0_cond2
  have e : Scalar.cmpi .sgt v 0#32 = 1#1 := h
  simp only [e]
  rfl

theorem cond_none (v : BitVec 32) (h : IntOp.cmpi .sgt v 0#32 = 0#1) (h0 : IntOp.cmpi .sge v 0#32 = 1#1) : k0_cond3 v = 1#1 := by
  have e : v = 0#32 := by
    have h1 : BitVec.ofBool ((0#32 : BitVec 32).slt v) = 0#1 := h
    have h2 : BitVec.ofBool ((0#32 : BitVec 32).sle v) = 1#1 := h0
    revert h1 h2
    rw [BitVec.slt, BitVec.sle]
    intro h1 h2
    have h1' : ¬ (0#32 : BitVec 32).toInt < v.toInt := fun hc => by
      rw [decide_eq_true hc] at h1; exact absurd h1 (by decide)
    have h2' : (0#32 : BitVec 32).toInt ≤ v.toInt := by
      by_contra hc
      rw [decide_eq_false hc] at h2; exact absurd h2 (by decide)
    exact BitVec.eq_of_toInt_eq (by omega)
  subst e; rfl

theorem bit_cases : ∀ b : BitVec 1, b = 0#1 ∨ b = 1#1 := by decide

theorem pay4_apply (i : S256x8x128.Idx) : (k0_pay4 (F := Ideal) i : EReal) = 0 := ofBits_zero

/-- Every index of a block, by its row, group and lane. -/
theorem split_o (j : S256x8x128.Idx) : j = ix3 (j 0) (j 1) (j 2) := by
  funext a
  match a with
  | ⟨0, _⟩ => rfl
  | ⟨1, _⟩ => rfl
  | ⟨2, _⟩ => rfl

variable (hpf : ∀ (c : Dev nD) (k : Fin 2), m ((c : Thread nD τ).loc (pre0.ref k)) = pf k)
  (hpos : ∀ x : S290.Idx, IntOp.cmpi .sge ((pf 1 : S290.Idx → BitVec 32) x) 0#32 = 1#1)
include hpf hpos

/-- What a tile leaves is the reference's result, at the tile's tokens. -/
theorem tile_eq (t : Fin grid0.N) (X : S256x8x128.Idx → EReal) (hX : TileOut pf hs m ρ c t X) (r : Fin 256) (g : Fin 8) (l : Fin 128) :
    X (ix3 r g l) = want m c (ix3 (tok (tile t) r) g l) := by
  have hw : wordOf (F := Ideal) tvM (pf 1) (k0_off3 (grid0.coords t)) (k0_off3_inb _) = (pf 1 : S290.Idx → BitVec 32) (ix1 (tile t)) :=
    (rows_eq (F := Ideal) (pf 1) t).trans (congrArg (pf 1 : S290.Idx → BitVec 32) (tileIx_eq t))
  have ev : (m ((c : Thread nD τ).loc main_arg1) : S290.Idx → BitVec 32) (ix1 (tile t)) = (pf 1 : S290.Idx → BitVec 32) (ix1 (tile t)) :=
    congrFun (hpf c 1 : (m ((c : Thread nD τ).loc main_arg1) : S290.Idx → BitVec 32) = pf 1) _
  have ee : (m ((c : Thread nD τ).loc main_arg0) : S290.Idx → BitVec 32) (ix1 (tile t)) = BitVec.ofNat 32 (expert pf hs t).val := by
    refine (congrFun (hpf c 0 : (m ((c : Thread nD τ).loc main_arg0) : S290.Idx → BitVec 32) = pf 0) _).trans ?_
    show _ = BitVec.ofNat 32 (expertAt pf (grid0.coords t)).toNat
    rw [BitVec.ofNat_toNat, BitVec.setWidth_eq, expertAt_eq, tileIx_eq]
  rcases bit_cases (IntOp.cmpi .sgt ((pf 1 : S290.Idx → BitVec 32) (ix1 (tile t))) 0#32) with h | h
  · rw [hX.2 ((congrArg k0_cond3 hw).trans (cond_none _ h (hpos _)))]
    refine (pay4_apply _).trans (Eq.symm ?_)
    exact v38_none _ _ _ _ _ _ _ (tile t) r g l (by rw [ev]; exact h)
  · rw [hX.1 ((congrArg k0_cond2 hw).trans (cond_some _ h))]
    refine (outOf_apply _ _ _ _ _ r g l).trans (Eq.symm ?_)
    refine (v38_some _ _ _ _ _ _ _ (tile t) r g l (expert pf hs t) ee (by rw [ev]; exact h)).trans (Eq.symm ?_)
    simp only [b0_apply, b1_apply, b2_apply, b3_apply, b4_apply]

omit hpf hpos in
/-- Every index of the result is in some tile's block. -/
theorem covered (i : S74240x8x128.Idx) :
    ∃ t : Fin (cA pf hs).N, ((cA pf hs).win 5).flush t = true ∧ i ∈ (((cA pf hs).win 5).blk t).view.set := by
  have h0 : (i 0).val < 74240 := (i 0).isLt
  have ht : (i 0).val / 256 < grid0.N := by rw [N_0]; omega
  refine ⟨(⟨_, ht⟩ : Fin grid0.N), flush_all pf hs _, ?_⟩
  have hm := (((cA pf hs).win 5).blk (⟨_, ht⟩ : Fin grid0.N)).view.emb_mem_set
    (ix3 ⟨(i 0).val % 256, by omega⟩ (i 1) (i 2) : S256x8x128.Idx)
  refine (congrArg (· ∈ _) ((embO pf hs (⟨_, ht⟩ : Fin grid0.N) ⟨(i 0).val % 256, by omega⟩ (i 1) (i 2)).trans ?_) : _ = _).mp hm
  funext a; apply Fin.ext
  match a with
  | ⟨0, _⟩ => show 256 * ((i 0).val / 256) + (i 0).val % 256 = (i 0).val; omega
  | ⟨1, _⟩ => rfl
  | ⟨2, _⟩ => rfl

/-- After the run the result array is the reference's. -/
theorem final_eq (r : PUnit × MemSt nD τ sig (Elt Ideal))
    (h : Pipeline.RDat.FramePost (cA pf hs) (rdat pf hs m ρ) (fun c b => m ((c : Thread nD τ).loc b)) r) :
    r.2.mem ((c : Thread nD τ).loc main_v0) = want m c := by
  obtain ⟨after, hl, he⟩ := Pipeline.RDat.FramePost.exists_exact h c
  refine (he (5 : Fin 6)).trans ?_
  refine Dat.arrAt_eq_of_cover ((rdat pf hs m ρ c).withAfter after) (5 : Fin 6) (want m c) (fun t hf => ?_) (covered pf hs)
  refine funext fun (j : S256x8x128.Idx) => ?_
  rw [split_o j]
  have hX : TileOut pf hs m ρ c t (after (5 : Fin 6) t) := Dat.toRRel_leaves (dat := dat pf hs m ρ c) (fgt := marked) (Rl := rel pf hs m ρ c) (w := (5 : Fin 6)) rfl (hl (5 : Fin 6) t hf)
  refine (tile_eq pf hs m ρ c hpf hpos t _ hX (j 0) (j 1) (j 2)).trans ?_
  exact (congrArg (want m c) (embO pf hs t (j 0) (j 1) (j 2))).symm

end Cert.ExpertsIdeal.Mlp

end
-- ==== Proof.Experts.Tables.lean ====
/- What the preconditions say of the two tables' words: every expert's number is below 32, every count is not negative. -/
module

public import proofs.«01_k».proof.Proof.Experts.Array
public import proofs.«01_k».proof.Defs
public import proofs.«01_k».proof.Proof.Gen.Pre_te_ok
public import proofs.«01_k».proof.Proof.Gen.Pre_tables_ok

@[expose] public section

set_option maxRecDepth 16384
set_option Elab.async false

noncomputable section

namespace Cert.Experts.Tables

open Idealize.ShloMosaic

/-- A word from 0 to 31 in the signed order is below 32 as a number. -/
theorem word_lt (v : BitVec 32) (h0 : IntOp.cmpi .sge v 0#32 = 1#1) (h1 : IntOp.cmpi .slt v 32#32 = 1#1) : v.toNat < 32 := by
  have h2 : BitVec.ofBool ((0#32 : BitVec 32).sle v) = 1#1 := h0
  have h3 : BitVec.ofBool (v.slt 32#32) = 1#1 := h1
  revert h2 h3
  rw [BitVec.slt, BitVec.sle]
  intro h2 h3
  have h2' : (0#32 : BitVec 32).toInt ≤ v.toInt := by
    by_contra hc
    rw [decide_eq_false hc] at h2; exact absurd h2 (by decide)
  have h3' : v.toInt < (32#32 : BitVec 32).toInt := by
    by_contra hc
    rw [decide_eq_false hc] at h3; exact absurd h3 (by decide)
  have e0 : (0#32 : BitVec 32).toInt = 0 := by decide
  have e1 : (32#32 : BitVec 32).toInt = 32 := by decide
  rw [e0, BitVec.toInt_eq_toNat_cond] at h2'
  rw [e1, BitVec.toInt_eq_toNat_cond] at h3'
  have := v.isLt
  split at h2' <;> split at h3' <;> omega

variable {F : FTy → Type} [FloatOps F]

theorem te_ok_lt (x0 x1 x2 x3 x4 x5 x6)
    (h : (Cert.Pre_te_ok.fn (F := F) x0 x1 x2 x3 x4 x5 x6).1 = (fun _ => 1#1) ∧ (Cert.Pre_te_ok.fn (F := F) x0 x1 x2 x3 x4 x5 x6).2 = (fun _ => 1#1))
    (x : Cert.Pre_te_ok.S290.Idx) : (x0 x).toNat < 32 :=
  word_lt _ (congrFun h.1 x) (congrFun h.2 x)

theorem tables_ok_lt (x0 x1 x2 x3 x4 x5 x6)
    (h : (Cert.Pre_tables_ok.fn (F := F) x0 x1 x2 x3 x4 x5 x6).1 = (fun _ => 1#1) ∧ (Cert.Pre_tables_ok.fn (F := F) x0 x1 x2 x3 x4 x5 x6).2.1 = (fun _ => 1#1)
      ∧ (Cert.Pre_tables_ok.fn (F := F) x0 x1 x2 x3 x4 x5 x6).2.2 = (fun _ => 1#1))
    (x : Cert.Pre_tables_ok.S290.Idx) : (x0 x).toNat < 32 :=
  word_lt _ (congrFun h.1 x) (congrFun h.2.1 x)

theorem tables_ok_nonneg (x0 x1 x2 x3 x4 x5 x6)
    (h : (Cert.Pre_tables_ok.fn (F := F) x0 x1 x2 x3 x4 x5 x6).1 = (fun _ => 1#1) ∧ (Cert.Pre_tables_ok.fn (F := F) x0 x1 x2 x3 x4 x5 x6).2.1 = (fun _ => 1#1)
      ∧ (Cert.Pre_tables_ok.fn (F := F) x0 x1 x2 x3 x4 x5 x6).2.2 = (fun _ => 1#1))
    (x : Cert.Pre_tables_ok.S290.Idx) : IntOp.cmpi .sge (x1 x) 0#32 = 1#1 :=
  congrFun h.2.2 x

end Cert.Experts.Tables

namespace Cert.ExpertsIdeal.Mlp

open Cert.ExpertsIdeal Cert.ExpertsIdeal.Gen
open Idealize.ShloMosaic Idealize.ShloMosaic.TcCoe Idealize.SL.Sem

/-- The kernel keeps its arguments. -/
theorem experts_frame : Cert.quiescent_ExpertsIdeal := fun m ρ h =>
  frame_of (tablesOf m 0) (fun x => Cert.Experts.Tables.te_ok_lt _ _ _ _ _ _ _ (h 0) x) m ρ (tables_eq m)

theorem experts_frame_tables : Cert.quiescent_ExpertsIdeal_pre_tables_ok := fun m ρ h =>
  frame_of (tablesOf m 0) (fun x => Cert.Experts.Tables.tables_ok_lt _ _ _ _ _ _ _ (h 0) x) m ρ (tables_eq m)

/-- From tables in range the kernel's result is the reference's. -/
theorem experts : Cert.algebraic_ExpertsIdeal_ExpertsRefIdeal_pre_tables_ok := by
  intro m ρ m' ρ' hpre hag
  have hs : Small (F := Ideal) (tablesOf m 0) := fun x => Cert.Experts.Tables.tables_ok_lt _ _ _ _ _ _ _ (hpre 0) x
  refine ⟨fun c => want m c, ?_, ?_⟩
  · refine (θ_run Cert.ExpertsIdeal.defs _ _).mono (fun r h c => ⟨?_, ?_⟩) (run_main (tablesOf m 0) hs m ρ (tables_eq m))
    · exact final_eq (tablesOf m 0) hs m ρ c (tables_eq m) (fun x => Cert.Experts.Tables.tables_ok_nonneg _ _ _ _ _ _ _ (hpre 0) x) r h.1
    · exact ⟨(h.1 c).2 main_arg0 (show main_arg0 ∈ Pipeline.restRefs sig spec0 by decide), (h.1 c).2 main_arg1 (show main_arg1 ∈ Pipeline.restRefs sig spec0 by decide),
        Pipeline.RDat.FramePost.arr_in h.1 c (0 : Fin 6) rfl, Pipeline.RDat.FramePost.arr_in h.1 c (1 : Fin 6) rfl,
        Pipeline.RDat.FramePost.arr_in h.1 c (2 : Fin 6) rfl, Pipeline.RDat.FramePost.arr_in h.1 c (3 : Fin 6) rfl,
        Pipeline.RDat.FramePost.arr_in h.1 c (4 : Fin 6) rfl⟩
  · refine (θ_run Cert.ExpertsRefIdeal.defs _ _).mono (fun r h c => ⟨(h c).1.trans ?_, (h c).2⟩)
      (Cert.ExpertsRefIdeal.Value.run (F := Ideal) m' ρ')
    obtain ⟨e0, e1, e2, e3, e4, e5, e6⟩ := hag c
    rw [e0, e1, e2, e3, e4, e5, e6]
    exact Cert.ExpertsRefIdeal.Read.val_main_v38_eq _ _ _ _ _ _ _

end Cert.ExpertsIdeal.Mlp

end
-- ==== Proof.Experts.Machine.lean ====
/- The kernel as it runs: its text is the ideal program's, whose run keeps the arguments at any reading of the floats. -/
module

public import proofs.«01_k».proof.Proof.Experts.Tables
public import proofs.«01_k».proof.Proof.Gen.Experts

@[expose] public section
set_option maxRecDepth 16384
set_option Elab.async false
noncomputable section
namespace Cert.Experts.Machine
open Idealize.ShloMosaic Idealize.ShloMosaic.TcCoe Idealize.SL.Sem
variable {F : FTy → Type} [FloatOps F]

/-- The two texts' bodies. -/
theorem body_eq : @Cert.Experts.cc0_moe_experts F _ _ = Cert.ExpertsIdeal.cc0_moe_experts := rfl

/-- The two texts' body tables. -/
theorem table_eq : @Cert.Experts.defs₀ F _ _ = Cert.ExpertsIdeal.defs₀ := by
  unfold Cert.Experts.defs₀ Cert.ExpertsIdeal.defs₀
  refine congrArg Defs.onTc ?_
  funext l x
  match l, x with
  | ⟨0, _⟩, (t, s) => dsimp only; rw [body_eq]; rfl

/-- The two texts' whole tables. -/
theorem defs_eq : @Cert.Experts.defs F _ _ = Cert.ExpertsIdeal.defs := by
  unfold Cert.Experts.defs Cert.ExpertsIdeal.defs
  exact congrArg (Pipeline.defs Cert.ExpertsIdeal.pcfgs) table_eq

/-- The kernel keeps its arguments. -/
theorem experts_frame : Cert.quiescent_Experts := fun m ρ h => by
  rw [defs_eq]
  exact Cert.ExpertsIdeal.Mlp.frame_of (F := Bits) (Cert.ExpertsIdeal.Mlp.tablesOf (F := Bits) m 0)
    (fun x => Cert.Experts.Tables.te_ok_lt _ _ _ _ _ _ _ (h 0) x) m ρ (Cert.ExpertsIdeal.Mlp.tables_eq (F := Bits) m)

end Cert.Experts.Machine

end
-- ==== Proof.lean ====
/- The certificate: the causal attention kernel and the plain softmax attention give the same array (Proof/Flash), so do the
   experts' kernel and the plain gated feed-forward layer (Proof/Experts), and the programs run with their arguments unchanged. -/
module

public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryIdeal.Value
public import proofs.«01_k».proof.Proof.Gen.MemoryRefIdeal
public import proofs.«01_k».proof.Proof.Gen.MemoryRefIdeal.Run
public import proofs.«01_k».proof.Proof.Gen.MemoryRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Experts
public import proofs.«01_k».proof.Proof.Gen.Experts.Launch
public import proofs.«01_k».proof.Proof.Gen.Experts.Skeleton
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_te_ok
public import proofs.«01_k».proof.Proof.Gen.Pre_tables_ok
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Gen.ReferenceIdeal.Read
public import proofs.«01_k».proof.Proof.Flash.Array
public import proofs.«01_k».proof.Proof.Flash.Finite
public import proofs.«01_k».proof.Proof.Memory.Array
public import proofs.«01_k».proof.Proof.InProj.Array
public import proofs.«01_k».proof.Proof.Experts.Tables
public import proofs.«01_k».proof.Proof.Experts.Machine
public import Idealize.ShloMosaic.Adequacy
public import Idealize.ShloMosaic.Init

@[expose] public section

noncomputable section

namespace Cert.Proof

open Idealize.ShloMosaic Idealize.SL.Sem

/-- The reference runs and keeps its arguments; it has no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two constants the kernel's float words stand for. -/
theorem constants : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3DD53B95#32 _ rfl⟩

/-- From finite queries and keys the kernel's result is the reference's. -/
theorem attention : Cert.algebraic_KernelIdeal_ReferenceIdeal_pre_finite_qk := by
  intro m ρ m' ρ' hpre hag
  refine ⟨fun c => Cert.KernelIdeal.Flash.want m c, ?_, ?_⟩
  · refine (θ_run Cert.KernelIdeal.defs _ _).mono (fun r h c => ⟨(h c).1.trans ?_, (h c).2⟩)
      (Cert.KernelIdeal.Value.run_blocks (F := Ideal) m ρ)
    exact Cert.KernelIdeal.Flash.final_eq m c (Cert.Flash.finite_q _ _ _ (hpre c).1) (Cert.Flash.finite_k _ _ _ (hpre c).2)
  · refine (θ_run Cert.ReferenceIdeal.defs _ _).mono (fun r h c => ⟨(h c).1.trans ?_, (h c).2⟩)
      (Cert.ReferenceIdeal.Value.run (F := Ideal) m' ρ')
    obtain ⟨e0, e1, e2⟩ := hag c
    refine (Cert.ReferenceIdeal.Read.val_main_v31_eq m' c).trans ?_
    rw [e0, e1, e2]

/-- The experts' reference runs and keeps its arguments. -/
theorem experts_reference_frame : Cert.quiescent_ExpertsRefIdeal := fun m ρ _ =>
  (θ_run Cert.ExpertsRefIdeal.defs _ _).mono
    (fun r h => ⟨fun c => (h c).2, sem_eq_zero_of_no_sems (by decide) r.2⟩)
    (Cert.ExpertsRefIdeal.Value.run (F := Ideal) m ρ)

theorem claim : Cert.Claim :=
  ⟨Cert.Kernel.Gen.facts, Cert.KernelIdeal.Gen.facts, Cert.ReferenceIdeal.Gen.facts,
    Cert.Experts.Gen.facts, Cert.ExpertsIdeal.Gen.facts, Cert.ExpertsRefIdeal.Gen.facts,
    Cert.Memory.Gen.facts, Cert.MemoryIdeal.Gen.facts, Cert.MemoryRefIdeal.Gen.facts,
    Cert.InProj.Gen.facts, Cert.InProjIdeal.Gen.facts, Cert.InProjRefIdeal.Gen.facts,
    Cert.Pre_finite_qk.Gen.facts, Cert.Pre_te_ok.Gen.facts, Cert.Pre_tables_ok.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    Cert.Experts.Machine.experts_frame, Cert.ExpertsIdeal.Mlp.experts_frame, Cert.ExpertsIdeal.Mlp.experts_frame_tables,
    experts_reference_frame, fun m ρ _ => experts_reference_frame m ρ trivial,
    fun m ρ _ => Cert.Memory.Gen.frame m ρ, fun m ρ _ => Cert.MemoryIdeal.Gen.frame m ρ,
    Cert.MemoryIdeal.Linear.memory_reference_frame,
    fun m ρ _ => Cert.InProj.Gen.frame m ρ, fun m ρ _ => Cert.InProjIdeal.Gen.frame m ρ,
    Cert.InProjIdeal.Linear.input_reference_frame,
    constants, attention, trivial, Cert.ExpertsIdeal.Mlp.experts, trivial, Cert.MemoryIdeal.Linear.memory,
    trivial, Cert.InProjIdeal.Linear.input⟩

end Cert.Proof

end
